-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S2048x1024 : Shape := ⟨2, ![2048, 1024]⟩
abbrev S50000x1024 : Shape := ⟨2, ![50000, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S50000x1024 : S_.BroadcastsInDim S50000x1024 (![] : Fin 0 → Fin S50000x1024.rank)
  reducesTo_S50000x1024_S_d0_1 : S50000x1024.ReducesTo [0, 1] S_

variable [Facts]

def fn {F : FTy → Type} [FloatOps F] (main_arg0 : FVec F S2048x1024 .f32) (main_arg1 : FVec F S50000x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S50000x1024 .f32 := Host.absf main_arg1
  let main_cst_0 : FVec F S_ .f32 := constant S_ .f32 0x7F800000#32
  let main_v5 : FVec F S50000x1024 .f32 := broadcastInDim S50000x1024 ![] bcast_S_S50000x1024 main_cst_0
  let main_v6 : IVec S50000x1024 1 := cmpf .olt main_v4 main_v5
  let main_c_1 : IVec S_ 1 := constantI S_ 1 1#1
  let main_v7 : IVec S_ 1 := (fun x v => Host.reduce IntOp.andi x v reducesTo_S50000x1024_S_d0_1 h_S_) main_v6 main_c_1
  let main_v8 : IVec S_ 1 := andi main_v3 main_v7
  main_v8
-- ==== Pre_finite2.lean ====
abbrev S32x64x1024 : Shape := ⟨3, ![32, 64, 1024]⟩
abbrev S60x32x512 : Shape := ⟨3, ![60, 32, 512]⟩
abbrev S512x512 : Shape := ⟨2, ![512, 512]⟩
abbrev S_ : Shape := ⟨0, ![]⟩

class Facts : Prop where
  bcast_S_S32x64x1024 : S_.BroadcastsInDim S32x64x1024 (![] : Fin 0 → Fin S32x64x1024.rank)
  reducesTo_S32x64x1024_S_d0_1_2 : S32x64x1024.ReducesTo [0, 1, 2] S_
  h_S_ : 0 < S_.numel
  bcast_S_S60x32x512 : S_.BroadcastsInDim S60x32x512 (![] : Fin 0 → Fin S60x32x512.rank)
  reducesTo_S60x32x512_S_d0_1_2 : S60x32x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S32x64x1024 .f32) (main_arg1 : FVec F S60x32x512 .f32) (main_arg2 : FVec F S512x512 .f32) : IVec S_ 1 :=
  let main_v0 : FVec F S32x64x1024 .f32 := Host.absf main_arg0
  let main_cst : FVec F S_ .f32 := constant S_ .f32 0x7F800000#32
  let main_v1 : FVec F S32x64x1024 .f32 := broadcastInDim S32x64x1024 ![] bcast_S_S32x64x1024 main_cst
  let main_v2 : IVec S32x64x1024 1 := cmpf .olt main_v0 main_v1
  let main_c : IVec S_ 1 := constantI S_ 1 1#1
  let main_v3 : IVec S_ 1 := (fun x v => Host.reduce IntOp.andi x v reducesTo_S32x64x1024_S_d0_1_2 h_S_) main_v2 main_c
  let main_v4 : FVec F S60x32x512 .f32 := Host.absf main_arg1
  let main_cst_0 : FVec F S_ .f32 := constant S_ .f32 0x7F800000#32
  let main_v5 : FVec F S60x32x512 .f32 := broadcastInDim S60x32x512 ![] bcast_S_S60x32x512 main_cst_0
  let main_v6 : IVec S60x32x512 1 := cmpf .olt main_v4 main_v5
  let main_c_1 : IVec S_ 1 := constantI S_ 1 1#1
  let main_v7 : IVec S_ 1 := (fun x v => Host.reduce IntOp.andi x v reducesTo_S60x32x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Pre_finite4.lean ====
abbrev S59x32x300 : Shape := ⟨3, ![59, 32, 300]⟩
abbrev S60x32x512 : Shape := ⟨3, ![60, 32, 512]⟩
abbrev S32x512 : Shape := ⟨2, ![32, 512]⟩
abbrev S512x1024 : Shape := ⟨2, ![512, 1024]⟩
abbrev S512 : Shape := ⟨1, ![512]⟩
abbrev S512x1324 : Shape := ⟨2, ![512, 1324]⟩
abbrev S1536x512 : Shape := ⟨2, ![1536, 512]⟩
abbrev S1536 : Shape := ⟨1, ![1536]⟩
abbrev S512x512 : Shape := ⟨2, ![512, 512]⟩
abbrev S_ : Shape := ⟨0, ![]⟩

class Facts : Prop where
  bcast_S_S59x32x300 : S_.BroadcastsInDim S59x32x300 (![] : Fin 0 → Fin S59x32x300.rank)
  reducesTo_S59x32x300_S_d0_1_2 : S59x32x300.ReducesTo [0, 1, 2] S_
  h_S_ : 0 < S_.numel
  bcast_S_S60x32x512 : S_.BroadcastsInDim S60x32x512 (![] : Fin 0 → Fin S60x32x512.rank)
  reducesTo_S60x32x512_S_d0_1_2 : S60x32x512.ReducesTo [0, 1, 2] S_
  bcast_S_S32x512 : S_.BroadcastsInDim S32x512 (![] : Fin 0 → Fin S32x512.rank)
  reducesTo_S32x512_S_d0_1 : S32x512.ReducesTo [0, 1] S_
  bcast_S_S512x1324 : S_.BroadcastsInDim S512x1324 (![] : Fin 0 → Fin S512x1324.rank)
  reducesTo_S512x1324_S_d0_1 : S512x1324.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg14 : FVec F S512x512 .f32) (main_v33 : IVec S_ 1) : IVec S_ 1 :=
  let main_v34 : FVec F S512x512 .f32 := Host.absf main_arg14
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  main_v38

def fn_part1 {F : FTy → Type} [FloatOps F] (main_arg8 : FVec F S512 .f32) (main_arg9 : FVec F S1536x512 .f32) (main_arg13 : FVec F S512x512 .f32) (main_arg14 : FVec F S512x512 .f32) (main_v13 : IVec S_ 1) (main_v16 : IVec S512x1324 1) : IVec S_ 1 :=
  let main_c_5 : IVec S_ 1 := constantI S_ 1 1#1
  let main_v17 : IVec S_ 1 := (fun x v => Host.reduce IntOp.andi x v reducesTo_S512x1324_S_d0_1 h_S_) main_v16 main_c_5
  let main_v18 : IVec S_ 1 := andi main_v13 main_v17
  let main_v19 : FVec F S512 .f32 := Host.absf main_arg8
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1536x512 .f32 := Host.absf main_arg9
  let main_cst_8 : FVec F S_ .f32 := constant S_ .f32 0x7F800000#32
  let main_v25 : FVec F S1536x512 .f32 := broadcastInDim S1536x512 ![] bcast_S_S1536x512 main_cst_8
  let main_v26 : IVec S1536x512 1 := cmpf .olt main_v24 main_v25
  let main_c_9 : IVec S_ 1 := constantI S_ 1 1#1
  let main_v27 : IVec S_ 1 := (fun x v => Host.reduce IntOp.andi x v reducesTo_S1536x512_S_d0_1 h_S_) main_v26 main_c_9
  let main_v28 : IVec S_ 1 := andi main_v23 main_v27
  let main_v29 : FVec F S512x512 .f32 := Host.absf main_arg13
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg14 main_v33

def fn {F : FTy → Type} [FloatOps F] (main_arg0 : FVec F S59x32x300 .f32) (main_arg1 : FVec F S60x32x512 .f32) (main_arg2 : FVec F S32x512 .f32) (main_arg3 : FVec F S32x512 .f32) (main_arg4 : FVec F S32x512 .f32) (main_arg5 : FVec F S512x1024 .f32) (main_arg6 : FVec F S512 .f32) (main_arg7 : FVec F S512x1324 .f32) (main_arg8 : FVec F S512 .f32) (main_arg9 : FVec F S1536x512 .f32) (main_arg10 : FVec F S1536x512 .f32) (main_arg11 : FVec F S1536 .f32) (main_arg12 : FVec F S1536 .f32) (main_arg13 : FVec F S512x512 .f32) (main_arg14 : FVec F S512x512 .f32) (main_arg15 : FVec F S512 .f32) : IVec S_ 1 :=
  let main_v0 : FVec F S59x32x300 .f32 := Host.absf main_arg0
  let main_cst : FVec F S_ .f32 := constant S_ .f32 0x7F800000#32
  let main_v1 : FVec F S59x32x300 .f32 := broadcastInDim S59x32x300 ![] bcast_S_S59x32x300 main_cst
  let main_v2 : IVec S59x32x300 1 := cmpf .olt main_v0 main_v1
  let main_c : IVec S_ 1 := constantI S_ 1 1#1
  let main_v3 : IVec S_ 1 := (fun x v => Host.reduce IntOp.andi x v reducesTo_S59x32x300_S_d0_1_2 h_S_) main_v2 main_c
  let main_v4 : FVec F S60x32x512 .f32 := Host.absf main_arg1
  let main_cst_0 : FVec F S_ .f32 := constant S_ .f32 0x7F800000#32
  let main_v5 : FVec F S60x32x512 .f32 := broadcastInDim S60x32x512 ![] bcast_S_S60x32x512 main_cst_0
  let main_v6 : IVec S60x32x512 1 := cmpf .olt main_v4 main_v5
  let main_c_1 : IVec S_ 1 := constantI S_ 1 1#1
  let main_v7 : IVec S_ 1 := (fun x v => Host.reduce IntOp.andi x v reducesTo_S60x32x512_S_d0_1_2 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S512x1324 .f32 := Host.absf main_arg7
  let main_cst_4 : FVec F S_ .f32 := constant S_ .f32 0x7F800000#32
  let main_v15 : FVec F S512x1324 .f32 := broadcastInDim S512x1324 ![] bcast_S_S512x1324 main_cst_4
  let main_v16 : IVec S512x1324 1 := cmpf .olt main_v14 main_v15
  fn_part1 (F := F) main_arg8 main_arg9 main_arg13 main_arg14 main_v13 main_v16
-- ==== Kernel.lean ====
abbrev S2048x1024 : Shape := ⟨2, ![2048, 1024]⟩
abbrev S50000x1024 : Shape := ⟨2, ![50000, 1024]⟩
abbrev S2048x1 : Shape := ⟨2, ![2048, 1]⟩
abbrev S1024x1024 : Shape := ⟨2, ![1024, 1024]⟩
abbrev S2048 : Shape := ⟨1, ![2048]⟩
abbrev S32x59x50000 : Shape := ⟨3, ![32, 59, 50000]⟩
abbrev S32x59x1024 : Shape := ⟨3, ![32, 59, 1024]⟩
abbrev S32x64x1024 : Shape := ⟨3, ![32, 64, 1024]⟩

abbrev nBuf : Space → Nat
  | .hbm => 4
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S50000x1024, .f32⟩
  | .hbm, ⟨2, _⟩ => ⟨S2048x1, .f32⟩
  | .hbm, ⟨3, _⟩ => ⟨S32x59x50000, .f32⟩
  | .local _ .vmem, ⟨0, _⟩ => ⟨S2048x1024, .f32⟩
  | .local _ .vmem, ⟨1, _⟩ => ⟨S1024x1024, .f32⟩
  | .local _ .vmem, ⟨2, _⟩ => ⟨S1024x1024, .f32⟩
  | .local _ .vmem, ⟨3, _⟩ => ⟨S2048x1, .f32⟩
  | .local _ .vmem, ⟨4, _⟩ => ⟨S2048x1024, .f32⟩
  | .local _ .vmem, ⟨5, _⟩ => ⟨S1024x1024, .f32⟩
  | .local _ .vmem, ⟨6, _⟩ => ⟨S1024x1024, .f32⟩
  | .local _ .vmem, ⟨7, _⟩ => ⟨S2048x1, .f32⟩
  | .local _ .vmem, ⟨8, _⟩ => ⟨S32x59x1024, .f32⟩
  | .local _ .vmem, ⟨9, _⟩ => ⟨S32x59x1024, .f32⟩
  | .local _ .vmem, ⟨10, _⟩ => ⟨S2048x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x59x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S2048x1024 : Shape := ⟨2, ![2048, 1024]⟩
abbrev S50000x1024 : Shape := ⟨2, ![50000, 1024]⟩
abbrev S32x64x1024 : Shape := ⟨3, ![32, 64, 1024]⟩
abbrev S32x59x1024 : Shape := ⟨3, ![32, 59, 1024]⟩
abbrev S1024x50000 : Shape := ⟨2, ![1024, 50000]⟩
abbrev S32x59x50000 : Shape := ⟨3, ![32, 59, 50000]⟩
abbrev S_ : Shape := ⟨0, ![]⟩
abbrev S32x59 : Shape := ⟨2, ![32, 59]⟩
abbrev S32x59x1 : Shape := ⟨3, ![32, 59, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S50000x1024, .f32⟩
  | .hbm, ⟨2, _⟩ => ⟨S32x64x1024, .f32⟩
  | .hbm, ⟨3, _⟩ => ⟨S32x59x1024, .f32⟩
  | .hbm, ⟨4, _⟩ => ⟨S1024x50000, .f32⟩
  | .hbm, ⟨5, _⟩ => ⟨S32x59x50000, .f32⟩
  | .hbm, ⟨6, _⟩ => ⟨S_, .f32⟩
  | .hbm, ⟨7, _⟩ => ⟨S32x59, .f32⟩
  | .hbm, ⟨8, _⟩ => ⟨S_, .f32⟩
  | .hbm, ⟨9, _⟩ => ⟨S32x59, .f32⟩
  | .hbm, ⟨10, _⟩ => ⟨S32x59, .f32⟩
  | .hbm, ⟨11, _⟩ => ⟨S32x59x1, .f32⟩
  | .hbm, ⟨12, _⟩ => ⟨S32x59x50000, .f32⟩
  | .hbm, ⟨13, _⟩ => ⟨S32x59x50000, .f32⟩
  | .hbm, ⟨14, _⟩ => ⟨S32x59x50000, .f32⟩
  | .hbm, ⟨15, _⟩ => ⟨S_, .f32⟩
  | .hbm, ⟨16, _⟩ => ⟨S32x59, .f32⟩
  | .hbm, ⟨17, _⟩ => ⟨S32x59x1, .f32⟩
  | .hbm, ⟨18, _⟩ => ⟨S32x59x50000, .f32⟩
  | .hbm, ⟨19, _⟩ => ⟨S32x59x50000, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel2.lean ====
abbrev S32x64x1024 : Shape := ⟨3, ![32, 64, 1024]⟩
abbrev S60x32x512 : Shape := ⟨3, ![60, 32, 512]⟩
abbrev S512x512 : Shape := ⟨2, ![512, 512]⟩
abbrev S60x32x1x512 : Shape := ⟨4, ![60, 32, 1, 512]⟩
abbrev S32x59x60 : Shape := ⟨3, ![32, 59, 60]⟩
abbrev S16x64x1024 : Shape := ⟨3, ![16, 64, 1024]⟩
abbrev S60x16x1x512 : Shape := ⟨4, ![60, 16, 1, 512]⟩
abbrev S16x59x60 : Shape := ⟨3, ![16, 59, 60]⟩
abbrev S1x64x1024 : Shape := ⟨3, ![1, 64, 1024]⟩
abbrev S64x1024 : Shape := ⟨2, ![64, 1024]⟩
abbrev S59x512 : Shape := ⟨2, ![59, 512]⟩
abbrev S60x1x1x512 : Shape := ⟨4, ![60, 1, 1, 512]⟩
abbrev S60x512 : Shape := ⟨2, ![60, 512]⟩
abbrev S59x60 : Shape := ⟨2, ![59, 60]⟩
abbrev S59 : Shape := ⟨1, ![59]⟩
abbrev S59x1 : Shape := ⟨2, ![59, 1]⟩
abbrev S1x59x60 : Shape := ⟨3, ![1, 59, 60]⟩

abbrev nBuf : Space → Nat
  | .hbm => 5
  | .vmem => 7
  | .smem => 0
  | _ => 0

abbrev bufTy : (tb : Table) → Fin (tcTables nBuf tb) → BufTy
  | .hbm, ⟨0, _⟩ => ⟨S32x64x1024, .f32⟩
  | .hbm, ⟨1, _⟩ => ⟨S60x32x512, .f32⟩
  | .hbm, ⟨2, _⟩ => ⟨S512x512, .f32⟩
  | .hbm, ⟨3, _⟩ => ⟨S60x32x1x512, .f32⟩
  | .hbm, ⟨4, _⟩ => ⟨S32x59x60, .f32⟩
  | .local _ .vmem, ⟨0, _⟩ => ⟨S16x64x1024, .f32⟩
  | .local _ .vmem, ⟨1, _⟩ => ⟨S16x64x1024, .f32⟩
  | .local _ .vmem, ⟨2, _⟩ => ⟨S60x16x1x512, .f32⟩
  | .local _ .vmem, ⟨3, _⟩ => ⟨S60x16x1x512, .f32⟩
  | .local _ .vmem, ⟨4, _⟩ => ⟨S512x512, .f32⟩
  | .local _ .vmem, ⟨5, _⟩ => ⟨S16x59x60, .f32⟩
  | .local _ .vmem, ⟨6, _⟩ => ⟨S16x59x60, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S60x16x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x59x60 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32x64x1024 : Shape := ⟨3, ![32, 64, 1024]⟩
abbrev S60x32x512 : Shape := ⟨3, ![60, 32, 512]⟩
abbrev S512x512 : Shape := ⟨2, ![512, 512]⟩
abbrev S32x59x512 : Shape := ⟨3, ![32, 59, 512]⟩
abbrev S32x60x512 : Shape := ⟨3, ![32, 60, 512]⟩
abbrev S32x59x60 : Shape := ⟨3, ![32, 59, 60]⟩
abbrev S_ : Shape := ⟨0, ![]⟩
abbrev S32x59 : Shape := ⟨2, ![32, 59]⟩
abbrev S32x59x1 : Shape := ⟨3, ![32, 59, 1]⟩

abbrev nBuf : Space → Nat
  | .hbm => 21
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S60x32x512, .f32⟩
  | .hbm, ⟨2, _⟩ => ⟨S512x512, .f32⟩
  | .hbm, ⟨3, _⟩ => ⟨S32x59x512, .f32⟩
  | .hbm, ⟨4, _⟩ => ⟨S32x60x512, .f32⟩
  | .hbm, ⟨5, _⟩ => ⟨S32x59x512, .f32⟩
  | .hbm, ⟨6, _⟩ => ⟨S32x59x60, .f32⟩
  | .hbm, ⟨7, _⟩ => ⟨S_, .f32⟩
  | .hbm, ⟨8, _⟩ => ⟨S32x59, .f32⟩
  | .hbm, ⟨9, _⟩ => ⟨S_, .f32⟩
  | .hbm, ⟨10, _⟩ => ⟨S32x59, .f32⟩
  | .hbm, ⟨11, _⟩ => ⟨S32x59, .f32⟩
  | .hbm, ⟨12, _⟩ => ⟨S32x59x1, .f32⟩
  | .hbm, ⟨13, _⟩ => ⟨S32x59x60, .f32⟩
  | .hbm, ⟨14, _⟩ => ⟨S32x59x60, .f32⟩
  | .hbm, ⟨15, _⟩ => ⟨S32x59x60, .f32⟩
  | .hbm, ⟨16, _⟩ => ⟨S_, .f32⟩
  | .hbm, ⟨17, _⟩ => ⟨S32x59, .f32⟩
  | .hbm, ⟨18, _⟩ => ⟨S32x59x1, .f32⟩
  | .hbm, ⟨19, _⟩ => ⟨S32x59x60, .f32⟩
  | .hbm, ⟨20, _⟩ => ⟨S32x59x60, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S60x32x300 : Shape := ⟨3, ![60, 32, 300]⟩
abbrev S1536x300 : Shape := ⟨2, ![1536, 300]⟩
abbrev S1536x512 : Shape := ⟨2, ![1536, 512]⟩
abbrev S1536 : Shape := ⟨1, ![1536]⟩
abbrev S1x60x32x300 : Shape := ⟨4, ![1, 60, 32, 300]⟩
abbrev S2x60x32x300 : Shape := ⟨4, ![2, 60, 32, 300]⟩
abbrev S300x1536 : Shape := ⟨2, ![300, 1536]⟩
abbrev S1x300x1536 : Shape := ⟨3, ![1, 300, 1536]⟩
abbrev S2x300x1536 : Shape := ⟨3, ![2, 300, 1536]⟩
abbrev S512x1536 : Shape := ⟨2, ![512, 1536]⟩
abbrev S1x512x1536 : Shape := ⟨3, ![1, 512, 1536]⟩
abbrev S2x512x1536 : Shape := ⟨3, ![2, 512, 1536]⟩
abbrev S1x1536 : Shape := ⟨2, ![1, 1536]⟩
abbrev S2x1536 : Shape := ⟨2, ![2, 1536]⟩
abbrev S2x1x1536 : Shape := ⟨3, ![2, 1, 1536]⟩
abbrev S2x60x32x512 : Shape := ⟨4, ![2, 60, 32, 512]⟩
abbrev S2x32x512 : Shape := ⟨3, ![2, 32, 512]⟩
abbrev S1x1x1536 : Shape := ⟨3, ![1, 1, 1536]⟩
abbrev S1x60x32x512 : Shape := ⟨4, ![1, 60, 32, 512]⟩
abbrev S1x32x512 : Shape := ⟨3, ![1, 32, 512]⟩
abbrev S60x32x1536 : Shape := ⟨3, ![60, 32, 1536]⟩
abbrev S1920x300 : Shape := ⟨2, ![1920, 300]⟩
abbrev S1920x1536 : Shape := ⟨2, ![1920, 1536]⟩
abbrev S32x512 : Shape := ⟨2, ![32, 512]⟩
abbrev S32x1536 : Shape := ⟨2, ![32, 1536]⟩
abbrev S1x32x1536 : Shape := ⟨3, ![1, 32, 1536]⟩
abbrev S1x1x32x512 : Shape := ⟨4, ![1, 1, 32, 512]⟩

abbrev nBuf : Space → Nat
  | .hbm => 33
  | .vmem => 15
  | .smem => 0
  | _ => 0

abbrev bufTy : (tb : Table) → Fin (tcTables nBuf tb) → BufTy
  | .hbm, ⟨0, _⟩ => ⟨S60x32x300, .f32⟩
  | .hbm, ⟨1, _⟩ => ⟨S60x32x300, .f32⟩
  | .hbm, ⟨2, _⟩ => ⟨S1536x300, .f32⟩
  | .hbm, ⟨3, _⟩ => ⟨S1536x512, .f32⟩
  | .hbm, ⟨4, _⟩ => ⟨S1536, .f32⟩
  | .hbm, ⟨5, _⟩ => ⟨S1536, .f32⟩
  | .hbm, ⟨6, _⟩ => ⟨S1536x300, .f32⟩
  | .hbm, ⟨7, _⟩ => ⟨S1536x512, .f32⟩
  | .hbm, ⟨8, _⟩ => ⟨S1536, .f32⟩
  | .hbm, ⟨9, _⟩ => ⟨S1536, .f32⟩
  | .hbm, ⟨10, _⟩ => ⟨S1x60x32x300, .f32⟩
  | .hbm, ⟨11, _⟩ => ⟨S1x60x32x300, .f32⟩
  | .hbm, ⟨12, _⟩ => ⟨S2x60x32x300, .f32⟩
  | .hbm, ⟨13, _⟩ => ⟨S300x1536, .f32⟩
  | .hbm, ⟨14, _⟩ => ⟨S300x1536, .f32⟩
  | .hbm, ⟨15, _⟩ => ⟨S1x300x1536, .f32⟩
  | .hbm, ⟨16, _⟩ => ⟨S1x300x1536, .f32⟩
  | .hbm, ⟨17, _⟩ => ⟨S2x300x1536, .f32⟩
  | .hbm, ⟨18, _⟩ => ⟨S512x1536, .f32⟩
  | .hbm, ⟨19, _⟩ => ⟨S512x1536, .f32⟩
  | .hbm, ⟨20, _⟩ => ⟨S1x512x1536, .f32⟩
  | .hbm, ⟨21, _⟩ => ⟨S1x512x1536, .f32⟩
  | .hbm, ⟨22, _⟩ => ⟨S2x512x1536, .f32⟩
  | .hbm, ⟨23, _⟩ => ⟨S1x1536, .f32⟩
  | .hbm, ⟨24, _⟩ => ⟨S1x1536, .f32⟩
  | .hbm, ⟨25, _⟩ => ⟨S2x1536, .f32⟩
  | .hbm, ⟨26, _⟩ => ⟨S2x1x1536, .f32⟩
  | .hbm, ⟨27, _⟩ => ⟨S1x1536, .f32⟩
  | .hbm, ⟨28, _⟩ => ⟨S1x1536, .f32⟩
  | .hbm, ⟨29, _⟩ => ⟨S2x1536, .f32⟩
  | .hbm, ⟨30, _⟩ => ⟨S2x1x1536, .f32⟩
  | .hbm, ⟨31, _⟩ => ⟨S2x60x32x512, .f32⟩
  | .hbm, ⟨32, _⟩ => ⟨S2x32x512, .f32⟩
  | .local _ .vmem, ⟨0, _⟩ => ⟨S1x60x32x300, .f32⟩
  | .local _ .vmem, ⟨1, _⟩ => ⟨S1x60x32x300, .f32⟩
  | .local _ .vmem, ⟨2, _⟩ => ⟨S1x300x1536, .f32⟩
  | .local _ .vmem, ⟨3, _⟩ => ⟨S1x300x1536, .f32⟩
  | .local _ .vmem, ⟨4, _⟩ => ⟨S1x512x1536, .f32⟩
  | .local _ .vmem, ⟨5, _⟩ => ⟨S1x512x1536, .f32⟩
  | .local _ .vmem, ⟨6, _⟩ => ⟨S1x1x1536, .f32⟩
  | .local _ .vmem, ⟨7, _⟩ => ⟨S1x1x1536, .f32⟩
  | .local _ .vmem, ⟨8, _⟩ => ⟨S1x1x1536, .f32⟩
  | .local _ .vmem, ⟨9, _⟩ => ⟨S1x1x1536, .f32⟩
  | .local _ .vmem, ⟨10, _⟩ => ⟨S1x60x32x512, .f32⟩
  | .local _ .vmem, ⟨11, _⟩ => ⟨S1x60x32x512, .f32⟩
  | .local _ .vmem, ⟨12, _⟩ => ⟨S1x32x512, .f32⟩
  | .local _ .vmem, ⟨13, _⟩ => ⟨S1x32x512, .f32⟩
  | .local _ .vmem, ⟨14, _⟩ => ⟨S60x32x1536, .f32⟩
  | _, _ => ⟨S60x32x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c60_i32 : BitVec 32 := 60#32
  let v19 : BitVec 32 := Scalar.addi c0_i32 c60_i32
  let c1_i32 : BitVec 32 := 1#32
  ⟨c0_i32, v19, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v27 : Index := Scalar.indexCast arg9
  let c0_24 : Index := 0#32
  let c0_25 : Index := 0#32
  ![v27.toNat, 0, 0]
def k0_off2 (k0_t1 : Fin k0_t1_loop.trips) : Fin 4 → Nat :=
  let c0_27 : Index := 0#32
  let c0_i32 : BitVec 32 := 0#32
  let c1_i32 : BitVec 32 := 1#32
  let arg9 : BitVec 32 := Scf.iv c0_i32 c1_i32 k0_t1
  let v48 : Index := Scalar.indexCast arg9
  let c0_28 : Index := 0#32
  let c0_29 : Index := 0#32
  ![0, v48.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x60x32x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x300x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x60x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S60x32x300 : Shape := ⟨3, ![60, 32, 300]⟩
abbrev S1536x300 : Shape := ⟨2, ![1536, 300]⟩
abbrev S1536x512 : Shape := ⟨2, ![1536, 512]⟩
abbrev S1536 : Shape := ⟨1, ![1536]⟩
abbrev S_ : Shape := ⟨0, ![]⟩
abbrev S32x512 : Shape := ⟨2, ![32, 512]⟩
abbrev S60x32x512 : Shape := ⟨3, ![60, 32, 512]⟩
abbrev S1x32x300 : Shape := ⟨3, ![1, 32, 300]⟩
abbrev S32x300 : Shape := ⟨2, ![32, 300]⟩
abbrev S300x1536 : Shape := ⟨2, ![300, 1536]⟩
abbrev S32x1536 : Shape := ⟨2, ![32, 1536]⟩
abbrev S1x1536 : Shape := ⟨2, ![1, 1536]⟩
abbrev S512x1536 : Shape := ⟨2, ![512, 1536]⟩
abbrev S1x32x512 : Shape := ⟨3, ![1, 32, 512]⟩
abbrev S1x60x32x512 : Shape := ⟨4, ![1, 60, 32, 512]⟩
abbrev S2x60x32x512 : Shape := ⟨4, ![2, 60, 32, 512]⟩
abbrev S2x32x512 : Shape := ⟨3, ![2, 32, 512]⟩

abbrev nBuf : Space → Nat
  | .hbm => 144
  | .vmem => 0
  | .smem => 0
  | _ => 0

abbrev hbmTy0_0 (i : Nat) : BufTy := match i % 128 with
  | 0 => ⟨S60x32x300, .f32⟩
  | 1 => ⟨S60x32x300, .f32⟩
  | 2 => ⟨S1536x300, .f32⟩
  | 3 => ⟨S1536x512, .f32⟩
  | 4 => ⟨S1536, .f32⟩
  | 5 => ⟨S1536, .f32⟩
  | 6 => ⟨S1536x300, .f32⟩
  | 7 => ⟨S1536x512, .f32⟩
  | 8 => ⟨S1536, .f32⟩
  | 9 => ⟨S1536, .f32⟩
  | 10 => ⟨S_, .f32⟩
  | 11 => ⟨S32x512, .f32⟩
  | 12 => ⟨S_, .f32⟩
  | 13 => ⟨S60x32x512, .f32⟩
  | 14 => ⟨S_, .f32⟩
  | 15 => ⟨S60x32x512, .f32⟩
  | 16 => ⟨S_, .i32⟩
  | 17 => ⟨S60x32x300, .f32⟩
  | 18 => ⟨S60x32x300, .f32⟩
  | 19 => ⟨S1536x300, .f32⟩
  | 20 => ⟨S1536, .f32⟩
  | 21 => ⟨S1536x512, .f32⟩
  | 22 => ⟨S1536, .f32⟩
  | 23 => ⟨S1536x300, .f32⟩
  | 24 => ⟨S1536, .f32⟩
  | 25 => ⟨S1536x512, .f32⟩
  | 26 => ⟨S1536, .f32⟩
  | 27 => ⟨S_, .i32⟩
  | 28 => ⟨S32x512, .f32⟩
  | 29 => ⟨S32x512, .f32⟩
  | 30 => ⟨S60x32x512, .f32⟩
  | 31 => ⟨S60x32x512, .f32⟩
  | 32 => ⟨S_, .i32⟩
  | 33 => ⟨S_, .i1⟩
  | 34 => ⟨S_, .i32⟩
  | 35 => ⟨S_, .i32⟩
  | 36 => ⟨S1x32x300, .f32⟩
  | 37 => ⟨S32x300, .f32⟩
  | 38 => ⟨S_, .i32⟩
  | 39 => ⟨S_, .i32⟩
  | 40 => ⟨S1x32x300, .f32⟩
  | 41 => ⟨S32x300, .f32⟩
  | 42 => ⟨S300x1536, .f32⟩
  | 43 => ⟨S32x1536, .f32⟩
  | 44 => ⟨S1x1536, .f32⟩
  | 45 => ⟨S32x1536, .f32⟩
  | 46 => ⟨S32x1536, .f32⟩
  | 47 => ⟨S512x1536, .f32⟩
  | 48 => ⟨S32x1536, .f32⟩
  | 49 => ⟨S1x1536, .f32⟩
  | 50 => ⟨S32x1536, .f32⟩
  | 51 => ⟨S32x1536, .f32⟩
  | 52 => ⟨S32x512, .f32⟩
  | 53 => ⟨S32x512, .f32⟩
  | 54 => ⟨S32x512, .f32⟩
  | 55 => ⟨S32x512, .f32⟩
  | 56 => ⟨S32x512, .f32⟩
  | 57 => ⟨S32x512, .f32⟩
  | 58 => ⟨S32x512, .f32⟩
  | 59 => ⟨S32x512, .f32⟩
  | 60 => ⟨S32x512, .f32⟩
  | 61 => ⟨S_, .f32⟩
  | 62 => ⟨S32x512, .f32⟩
  | 63 => ⟨S32x512, .f32⟩
  | 64 => ⟨S_, .f32⟩
  | 65 => ⟨S32x512, .f32⟩
  | 66 => ⟨S32x512, .f32⟩
  | 67 => ⟨S32x512, .f32⟩
  | 68 => ⟨S32x512, .f32⟩
  | 69 => ⟨S32x512, .f32⟩
  | 70 => ⟨S_, .f32⟩
  | 71 => ⟨S32x512, .f32⟩
  | 72 => ⟨S32x512, .f32⟩
  | 73 => ⟨S_, .f32⟩
  | 74 => ⟨S32x512, .f32⟩
  | 75 => ⟨S32x512, .f32⟩
  | 76 => ⟨S32x512, .f32⟩
  | 77 => ⟨S32x512, .f32⟩
  | 78 => ⟨S32x512, .f32⟩
  | 79 => ⟨S_, .f32⟩
  | 80 => ⟨S32x512, .f32⟩
  | 81 => ⟨S32x512, .f32⟩
  | 82 => ⟨S32x512, .f32⟩
  | 83 => ⟨S32x512, .f32⟩
  | 84 => ⟨S32x512, .f32⟩
  | 85 => ⟨S300x1536, .f32⟩
  | 86 => ⟨S32x1536, .f32⟩
  | 87 => ⟨S1x1536, .f32⟩
  | 88 => ⟨S32x1536, .f32⟩
  | 89 => ⟨S32x1536, .f32⟩
  | 90 => ⟨S512x1536, .f32⟩
  | 91 => ⟨S32x1536, .f32⟩
  | 92 => ⟨S1x1536, .f32⟩
  | 93 => ⟨S32x1536, .f32⟩
  | 94 => ⟨S32x1536, .f32⟩
  | 95 => ⟨S32x512, .f32⟩
  | 96 => ⟨S32x512, .f32⟩
  | 97 => ⟨S32x512, .f32⟩
  | 98 => ⟨S32x512, .f32⟩
  | 99 => ⟨S32x512, .f32⟩
  | 100 => ⟨S32x512, .f32⟩
  | 101 => ⟨S32x512, .f32⟩
  | 102 => ⟨S32x512, .f32⟩
  | 103 => ⟨S32x512, .f32⟩
  | 104 => ⟨S_, .f32⟩
  | 105 => ⟨S32x512, .f32⟩
  | 106 => ⟨S32x512, .f32⟩
  | 107 => ⟨S_, .f32⟩
  | 108 => ⟨S32x512, .f32⟩
  | 109 => ⟨S32x512, .f32⟩
  | 110 => ⟨S32x512, .f32⟩
  | 111 => ⟨S32x512, .f32⟩
  | 112 => ⟨S32x512, .f32⟩
  | 113 => ⟨S_, .f32⟩
  | 114 => ⟨S32x512, .f32⟩
  | 115 => ⟨S32x512, .f32⟩
  | 116 => ⟨S_, .f32⟩
  | 117 => ⟨S32x512, .f32⟩
  | 118 => ⟨S32x512, .f32⟩
  | 119 => ⟨S32x512, .f32⟩
  | 120 => ⟨S32x512, .f32⟩
  | 121 => ⟨S32x512, .f32⟩
  | 122 => ⟨S_, .f32⟩
  | 123 => ⟨S32x512, .f32⟩
  | 124 => ⟨S32x512, .f32⟩
  | 125 => ⟨S32x512, .f32⟩
  | 126 => ⟨S32x512, .f32⟩
  | 127 => ⟨S32x512, .f32⟩
  | _ => ⟨S60x32x300, .f32⟩

abbrev hbmTy0_1 (i : Nat) : BufTy := match i % 128 with
  | 0 => ⟨S1x32x512, .f32⟩
  | 1 => ⟨S_, .i32⟩
  | 2 => ⟨S_, .i32⟩
  | 3 => ⟨S60x32x512, .f32⟩
  | 4 => ⟨S1x32x512, .f32⟩
  | 5 => ⟨S_, .i32⟩
  | 6 => ⟨S_, .i32⟩
  | 7 => ⟨S60x32x512, .f32⟩
  | 8 => ⟨S_, .i32⟩
  | 9 => ⟨S_, .i32⟩
  | 10 => ⟨S1x60x32x512, .f32⟩
  | 11 => ⟨S1x60x32x512, .f32⟩
  | 12 => ⟨S2x60x32x512, .f32⟩
  | 13 => ⟨S1x32x512, .f32⟩
  | 14 => ⟨S1x32x512, .f32⟩
  | 15 => ⟨S2x32x512, .f32⟩
  | _ => ⟨S60x32x300, .f32⟩

abbrev hbmTy (i : Nat) : BufTy := match i / 128 with
  | 0 => hbmTy0_0 i
  | 1 => hbmTy0_1 i
  | _ => ⟨S60x32x300, .f32⟩

abbrev bufTy : (tb : Table) → Fin (tcTables nBuf tb) → BufTy
  | .hbm, ⟨i, _⟩ => hbmTy i
  | _, _ => ⟨S60x32x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_c : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev main_v3_7 : Ref sig .tc := ⟨.hbm, 24, rfl⟩
abbrev main_v3_8 : Ref sig .tc := ⟨.hbm, 25, rfl⟩
abbrev main_v3_9 : Ref sig .tc := ⟨.hbm, 26, rfl⟩
abbrev main_v3_10 : Ref sig .tc := ⟨.hbm, 27, rfl⟩
abbrev main_v3_11 : Ref sig .tc := ⟨.hbm, 28, rfl⟩
abbrev main_v3_12 : Ref sig .tc := ⟨.hbm, 29, rfl⟩
abbrev main_v3_13 : Ref sig .tc := ⟨.hbm, 30, rfl⟩
abbrev main_v3_14 : Ref sig .tc := ⟨.hbm, 31, rfl⟩
abbrev main_while0c_c_16 : Ref sig .tc := ⟨.hbm, 32, rfl⟩
abbrev main_while0c_v10 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_v0 : Ref sig .tc := ⟨.hbm, 36, rfl⟩
abbrev main_while0b_v10 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_v0 : Ref sig .tc := ⟨.hbm, 40, rfl⟩
abbrev main_while0b_v11 : Ref sig .tc := ⟨.hbm, 41, rfl⟩
abbrev main_while0b_v12 : Ref sig .tc := ⟨.hbm, 42, rfl⟩
abbrev main_while0b_v13 : Ref sig .tc := ⟨.hbm, 43, rfl⟩
abbrev main_while0b_v14 : Ref sig .tc := ⟨.hbm, 44, rfl⟩
abbrev main_while0b_v15 : Ref sig .tc := ⟨.hbm, 45, rfl⟩
abbrev main_while0b_v16 : Ref sig .tc := ⟨.hbm, 46, rfl⟩
abbrev main_while0b_v17 : Ref sig .tc := ⟨.hbm, 47, rfl⟩
abbrev main_while0b_v18 : Ref sig .tc := ⟨.hbm, 48, rfl⟩
abbrev main_while0b_v19 : Ref sig .tc := ⟨.hbm, 49, rfl⟩
abbrev main_while0b_v20 : Ref sig .tc := ⟨.hbm, 50, rfl⟩
abbrev main_while0b_v21 : Ref sig .tc := ⟨.hbm, 51, rfl⟩
abbrev main_while0b_v22 : Ref sig .tc := ⟨.hbm, 52, rfl⟩
abbrev main_while0b_v23 : Ref sig .tc := ⟨.hbm, 53, rfl⟩
abbrev main_while0b_v24 : Ref sig .tc := ⟨.hbm, 54, rfl⟩
abbrev main_while0b_v25 : Ref sig .tc := ⟨.hbm, 55, rfl⟩
abbrev main_while0b_v26 : Ref sig .tc := ⟨.hbm, 56, rfl⟩
abbrev main_while0b_v27 : Ref sig .tc := ⟨.hbm, 57, rfl⟩
abbrev main_while0b_v28 : Ref sig .tc := ⟨.hbm, 58, rfl⟩
abbrev main_while0b_v29 : Ref sig .tc := ⟨.hbm, 59, rfl⟩
abbrev main_while0b_v30 : Ref sig .tc := ⟨.hbm, 60, rfl⟩
abbrev main_while0b_cst_16 : Ref sig .tc := ⟨.hbm, 61, rfl⟩
abbrev main_while0b_v31 : Ref sig .tc := ⟨.hbm, 62, rfl⟩
abbrev main_while0b_v32 : Ref sig .tc := ⟨.hbm, 63, rfl⟩
abbrev main_while0b_cst_17 : Ref sig .tc := ⟨.hbm, 64, rfl⟩
abbrev main_while0b_v33 : Ref sig .tc := ⟨.hbm, 65, rfl⟩
abbrev main_while0b_v34 : Ref sig .tc := ⟨.hbm, 66, rfl⟩
abbrev main_while0b_v35 : Ref sig .tc := ⟨.hbm, 67, rfl⟩
abbrev main_while0b_v36 : Ref sig .tc := ⟨.hbm, 68, rfl⟩
abbrev main_while0b_v37 : Ref sig .tc := ⟨.hbm, 69, rfl⟩
abbrev main_while0b_cst_18 : Ref sig .tc := ⟨.hbm, 70, rfl⟩
abbrev main_while0b_v38 : Ref sig .tc := ⟨.hbm, 71, rfl⟩
abbrev main_while0b_v39 : Ref sig .tc := ⟨.hbm, 72, rfl⟩
abbrev main_while0b_cst_19 : Ref sig .tc := ⟨.hbm, 73, rfl⟩
abbrev main_while0b_v40 : Ref sig .tc := ⟨.hbm, 74, rfl⟩
abbrev main_while0b_v41 : Ref sig .tc := ⟨.hbm, 75, rfl⟩
abbrev main_while0b_v42 : Ref sig .tc := ⟨.hbm, 76, rfl⟩
abbrev main_while0b_v43 : Ref sig .tc := ⟨.hbm, 77, rfl⟩
abbrev main_while0b_v44 : Ref sig .tc := ⟨.hbm, 78, rfl⟩
abbrev main_while0b_cst_20 : Ref sig .tc := ⟨.hbm, 79, rfl⟩
abbrev main_while0b_v45 : Ref sig .tc := ⟨.hbm, 80, rfl⟩
abbrev main_while0b_v46 : Ref sig .tc := ⟨.hbm, 81, rfl⟩
abbrev main_while0b_v47 : Ref sig .tc := ⟨.hbm, 82, rfl⟩
abbrev main_while0b_v48 : Ref sig .tc := ⟨.hbm, 83, rfl⟩
abbrev main_while0b_v49 : Ref sig .tc := ⟨.hbm, 84, rfl⟩
abbrev main_while0b_v50 : Ref sig .tc := ⟨.hbm, 85, rfl⟩
abbrev main_while0b_v51 : Ref sig .tc := ⟨.hbm, 86, rfl⟩
abbrev main_while0b_v52 : Ref sig .tc := ⟨.hbm, 87, rfl⟩
abbrev main_while0b_v53 : Ref sig .tc := ⟨.hbm, 88, rfl⟩
abbrev main_while0b_v54 : Ref sig .tc := ⟨.hbm, 89, rfl⟩
abbrev main_while0b_v55 : Ref sig .tc := ⟨.hbm, 90, rfl⟩
abbrev main_while0b_v56 : Ref sig .tc := ⟨.hbm, 91, rfl⟩
abbrev main_while0b_v57 : Ref sig .tc := ⟨.hbm, 92, rfl⟩
abbrev main_while0b_v58 : Ref sig .tc := ⟨.hbm, 93, rfl⟩
abbrev main_while0b_v59 : Ref sig .tc := ⟨.hbm, 94, rfl⟩
abbrev main_while0b_v60 : Ref sig .tc := ⟨.hbm, 95, rfl⟩
abbrev main_while0b_v61 : Ref sig .tc := ⟨.hbm, 96, rfl⟩
abbrev main_while0b_v62 : Ref sig .tc := ⟨.hbm, 97, rfl⟩
abbrev main_while0b_v63 : Ref sig .tc := ⟨.hbm, 98, rfl⟩
abbrev main_while0b_v64 : Ref sig .tc := ⟨.hbm, 99, rfl⟩
abbrev main_while0b_v65 : Ref sig .tc := ⟨.hbm, 100, rfl⟩
abbrev main_while0b_v66 : Ref sig .tc := ⟨.hbm, 101, rfl⟩
abbrev main_while0b_v67 : Ref sig .tc := ⟨.hbm, 102, rfl⟩
abbrev main_while0b_v68 : Ref sig .tc := ⟨.hbm, 103, rfl⟩
abbrev main_while0b_cst_21 : Ref sig .tc := ⟨.hbm, 104, rfl⟩
abbrev main_while0b_v69 : Ref sig .tc := ⟨.hbm, 105, rfl⟩
abbrev main_while0b_v70 : Ref sig .tc := ⟨.hbm, 106, rfl⟩
abbrev main_while0b_cst_22 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_v75 : Ref sig .tc := ⟨.hbm, 112, rfl⟩
abbrev main_while0b_cst_23 : Ref sig .tc := ⟨.hbm, 113, rfl⟩
abbrev main_while0b_v76 : Ref sig .tc := ⟨.hbm, 114, rfl⟩
abbrev main_while0b_v77 : Ref sig .tc := ⟨.hbm, 115, rfl⟩
abbrev main_while0b_cst_24 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_cst_25 : Ref sig .tc := ⟨.hbm, 122, rfl⟩
abbrev main_while0b_v83 : Ref sig .tc := ⟨.hbm, 123, rfl⟩
abbrev main_while0b_v84 : Ref sig .tc := ⟨.hbm, 124, rfl⟩
abbrev main_while0b_v85 : Ref sig .tc := ⟨.hbm, 125, rfl⟩
abbrev main_while0b_v86 : Ref sig .tc := ⟨.hbm, 126, rfl⟩
abbrev main_while0b_v87 : Ref sig .tc := ⟨.hbm, 127, rfl⟩
abbrev main_while0b_call2_v0 : Ref sig .tc := ⟨.hbm, 128, rfl⟩
abbrev main_while0b_call2_c : Ref sig .tc := ⟨.hbm, 129, rfl⟩
abbrev main_while0b_call2_c_0 : Ref sig .tc := ⟨.hbm, 130, rfl⟩
abbrev main_while0b_v88 : Ref sig .tc := ⟨.hbm, 131, rfl⟩
abbrev main_while0b_call3_v0 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_v89 : Ref sig .tc := ⟨.hbm, 135, rfl⟩
abbrev main_while0b_c_26 : Ref sig .tc := ⟨.hbm, 136, rfl⟩
abbrev main_while0b_v90 : Ref sig .tc := ⟨.hbm, 137, rfl⟩
abbrev main_v4 : Ref sig .tc := ⟨.hbm, 138, rfl⟩
abbrev main_v5 : Ref sig .tc := ⟨.hbm, 139, rfl⟩
abbrev main_v6 : Ref sig .tc := ⟨.hbm, 140, rfl⟩
abbrev main_v7 : Ref sig .tc := ⟨.hbm, 141, rfl⟩
abbrev main_v8 : Ref sig .tc := ⟨.hbm, 142, rfl⟩
abbrev main_v9 : Ref sig .tc := ⟨.hbm, 143, rfl⟩

abbrev nD : Nat := 1
abbrev τ : Topo := Topo.v7x

variable {F : FTy → Type} [FloatOps F]

abbrev main_while0_count : Scf.Loop 32 := ⟨0#32, 60#32, 1#32⟩
-- ==== Kernel4.lean ====
abbrev S59x32x300 : Shape := ⟨3, ![59, 32, 300]⟩
abbrev S60x32x512 : Shape := ⟨3, ![60, 32, 512]⟩
abbrev S32x512 : Shape := ⟨2, ![32, 512]⟩
abbrev S512x1024 : Shape := ⟨2, ![512, 1024]⟩
abbrev S512 : Shape := ⟨1, ![512]⟩
abbrev S512x1324 : Shape := ⟨2, ![512, 1324]⟩
abbrev S1536x512 : Shape := ⟨2, ![1536, 512]⟩
abbrev S1536 : Shape := ⟨1, ![1536]⟩
abbrev S512x512 : Shape := ⟨2, ![512, 512]⟩
abbrev S1024x512 : Shape := ⟨2, ![1024, 512]⟩
abbrev S1324x512 : Shape := ⟨2, ![1324, 512]⟩
abbrev S1x512 : Shape := ⟨2, ![1, 512]⟩
abbrev S300x512 : Shape := ⟨2, ![300, 512]⟩
abbrev S512x1536 : Shape := ⟨2, ![512, 1536]⟩
abbrev S1x1536 : Shape := ⟨2, ![1, 1536]⟩
abbrev S2x64x16x1024 : Shape := ⟨4, ![2, 64, 16, 1024]⟩
abbrev S59x16x300 : Shape := ⟨3, ![59, 16, 300]⟩
abbrev S60x16x512 : Shape := ⟨3, ![60, 16, 512]⟩
abbrev S16x512 : Shape := ⟨2, ![16, 512]⟩
abbrev S1x64x16x1024 : Shape := ⟨4, ![1, 64, 16, 1024]⟩
abbrev S59x16x1536 : Shape := ⟨3, ![59, 16, 1536]⟩
abbrev S944x300 : Shape := ⟨2, ![944, 300]⟩
abbrev S944x512 : Shape := ⟨2, ![944, 512]⟩
abbrev S16x1536 : Shape := ⟨2, ![16, 1536]⟩
abbrev S944x1536 : Shape := ⟨2, ![944, 1536]⟩
abbrev S1x16x1536 : Shape := ⟨3, ![1, 16, 1536]⟩
abbrev S960x512 : Shape := ⟨2, ![960, 512]⟩
abbrev S8x16x1024 : Shape := ⟨3, ![8, 16, 1024]⟩
abbrev S1x8x16x1024 : Shape := ⟨4, ![1, 8, 16, 1024]⟩
abbrev S1x16x512 : Shape := ⟨3, ![1, 16, 512]⟩
abbrev S60x16 : Shape := ⟨2, ![60, 16]⟩
abbrev S60x16x1 : Shape := ⟨3, ![60, 16, 1]⟩
abbrev S16x1 : Shape := ⟨2, ![16, 1]⟩
abbrev S1x16x1 : Shape := ⟨3, ![1, 16, 1]⟩
abbrev S16x1024 : Shape := ⟨2, ![16, 1024]⟩
abbrev S1x1x16x1024 : Shape := ⟨4, ![1, 1, 16, 1024]⟩

abbrev nBuf : Space → Nat
  | .hbm => 32
  | .vmem => 30
  | .smem => 0
  | _ => 0

abbrev bufTy : (tb : Table) → Fin (tcTables nBuf tb) → BufTy
  | .hbm, ⟨0, _⟩ => ⟨S59x32x300, .f32⟩
  | .hbm, ⟨1, _⟩ => ⟨S60x32x512, .f32⟩
  | .hbm, ⟨2, _⟩ => ⟨S32x512, .f32⟩
  | .hbm, ⟨3, _⟩ => ⟨S32x512, .f32⟩
  | .hbm, ⟨4, _⟩ => ⟨S32x512, .f32⟩
  | .hbm, ⟨5, _⟩ => ⟨S512x1024, .f32⟩
  | .hbm, ⟨6, _⟩ => ⟨S512, .f32⟩
  | .hbm, ⟨7, _⟩ => ⟨S512x1324, .f32⟩
  | .hbm, ⟨8, _⟩ => ⟨S512, .f32⟩
  | .hbm, ⟨9, _⟩ => ⟨S1536x512, .f32⟩
  | .hbm, ⟨10, _⟩ => ⟨S1536x512, .f32⟩
  | .hbm, ⟨11, _⟩ => ⟨S1536, .f32⟩
  | .hbm, ⟨12, _⟩ => ⟨S1536, .f32⟩
  | .hbm, ⟨13, _⟩ => ⟨S512x512, .f32⟩
  | .hbm, ⟨14, _⟩ => ⟨S512x512, .f32⟩
  | .hbm, ⟨15, _⟩ => ⟨S512, .f32⟩
  | .hbm, ⟨16, _⟩ => ⟨S1024x512, .f32⟩
  | .hbm, ⟨17, _⟩ => ⟨S1324x512, .f32⟩
  | .hbm, ⟨18, _⟩ => ⟨S512x512, .f32⟩
  | .hbm, ⟨19, _⟩ => ⟨S512x512, .f32⟩
  | .hbm, ⟨20, _⟩ => ⟨S1x512, .f32⟩
  | .hbm, ⟨21, _⟩ => ⟨S300x512, .f32⟩
  | .hbm, ⟨22, _⟩ => ⟨S512x512, .f32⟩
  | .hbm, ⟨23, _⟩ => ⟨S512x512, .f32⟩
  | .hbm, ⟨24, _⟩ => ⟨S1x512, .f32⟩
  | .hbm, ⟨25, _⟩ => ⟨S512x1536, .f32⟩
  | .hbm, ⟨26, _⟩ => ⟨S512x1536, .f32⟩
  | .hbm, ⟨27, _⟩ => ⟨S1x1536, .f32⟩
  | .hbm, ⟨28, _⟩ => ⟨S1x1536, .f32⟩
  | .hbm, ⟨29, _⟩ => ⟨S512x512, .f32⟩
  | .hbm, ⟨30, _⟩ => ⟨S1x512, .f32⟩
  | .hbm, ⟨31, _⟩ => ⟨S2x64x16x1024, .f32⟩
  | .local _ .vmem, ⟨0, _⟩ => ⟨S59x16x300, .f32⟩
  | .local _ .vmem, ⟨1, _⟩ => ⟨S59x16x300, .f32⟩
  | .local _ .vmem, ⟨2, _⟩ => ⟨S60x16x512, .f32⟩
  | .local _ .vmem, ⟨3, _⟩ => ⟨S60x16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S300x512, .f32⟩
  | .local _ .vmem, ⟨14, _⟩ => ⟨S512x512, .f32⟩
  | .local _ .vmem, ⟨15, _⟩ => ⟨S512x512, .f32⟩
  | .local _ .vmem, ⟨16, _⟩ => ⟨S1x512, .f32⟩
  | .local _ .vmem, ⟨17, _⟩ => ⟨S512x1536, .f32⟩
  | .local _ .vmem, ⟨18, _⟩ => ⟨S512x1536, .f32⟩
  | .local _ .vmem, ⟨19, _⟩ => ⟨S1x1536, .f32⟩
  | .local _ .vmem, ⟨20, _⟩ => ⟨S1x1536, .f32⟩
  | .local _ .vmem, ⟨21, _⟩ => ⟨S512x512, .f32⟩
  | .local _ .vmem, ⟨22, _⟩ => ⟨S512x512, .f32⟩
  | .local _ .vmem, ⟨23, _⟩ => ⟨S1x512, .f32⟩
  | .local _ .vmem, ⟨24, _⟩ => ⟨S1x64x16x1024, .f32⟩
  | .local _ .vmem, ⟨25, _⟩ => ⟨S1x64x16x1024, .f32⟩
  | .local _ .vmem, ⟨26, _⟩ => ⟨S59x16x1536, .f32⟩
  | .local _ .vmem, ⟨27, _⟩ => ⟨S512x1536, .f32⟩
  | .local _ .vmem, ⟨28, _⟩ => ⟨S60x16x512, .f32⟩
  | .local _ .vmem, ⟨29, _⟩ => ⟨S60x16x512, .f32⟩
  | _, _ => ⟨S59x32x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg19_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c59_i32 : BitVec 32 := 59#32
  let v74 : BitVec 32 := Scalar.addi c0_i32 c59_i32
  let c1_i32 : BitVec 32 := 1#32
  ⟨c0_i32, v74, c1_i32⟩
def k0_off1 (k0_t1 : Fin k0_t1_loop.trips) : Fin 3 → Nat :=
  let c0_i32 : BitVec 32 := 0#32
  let c1_i32 : BitVec 32 := 1#32
  let arg25 : BitVec 32 := Scf.iv c0_i32 c1_i32 k0_t1
  let v76 : Index := Scalar.indexCast arg25
  let c0_64 : Index := 0#32
  let c0_65 : Index := 0#32
  ![v76.toNat, 0, 0]
def k0_off2 (k0_t1 : Fin k0_t1_loop.trips) : Fin 4 → Nat :=
  let c0_81 : Index := 0#32
  let c0_i32 : BitVec 32 := 0#32
  let c1_i32 : BitVec 32 := 1#32
  let arg25 : BitVec 32 := Scf.iv c0_i32 c1_i32 k0_t1
  let v124 : Index := Scalar.indexCast arg25
  let c0_82 : Index := 0#32
  let c0_83 : Index := 0#32
  ![0, v124.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S59x16x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S60x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S300x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x64x16x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S59x32x300 : Shape := ⟨3, ![59, 32, 300]⟩
abbrev S60x32x512 : Shape := ⟨3, ![60, 32, 512]⟩
abbrev S32x512 : Shape := ⟨2, ![32, 512]⟩
abbrev S512x1024 : Shape := ⟨2, ![512, 1024]⟩
abbrev S512 : Shape := ⟨1, ![512]⟩
abbrev S512x1324 : Shape := ⟨2, ![512, 1324]⟩
abbrev S1536x512 : Shape := ⟨2, ![1536, 512]⟩
abbrev S1536 : Shape := ⟨1, ![1536]⟩
abbrev S512x512 : Shape := ⟨2, ![512, 512]⟩
abbrev S32x60x512 : Shape := ⟨3, ![32, 60, 512]⟩
abbrev S32x1024 : Shape := ⟨2, ![32, 1024]⟩
abbrev S1024x512 : Shape := ⟨2, ![1024, 512]⟩
abbrev S1x512 : Shape := ⟨2, ![1, 512]⟩
abbrev S_ : Shape := ⟨0, ![]⟩
abbrev S59x32x1024 : Shape := ⟨3, ![59, 32, 1024]⟩
abbrev S1x32x300 : Shape := ⟨3, ![1, 32, 300]⟩
abbrev S32x300 : Shape := ⟨2, ![32, 300]⟩
abbrev S32x1324 : Shape := ⟨2, ![32, 1324]⟩
abbrev S1324x512 : Shape := ⟨2, ![1324, 512]⟩
abbrev S512x1536 : Shape := ⟨2, ![512, 1536]⟩
abbrev S32x1536 : Shape := ⟨2, ![32, 1536]⟩
abbrev S1x1536 : Shape := ⟨2, ![1, 1536]⟩
abbrev S32x60 : Shape := ⟨2, ![32, 60]⟩
abbrev S32 : Shape := ⟨1, ![32]⟩
abbrev S32x1 : Shape := ⟨2, ![32, 1]⟩
abbrev S1x32x1024 : Shape := ⟨3, ![1, 32, 1024]⟩
abbrev S5x32x1024 : Shape := ⟨3, ![5, 32, 1024]⟩
abbrev S64x32x1024 : Shape := ⟨3, ![64, 32, 1024]⟩
abbrev S64x2x16x1024 : Shape := ⟨4, ![64, 2, 16, 1024]⟩
abbrev S2x64x16x1024 : Shape := ⟨4, ![2, 64, 16, 1024]⟩

abbrev nBuf : Space → Nat
  | .hbm => 135
  | .vmem => 0
  | .smem => 0
  | _ => 0

abbrev hbmTy0_0 (i : Nat) : BufTy := match i % 128 with
  | 0 => ⟨S59x32x300, .f32⟩
  | 1 => ⟨S60x32x512, .f32⟩
  | 2 => ⟨S32x512, .f32⟩
  | 3 => ⟨S32x512, .f32⟩
  | 4 => ⟨S32x512, .f32⟩
  | 5 => ⟨S512x1024, .f32⟩
  | 6 => ⟨S512, .f32⟩
  | 7 => ⟨S512x1324, .f32⟩
  | 8 => ⟨S512, .f32⟩
  | 9 => ⟨S1536x512, .f32⟩
  | 10 => ⟨S1536x512, .f32⟩
  | 11 => ⟨S1536, .f32⟩
  | 12 => ⟨S1536, .f32⟩
  | 13 => ⟨S512x512, .f32⟩
  | 14 => ⟨S512x512, .f32⟩
  | 15 => ⟨S512, .f32⟩
  | 16 => ⟨S32x60x512, .f32⟩
  | 17 => ⟨S32x1024, .f32⟩
  | 18 => ⟨S1024x512, .f32⟩
  | 19 => ⟨S32x512, .f32⟩
  | 20 => ⟨S1x512, .f32⟩
  | 21 => ⟨S32x512, .f32⟩
  | 22 => ⟨S32x512, .f32⟩
  | 23 => ⟨S32x512, .f32⟩
  | 24 => ⟨S_, .f32⟩
  | 25 => ⟨S32x512, .f32⟩
  | 26 => ⟨S_, .f32⟩
  | 27 => ⟨S59x32x1024, .f32⟩
  | 28 => ⟨S_, .i32⟩
  | 29 => ⟨S59x32x300, .f32⟩
  | 30 => ⟨S32x512, .f32⟩
  | 31 => ⟨S512x1324, .f32⟩
  | 32 => ⟨S512, .f32⟩
  | 33 => ⟨S1536x512, .f32⟩
  | 34 => ⟨S1536, .f32⟩
  | 35 => ⟨S1536x512, .f32⟩
  | 36 => ⟨S1536, .f32⟩
  | 37 => ⟨S512x512, .f32⟩
  | 38 => ⟨S32x60x512, .f32⟩
  | 39 => ⟨S512x512, .f32⟩
  | 40 => ⟨S512, .f32⟩
  | 41 => ⟨S_, .i32⟩
  | 42 => ⟨S32x512, .f32⟩
  | 43 => ⟨S32x512, .f32⟩
  | 44 => ⟨S59x32x1024, .f32⟩
  | 45 => ⟨S_, .i32⟩
  | 46 => ⟨S_, .i1⟩
  | 47 => ⟨S_, .i32⟩
  | 48 => ⟨S_, .i32⟩
  | 49 => ⟨S1x32x300, .f32⟩
  | 50 => ⟨S32x300, .f32⟩
  | 51 => ⟨S32x1324, .f32⟩
  | 52 => ⟨S1324x512, .f32⟩
  | 53 => ⟨S32x512, .f32⟩
  | 54 => ⟨S1x512, .f32⟩
  | 55 => ⟨S32x512, .f32⟩
  | 56 => ⟨S32x512, .f32⟩
  | 57 => ⟨S512x1536, .f32⟩
  | 58 => ⟨S32x1536, .f32⟩
  | 59 => ⟨S1x1536, .f32⟩
  | 60 => ⟨S32x1536, .f32⟩
  | 61 => ⟨S32x1536, .f32⟩
  | 62 => ⟨S512x1536, .f32⟩
  | 63 => ⟨S32x1536, .f32⟩
  | 64 => ⟨S1x1536, .f32⟩
  | 65 => ⟨S32x1536, .f32⟩
  | 66 => ⟨S32x1536, .f32⟩
  | 67 => ⟨S32x512, .f32⟩
  | 68 => ⟨S32x512, .f32⟩
  | 69 => ⟨S32x512, .f32⟩
  | 70 => ⟨S32x512, .f32⟩
  | 71 => ⟨S32x512, .f32⟩
  | 72 => ⟨S32x512, .f32⟩
  | 73 => ⟨S32x512, .f32⟩
  | 74 => ⟨S32x512, .f32⟩
  | 75 => ⟨S32x512, .f32⟩
  | 76 => ⟨S_, .f32⟩
  | 77 => ⟨S32x512, .f32⟩
  | 78 => ⟨S32x512, .f32⟩
  | 79 => ⟨S_, .f32⟩
  | 80 => ⟨S32x512, .f32⟩
  | 81 => ⟨S32x512, .f32⟩
  | 82 => ⟨S32x512, .f32⟩
  | 83 => ⟨S32x512, .f32⟩
  | 84 => ⟨S32x512, .f32⟩
  | 85 => ⟨S_, .f32⟩
  | 86 => ⟨S32x512, .f32⟩
  | 87 => ⟨S32x512, .f32⟩
  | 88 => ⟨S_, .f32⟩
  | 89 => ⟨S32x512, .f32⟩
  | 90 => ⟨S32x512, .f32⟩
  | 91 => ⟨S32x512, .f32⟩
  | 92 => ⟨S32x512, .f32⟩
  | 93 => ⟨S32x512, .f32⟩
  | 94 => ⟨S_, .f32⟩
  | 95 => ⟨S32x512, .f32⟩
  | 96 => ⟨S32x512, .f32⟩
  | 97 => ⟨S32x512, .f32⟩
  | 98 => ⟨S32x512, .f32⟩
  | 99 => ⟨S32x512, .f32⟩
  | 100 => ⟨S32x512, .f32⟩
  | 101 => ⟨S32x60, .f32⟩
  | 102 => ⟨S_, .f32⟩
  | 103 => ⟨S32, .f32⟩
  | 104 => ⟨S_, .f32⟩
  | 105 => ⟨S32, .f32⟩
  | 106 => ⟨S32, .f32⟩
  | 107 => ⟨S32x1, .f32⟩
  | 108 => ⟨S32x60, .f32⟩
  | 109 => ⟨S32x60, .f32⟩
  | 110 => ⟨S32x60, .f32⟩
  | 111 => ⟨S_, .f32⟩
  | 112 => ⟨S32, .f32⟩
  | 113 => ⟨S32x1, .f32⟩
  | 114 => ⟨S32x60, .f32⟩
  | 115 => ⟨S32x60, .f32⟩
  | 116 => ⟨S32x512, .f32⟩
  | 117 => ⟨S512x512, .f32⟩
  | 118 => ⟨S32x512, .f32⟩
  | 119 => ⟨S1x512, .f32⟩
  | 120 => ⟨S32x512, .f32⟩
  | 121 => ⟨S32x512, .f32⟩
  | 122 => ⟨S32x512, .f32⟩
  | 123 => ⟨S32x1024, .f32⟩
  | 124 => ⟨S1x32x1024, .f32⟩
  | 125 => ⟨S_, .i32⟩
  | 126 => ⟨S_, .i32⟩
  | 127 => ⟨S59x32x1024, .f32⟩
  | _ => ⟨S59x32x300, .f32⟩

abbrev hbmTy0_1 (i : Nat) : BufTy := match i % 128 with
  | 0 => ⟨S_, .i32⟩
  | 1 => ⟨S_, .i32⟩
  | 2 => ⟨S_, .f32⟩
  | 3 => ⟨S5x32x1024, .f32⟩
  | 4 => ⟨S64x32x1024, .f32⟩
  | 5 => ⟨S64x2x16x1024, .f32⟩
  | 6 => ⟨S2x64x16x1024, .f32⟩
  | _ => ⟨S59x32x300, .f32⟩

abbrev hbmTy (i : Nat) : BufTy := match i / 128 with
  | 0 => hbmTy0_0 i
  | 1 => hbmTy0_1 i
  | _ => ⟨S59x32x300, .f32⟩

abbrev bufTy : (tb : Table) → Fin (tcTables nBuf tb) → BufTy
  | .hbm, ⟨i, _⟩ => hbmTy i
  | _, _ => ⟨S59x32x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_c : Ref sig .tc := ⟨.hbm, 28, rfl⟩
abbrev main_v10_0 : Ref sig .tc := ⟨.hbm, 29, rfl⟩
abbrev main_v10_1 : Ref sig .tc := ⟨.hbm, 30, rfl⟩
abbrev main_v10_2 : Ref sig .tc := ⟨.hbm, 31, rfl⟩
abbrev main_v10_3 : Ref sig .tc := ⟨.hbm, 32, rfl⟩
abbrev main_v10_4 : Ref sig .tc := ⟨.hbm, 33, rfl⟩
abbrev main_v10_5 : Ref sig .tc := ⟨.hbm, 34, rfl⟩
abbrev main_v10_6 : Ref sig .tc := ⟨.hbm, 35, rfl⟩
abbrev main_v10_7 : Ref sig .tc := ⟨.hbm, 36, rfl⟩
abbrev main_v10_8 : Ref sig .tc := ⟨.hbm, 37, rfl⟩
abbrev main_v10_9 : Ref sig .tc := ⟨.hbm, 38, rfl⟩
abbrev main_v10_10 : Ref sig .tc := ⟨.hbm, 39, rfl⟩
abbrev main_v10_11 : Ref sig .tc := ⟨.hbm, 40, rfl⟩
abbrev main_v10_12 : Ref sig .tc := ⟨.hbm, 41, rfl⟩
abbrev main_v10_13 : Ref sig .tc := ⟨.hbm, 42, rfl⟩
abbrev main_v10_14 : Ref sig .tc := ⟨.hbm, 43, rfl⟩
abbrev main_v10_15 : Ref sig .tc := ⟨.hbm, 44, rfl⟩
abbrev main_while0c_c_17 : Ref sig .tc := ⟨.hbm, 45, rfl⟩
abbrev main_while0c_v15 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_v0 : Ref sig .tc := ⟨.hbm, 49, rfl⟩
abbrev main_while0b_v15 : Ref sig .tc := ⟨.hbm, 50, rfl⟩
abbrev main_while0b_v16 : Ref sig .tc := ⟨.hbm, 51, rfl⟩
abbrev main_while0b_v17 : Ref sig .tc := ⟨.hbm, 52, rfl⟩
abbrev main_while0b_v18 : Ref sig .tc := ⟨.hbm, 53, rfl⟩
abbrev main_while0b_v19 : Ref sig .tc := ⟨.hbm, 54, rfl⟩
abbrev main_while0b_v20 : Ref sig .tc := ⟨.hbm, 55, rfl⟩
abbrev main_while0b_v21 : Ref sig .tc := ⟨.hbm, 56, rfl⟩
abbrev main_while0b_v22 : Ref sig .tc := ⟨.hbm, 57, rfl⟩
abbrev main_while0b_v23 : Ref sig .tc := ⟨.hbm, 58, rfl⟩
abbrev main_while0b_v24 : Ref sig .tc := ⟨.hbm, 59, rfl⟩
abbrev main_while0b_v25 : Ref sig .tc := ⟨.hbm, 60, rfl⟩
abbrev main_while0b_v26 : Ref sig .tc := ⟨.hbm, 61, rfl⟩
abbrev main_while0b_v27 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_v31 : Ref sig .tc := ⟨.hbm, 66, rfl⟩
abbrev main_while0b_v32 : Ref sig .tc := ⟨.hbm, 67, rfl⟩
abbrev main_while0b_v33 : Ref sig .tc := ⟨.hbm, 68, rfl⟩
abbrev main_while0b_v34 : Ref sig .tc := ⟨.hbm, 69, rfl⟩
abbrev main_while0b_v35 : Ref sig .tc := ⟨.hbm, 70, rfl⟩
abbrev main_while0b_v36 : Ref sig .tc := ⟨.hbm, 71, rfl⟩
abbrev main_while0b_v37 : Ref sig .tc := ⟨.hbm, 72, rfl⟩
abbrev main_while0b_v38 : Ref sig .tc := ⟨.hbm, 73, rfl⟩
abbrev main_while0b_v39 : Ref sig .tc := ⟨.hbm, 74, rfl⟩
abbrev main_while0b_v40 : Ref sig .tc := ⟨.hbm, 75, rfl⟩
abbrev main_while0b_cst_17 : Ref sig .tc := ⟨.hbm, 76, rfl⟩
abbrev main_while0b_v41 : Ref sig .tc := ⟨.hbm, 77, rfl⟩
abbrev main_while0b_v42 : Ref sig .tc := ⟨.hbm, 78, rfl⟩
abbrev main_while0b_cst_18 : Ref sig .tc := ⟨.hbm, 79, rfl⟩
abbrev main_while0b_v43 : Ref sig .tc := ⟨.hbm, 80, rfl⟩
abbrev main_while0b_v44 : Ref sig .tc := ⟨.hbm, 81, rfl⟩
abbrev main_while0b_v45 : Ref sig .tc := ⟨.hbm, 82, rfl⟩
abbrev main_while0b_v46 : Ref sig .tc := ⟨.hbm, 83, rfl⟩
abbrev main_while0b_v47 : Ref sig .tc := ⟨.hbm, 84, rfl⟩
abbrev main_while0b_cst_19 : Ref sig .tc := ⟨.hbm, 85, rfl⟩
abbrev main_while0b_v48 : Ref sig .tc := ⟨.hbm, 86, rfl⟩
abbrev main_while0b_v49 : Ref sig .tc := ⟨.hbm, 87, rfl⟩
abbrev main_while0b_cst_20 : Ref sig .tc := ⟨.hbm, 88, rfl⟩
abbrev main_while0b_v50 : Ref sig .tc := ⟨.hbm, 89, rfl⟩
abbrev main_while0b_v51 : Ref sig .tc := ⟨.hbm, 90, rfl⟩
abbrev main_while0b_v52 : Ref sig .tc := ⟨.hbm, 91, rfl⟩
abbrev main_while0b_v53 : Ref sig .tc := ⟨.hbm, 92, rfl⟩
abbrev main_while0b_v54 : Ref sig .tc := ⟨.hbm, 93, rfl⟩
abbrev main_while0b_cst_21 : Ref sig .tc := ⟨.hbm, 94, rfl⟩
abbrev main_while0b_v55 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_cst_22 : Ref sig .tc := ⟨.hbm, 102, rfl⟩
abbrev main_while0b_v62 : Ref sig .tc := ⟨.hbm, 103, rfl⟩
abbrev main_while0b_cst_23 : Ref sig .tc := ⟨.hbm, 104, rfl⟩
abbrev main_while0b_v63 : Ref sig .tc := ⟨.hbm, 105, rfl⟩
abbrev main_while0b_v64 : Ref sig .tc := ⟨.hbm, 106, rfl⟩
abbrev main_while0b_v65 : Ref sig .tc := ⟨.hbm, 107, rfl⟩
abbrev main_while0b_v66 : Ref sig .tc := ⟨.hbm, 108, rfl⟩
abbrev main_while0b_v67 : Ref sig .tc := ⟨.hbm, 109, rfl⟩
abbrev main_while0b_v68 : Ref sig .tc := ⟨.hbm, 110, rfl⟩
abbrev main_while0b_cst_24 : Ref sig .tc := ⟨.hbm, 111, rfl⟩
abbrev main_while0b_v69 : Ref sig .tc := ⟨.hbm, 112, rfl⟩
abbrev main_while0b_v70 : Ref sig .tc := ⟨.hbm, 113, rfl⟩
abbrev main_while0b_v71 : Ref sig .tc := ⟨.hbm, 114, rfl⟩
abbrev main_while0b_v72 : Ref sig .tc := ⟨.hbm, 115, rfl⟩
abbrev main_while0b_v73 : Ref sig .tc := ⟨.hbm, 116, rfl⟩
abbrev main_while0b_v74 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_v79 : Ref sig .tc := ⟨.hbm, 122, rfl⟩
abbrev main_while0b_v80 : Ref sig .tc := ⟨.hbm, 123, rfl⟩
abbrev main_while0b_call1_v0 : Ref sig .tc := ⟨.hbm, 124, rfl⟩
abbrev main_while0b_call1_c : Ref sig .tc := ⟨.hbm, 125, rfl⟩
abbrev main_while0b_call1_c_0 : Ref sig .tc := ⟨.hbm, 126, rfl⟩
abbrev main_while0b_v81 : Ref sig .tc := ⟨.hbm, 127, rfl⟩
abbrev main_while0b_c_25 : Ref sig .tc := ⟨.hbm, 128, rfl⟩
abbrev main_while0b_v82 : Ref sig .tc := ⟨.hbm, 129, rfl⟩
abbrev main_cst_1 : Ref sig .tc := ⟨.hbm, 130, rfl⟩
abbrev main_v11 : Ref sig .tc := ⟨.hbm, 131, rfl⟩
abbrev main_v12 : Ref sig .tc := ⟨.hbm, 132, rfl⟩
abbrev main_v13 : Ref sig .tc := ⟨.hbm, 133, rfl⟩
abbrev main_v14 : Ref sig .tc := ⟨.hbm, 134, rfl⟩

abbrev nD : Nat := 1
abbrev τ : Topo := Topo.v7x

variable {F : FTy → Type} [FloatOps F]

abbrev main_while0_count : Scf.Loop 32 := ⟨0#32, 59#32, 1#32⟩
-- ==== Proof.EVal.lean ====
/-
  What the encoders' kernel leaves at the ideal values: at each encoder, time step, sentence and hidden unit, the state the
  gated recurrence has there, and at each encoder the state after the last step.
-/
module

public import proofs.«01_k».proof.Proof.Gen.Kernel3Ideal.Value
public import Idealize.ShloMosaic.Lib.Pointwise
public import Idealize.ShloMosaic.Lib.IdealHost
public import Idealize.ShloMosaic.Lib.VecWindow
public import Idealize.ShloMosaic.Lib.Pipeline.ValueKit
public import Idealize.ShloMosaic.Lib.Pipeline.ReadBack

@[expose] public section

set_option maxRecDepth 16384

noncomputable section

namespace Cert.Enc

open Idealize.ShloMosaic Idealize.ShloMosaic.TcCoe

/-- One hidden unit's next state, from the two sums of its sentence (of the input and of the state before) and its state. -/
def cell (gi gh : Fin 1536 → EReal) (h : EReal) (j : Fin 512) : EReal :=
  (1 - Ideal.logistic (gi ⟨512 + j.val, by omega⟩ + gh ⟨512 + j.val, by omega⟩))
      * Ideal.tanh (gi ⟨1024 + j.val, by omega⟩
          + Ideal.logistic (gi ⟨j.val, by omega⟩ + gh ⟨j.val, by omega⟩) * gh ⟨1024 + j.val, by omega⟩)
    + Ideal.logistic (gi ⟨512 + j.val, by omega⟩ + gh ⟨512 + j.val, by omega⟩) * h

/-- A row's product with a matrix, with a bias added. -/
def lin {n : ℕ} (x : Fin n → EReal) (W : Fin n → Fin 1536 → EReal) (b : Fin 1536 → EReal) (g : Fin 1536) : EReal :=
  (∑ e : Fin n, x e * W e g) + b g

/-- The states of one encoder before each step, at each sentence and hidden unit: nought at first, and past the last step no change. -/
def state (X : Fin 60 → Fin 32 → Fin 300 → EReal) (Wi : Fin 300 → Fin 1536 → EReal) (bi : Fin 1536 → EReal)
    (Wh : Fin 512 → Fin 1536 → EReal) (bh : Fin 1536 → EReal) : ℕ → Fin 32 → Fin 512 → EReal
  | 0 => fun _ _ => 0
  | k + 1 => fun b j =>
    if hk : k < 60 then cell (lin (X ⟨k, hk⟩ b) Wi bi) (lin (state X Wi bi Wh bh k b) Wh bh) (state X Wi bi Wh bh k b j) j
    else state X Wi bi Wh bh k b j

theorem state_succ (X : Fin 60 → Fin 32 → Fin 300 → EReal) (Wi : Fin 300 → Fin 1536 → EReal) (bi : Fin 1536 → EReal)
    (Wh : Fin 512 → Fin 1536 → EReal) (bh : Fin 1536 → EReal) (k : ℕ) (hk : k < 60) (b : Fin 32) (j : Fin 512) :
    state X Wi bi Wh bh (k + 1) b j
      = cell (lin (X ⟨k, hk⟩ b) Wi bi) (lin (state X Wi bi Wh bh k b) Wh bh) (state X Wi bi Wh bh k b j) j := by
  show (if hk : k < 60 then _ else _) = _
  rw [dif_pos hk]

/-- The states of one encoder, from its operands as they are passed. -/
def hid (X : (⟨3, ![60, 32, 300]⟩ : Shape).Idx → EReal) (Wi : (⟨2, ![1536, 300]⟩ : Shape).Idx → EReal) (Wh : (⟨2, ![1536, 512]⟩ : Shape).Idx → EReal)
    (bi bh : (⟨1, ![1536]⟩ : Shape).Idx → EReal) : ℕ → Fin 32 → Fin 512 → EReal :=
  state (fun t b e => X (ix3 t b e)) (fun e g => Wi (ix2 g e)) (fun g => bi (ix1 g)) (fun d g => Wh (ix2 g d)) (fun g => bh (ix1 g))

/-- The first encoder's or the second's. -/
def pick {α : Type} (s : ℕ) (x y : α) : α := if s < 1 then x else y

open Cert.Kernel3Ideal Cert.Kernel3Ideal.Gen

theorem pay1_at (v0 : Vec Ideal S1x60x32x300 .f32) (v3 : Vec Ideal S1x300x1536 .f32) (v6 : Vec Ideal S1x1x1536 .f32)
    (t : Fin 60) (b : Fin 32) (g : Fin 1536) :
    k0_pay1 v0 v3 v6 (ix3 t b g) = lin (fun e => v0 (ix4 0 t b e)) (fun e g => v3 (ix3 0 e g)) (fun g => v6 (ix3 0 0 g)) g := by
  unfold lin
  pointwise [k0_pay1]

theorem pay2_at (b : Fin 32) (j : Fin 512) : k0_pay2 (F := Ideal) (ix2 b j) = (0 : EReal) := by
  pointwise [k0_pay2]

theorem pay3_at (v14 : Vec Ideal S1x512x1536 .f32) (v16 : Vec Ideal S1x1x1536 .f32) (a : Vec Ideal S32x512 .f32) (v28 : Vec Ideal S1x32x1536 .f32)
    (b : Fin 32) (j : Fin 512) :
    k0_pay3 v14 v16 a v28 (ix2 b j)
      = cell (fun g => v28 (ix3 0 b g)) (lin (fun d => a (ix2 b d)) (fun d g => v14 (ix3 0 d g)) (fun g => v16 (ix3 0 0 g))) (a (ix2 b j)) j := by
  unfold cell lin
  pointwise [k0_pay3]

theorem pay4_at (v14 : Vec Ideal S1x512x1536 .f32) (v16 : Vec Ideal S1x1x1536 .f32) (a : Vec Ideal S32x512 .f32) (v28 : Vec Ideal S1x32x1536 .f32)
    (b : Fin 32) (j : Fin 512) :
    k0_pay4 v14 v16 a v28 (ix4 0 0 b j) = k0_pay3 v14 v16 a v28 (ix2 b j) := by
  unfold k0_pay4
  generalize k0_pay3 v14 v16 a v28 = x
  pointwise

theorem pay5_at (a : Vec Ideal S32x512 .f32) (b : Fin 32) (j : Fin 512) : k0_pay5 (F := Ideal) a (ix3 0 b j) = a (ix2 b j) := by
  pointwise [k0_pay5]

theorem trips_eq : k0_t1_loop.trips = 60 := by decide +kernel
theorem off1_eq : ∀ k : Fin k0_t1_loop.trips, k0_off1 k = ![k.val, 0, 0] := by decide +kernel
theorem off2_eq : ∀ k : Fin k0_t1_loop.trips, k0_off2 k = ![0, k.val, 0, 0] := by decide +kernel

section Run

variable (c : Dev nD) (i : grid0.Coords) (arg1 : Memref sig .tc .vmem S1x60x32x300 .f32) (harg1 : arg1.IsWhole) (arg2 : Memref sig .tc .vmem S1x300x1536 .f32) (harg2 : arg2.IsWhole)
  (arg3 : Memref sig .tc .vmem S1x512x1536 .f32) (harg3 : arg3.IsWhole) (arg4 : Memref sig .tc .vmem S1x1x1536 .f32) (harg4 : arg4.IsWhole)
  (arg5 : Memref sig .tc .vmem S1x1x1536 .f32) (harg5 : arg5.IsWhole) (arg6 : Memref sig .tc .vmem S1x60x32x512 .f32) (harg6 : arg6.IsWhole)
  (arg7 : Memref sig .tc .vmem S1x32x512 .f32) (harg7 : arg7.IsWhole) (arg8 : Memref sig .tc .vmem S60x32x1536 .f32) (harg8 : arg8.IsWhole)
  (v14 : Vec Ideal S1x512x1536 .f32) (v16 : Vec Ideal S1x1x1536 .f32) (Z : BufTy.Contents (Elt Ideal) arg8.view.ty)

/-- The rows a step loads from the scratch buffer. -/
def rows (k : Fin k0_t1_loop.trips) : Vec Ideal S1x32x1536 .f32 :=
  View.readAt (Elt Ideal) arg8.view (Rect.unit (s := S60x32x1536) (k0_off1 k) S1x32x1536.size (k0_off1_inb k)).toLoadRect Z

theorem rows_at (k : Fin k0_t1_loop.trips) (hk : k.val < 60) (b : Fin 32) (g : Fin 1536) :
    rows arg8 Z k (ix3 0 b g) = arg8.view.read (Elt Ideal) Z (ix3 (⟨k.val, hk⟩ : Fin 60) b g) := by
  unfold rows
  refine View.ld_unit_apply_of _ _ _ _ _ _ fun a => ?_
  rw [congrFun (off1_eq k) a]
  fin_cases a <;> simp

theorem tripR_eq (k : Fin k0_t1_loop.trips) (a : Vec Ideal S32x512 .f32) :
    tripR_k0_t1 (F := Ideal) Variants.none c none i arg1 harg1 arg2 harg2 arg3 harg3 arg4 harg4 arg5 harg5 arg6 harg6 arg7 harg7 arg8 harg8 v14 v16 Z k a
      = k0_pay3 v14 v16 a (rows arg8 Z k) := by
  unfold tripR_k0_t1 trip_k0_t1
  rfl

theorem tripL_eq (k : Fin k0_t1_loop.trips) (a : Vec Ideal S32x512 .f32) :
    tripL_k0_t1 (F := Ideal) Variants.none c none i arg1 harg1 arg2 harg2 arg3 harg3 arg4 harg4 arg5 harg5 arg6 harg6 arg7 harg7 arg8 harg8 v14 v16 Z k a
      = [⟨Rect.unit (s := S1x60x32x512) (k0_off2 k) S1x1x32x512.size (k0_off2_inb k), k0_pay4 v14 v16 a (rows arg8 Z k)⟩] := by
  unfold tripL_k0_t1 trip_k0_t1
  rfl

variable (X : Fin 60 → Fin 32 → Fin 300 → EReal) (Wi : Fin 300 → Fin 1536 → EReal) (bi : Fin 1536 → EReal) (Wh : Fin 512 → Fin 1536 → EReal) (bh : Fin 1536 → EReal)
  (hZ : ∀ t b g, arg8.view.read (Elt Ideal) Z (ix3 t b g) = lin (X t b) Wi bi g)
  (hW : ∀ d g, v14 (ix3 0 d g) = Wh d g) (hb : ∀ g, v16 (ix3 0 0 g) = bh g)

include hZ hW hb in
/-- A step's state from the state before. -/
theorem step_at (k : Fin k0_t1_loop.trips) (hk : k.val < 60) (a : Vec Ideal S32x512 .f32) (ha : ∀ b j, a (ix2 b j) = state X Wi bi Wh bh k.val b j) (b : Fin 32) (j : Fin 512) :
    k0_pay3 v14 v16 a (rows arg8 Z k) (ix2 b j) = state X Wi bi Wh bh (k.val + 1) b j := by
  rw [pay3_at, state_succ _ _ _ _ _ _ hk]
  congr 1
  · funext g
    rw [rows_at arg8 Z k hk, hZ]
  · congr 1
    · funext d; exact ha b d
    · funext d g; exact hW d g
    · funext g; exact hb g
  · exact ha b j

/-- The block of states after each step. -/
def states (y : S1x60x32x512.Idx) : EReal := state X Wi bi Wh bh ((y 1).val + 1) (y 2) (y 3)

include hZ hW hb in
theorem run_at : ∀ k : ℕ, k ≤ 60 →
    (∀ b j, (st_k0_t1 (F := Ideal) Variants.none c none i arg1 harg1 arg2 harg2 arg3 harg3 arg4 harg4 arg5 harg5 arg6 harg6 arg7 harg7 arg8 harg8 v14 v16 Z k0_pay2 k).1 (ix2 b j)
      = state X Wi bi Wh bh k b j)
    ∧ View.PiecesOf (Val := Elt Ideal) (e := .f32) (states X Wi bi Wh bh)
      (st_k0_t1 (F := Ideal) Variants.none c none i arg1 harg1 arg2 harg2 arg3 harg3 arg4 harg4 arg5 harg5 arg6 harg6 arg7 harg7 arg8 harg8 v14 v16 Z k0_pay2 k).2 := by
  intro k
  induction k with
  | zero => exact fun _ => ⟨fun b j => pay2_at b j, trivial⟩
  | succ k ih =>
    intro hk
    obtain ⟨h1, h2⟩ := ih (by omega)
    have ht : k < k0_t1_loop.trips := by rw [trips_eq]; omega
    have e := st_k0_t1_succ (F := Ideal) Variants.none c none i arg1 harg1 arg2 harg2 arg3 harg3 arg4 harg4 arg5 harg5 arg6 harg6 arg7 harg7 arg8 harg8 v14 v16 Z k0_pay2 ⟨k, ht⟩
    rw [tripR_eq, tripL_eq] at e
    rw [show k + 1 = (⟨k, ht⟩ : Fin k0_t1_loop.trips).val + 1 from rfl, e]
    have hs := step_at arg8 v14 v16 Z X Wi bi Wh bh hZ hW hb ⟨k, ht⟩ (by show k < 60; omega) _ h1
    refine ⟨hs, ?_, h2⟩
    intro x
    obtain ⟨b, j, rfl⟩ : ∃ (b : Fin 32) (j : Fin 512), x = ix4 0 0 b j := ⟨x 2, x 3, by
      funext a; fin_cases a
      · exact Subsingleton.elim (α := Fin 1) _ _
      · exact Subsingleton.elim (α := Fin 1) _ _
      · rfl
      · rfl⟩
    refine (pay4_at ..).trans ((hs b j).trans ?_)
    have hy : (Rect.unit (s := S1x60x32x512) (k0_off2 ⟨k, ht⟩) S1x1x32x512.size (k0_off2_inb ⟨k, ht⟩)).emb (ix4 0 0 b j) = ix4 0 (⟨k, by omega⟩ : Fin 60) b j := by
      funext a; apply Fin.ext; refine (Rect.idx_unit_val ..).trans ?_; rw [congrFun (off2_eq ⟨k, ht⟩) a]; fin_cases a <;> simp
    show _ = states X Wi bi Wh bh (Rect.emb _ _)
    rw [hy]
    rfl

end Run

section Out

variable (c : Dev nD) (i : grid0.Coords) (arg1 : Memref sig .tc .vmem S1x60x32x300 .f32) (harg1 : arg1.IsWhole) (arg2 : Memref sig .tc .vmem S1x300x1536 .f32) (harg2 : arg2.IsWhole)
  (arg3 : Memref sig .tc .vmem S1x512x1536 .f32) (harg3 : arg3.IsWhole) (arg4 : Memref sig .tc .vmem S1x1x1536 .f32) (harg4 : arg4.IsWhole)
  (arg5 : Memref sig .tc .vmem S1x1x1536 .f32) (harg5 : arg5.IsWhole) (arg6 : Memref sig .tc .vmem S1x60x32x512 .f32) (harg6 : arg6.IsWhole)
  (arg7 : Memref sig .tc .vmem S1x32x512 .f32) (harg7 : arg7.IsWhole) (arg8 : Memref sig .tc .vmem S60x32x1536 .f32) (harg8 : arg8.IsWhole)
  (x0 : Vec Ideal S1x60x32x300 .f32) (x1 : Vec Ideal S1x300x1536 .f32) (x2 : Vec Ideal S1x512x1536 .f32) (x3 x4 : Vec Ideal S1x1x1536 .f32)

/-- The states from one encoder's blocks. -/
abbrev stateOf : ℕ → Fin 32 → Fin 512 → EReal :=
  state (fun t b e => x0 (ix4 0 t b e)) (fun e g => x1 (ix3 0 e g)) (fun g => x3 (ix3 0 0 g)) (fun d g => x2 (ix3 0 d g)) (fun g => x4 (ix3 0 0 g))

/-- What the scratch buffer holds once the products of every step are stored. -/
abbrev scratch : BufTy.Contents (Elt Ideal) arg8.view.ty :=
  arg8.view.writes (Elt Ideal) arg8.view.junk (kernelRun0_A.sl.HS0_1 c arg1 harg1 arg2 harg2 arg4 harg4 x0 x1 x3)

theorem scratch_at (t : Fin 60) (b : Fin 32) (g : Fin 1536) :
    arg8.view.read (Elt Ideal) (scratch c arg1 harg1 arg2 harg2 arg4 harg4 arg8 x0 x1 x3) (ix3 t b g)
      = lin (fun e => x0 (ix4 0 t b e)) (fun e g => x1 (ix3 0 e g)) (fun g => x3 (ix3 0 0 g)) g := by
  unfold scratch kernelRun0_A.sl.HS0_1
  rw [View.read_writes_full arg8.view arg8.view.junk inb_S60x32x1536_S60x32x1536_0_0_0, View.readAt_full, View.readAt_full, View.readAt_full,
    harg1.read_unread, harg2.read_unread, harg4.read_unread]
  exact pay1_at ..

/-- The two operands a step loads whole. -/
abbrev ldW : Vec Ideal S1x512x1536 .f32 := View.readAt (Elt Ideal) arg3.view (Rect.unit (s := S1x512x1536) ![0, 0, 0] S1x512x1536.size inb_S1x512x1536_S1x512x1536_0_0_0).toLoadRect (harg3.unread x2)
abbrev ldb : Vec Ideal S1x1x1536 .f32 := View.readAt (Elt Ideal) arg5.view (Rect.unit (s := S1x1x1536) ![0, 0, 0] S1x1x1536.size inb_S1x1x1536_S1x1x1536_0_0_0).toLoadRect (harg5.unread x4)

theorem ldW_eq : ldW arg3 harg3 x2 = x2 := by
  unfold ldW
  rw [View.readAt_full, harg3.read_unread]

theorem ldb_eq : ldb arg5 harg5 x4 = x4 := by
  unfold ldb
  rw [View.readAt_full, harg5.read_unread]

/-- The loop's carried value and stores after its last step. -/
abbrev last : Vec Ideal S32x512 .f32 × List (View.Piece (Elt Ideal) S1x60x32x512 .f32) :=
  st_k0_t1 (F := Ideal) Variants.none c none i arg1 harg1 arg2 harg2 arg3 harg3 arg4 harg4 arg5 harg5 arg6 harg6 arg7 harg7 arg8 harg8
    (ldW arg3 harg3 x2) (ldb arg5 harg5 x4) (scratch c arg1 harg1 arg2 harg2 arg4 harg4 arg8 x0 x1 x3) k0_pay2 60

theorem last_at :
    (∀ b j, (last c i arg1 harg1 arg2 harg2 arg3 harg3 arg4 harg4 arg5 harg5 arg6 harg6 arg7 harg7 arg8 harg8 x0 x1 x2 x3 x4).1 (ix2 b j) = stateOf x0 x1 x2 x3 x4 60 b j)
    ∧ View.PiecesOf (Val := Elt Ideal) (e := .f32) (fun y : S1x60x32x512.Idx => stateOf x0 x1 x2 x3 x4 ((y 1).val + 1) (y 2) (y 3))
      (last c i arg1 harg1 arg2 harg2 arg3 harg3 arg4 harg4 arg5 harg5 arg6 harg6 arg7 harg7 arg8 harg8 x0 x1 x2 x3 x4).2 :=
  run_at c i arg1 harg1 arg2 harg2 arg3 harg3 arg4 harg4 arg5 harg5 arg6 harg6 arg7 harg7 arg8 harg8 _ _ _ _ _ _ _ _
    (scratch_at c arg1 harg1 arg2 harg2 arg4 harg4 arg8 x0 x1 x3) (fun d g => congrFun (ldW_eq arg3 harg3 x2) _) (fun g => congrFun (ldb_eq arg5 harg5 x4) _) 60 (le_refl _)

theorem runL5 : (kernelRun0_A (F := Ideal) c i arg1 harg1 arg2 harg2 arg3 harg3 arg4 harg4 arg5 harg5 arg6 harg6 arg7 harg7 arg8 harg8 x0 x1 x2 x3 x4).1
    = (last c i arg1 harg1 arg2 harg2 arg3 harg3 arg4 harg4 arg5 harg5 arg6 harg6 arg7 harg7 arg8 harg8 x0 x1 x2 x3 x4).2 := by
  unfold kernelRun0_A
  dsimp only
  rw [show Scf.trips (0#32) (Scalar.addi 0#32 60#32) 1#32 = 60 from trips_eq]

theorem runL6 : (kernelRun0_A (F := Ideal) c i arg1 harg1 arg2 harg2 arg3 harg3 arg4 harg4 arg5 harg5 arg6 harg6 arg7 harg7 arg8 harg8 x0 x1 x2 x3 x4).2.1
    = [⟨Rect.unit (s := S1x32x512) ![0, 0, 0] S1x32x512.size inb_S1x32x512_S1x32x512_0_0_0,
        k0_pay5 (F := Ideal) (last c i arg1 harg1 arg2 harg2 arg3 harg3 arg4 harg4 arg5 harg5 arg6 harg6 arg7 harg7 arg8 harg8 x0 x1 x2 x3 x4).1⟩] := by
  unfold kernelRun0_A
  dsimp only
  rw [show Scf.trips (0#32) (Scalar.addi 0#32 60#32) 1#32 = 60 from trips_eq]

theorem out5_at (y : S1x60x32x512.Idx) :
    out0_A_5 (F := Ideal) c i arg1 harg1 arg2 harg2 arg3 harg3 arg4 harg4 arg5 harg5 arg6 harg6 arg7 harg7 arg8 harg8 x0 x1 x2 x3 x4 y
      = stateOf x0 x1 x2 x3 x4 ((y 1).val + 1) (y 2) (y 3) := by
  unfold out0_A_5
  rw [View.read_writes_junk_apply_eq_canon]
  have hc := cover0_A_5 (F := Ideal) c i arg1 harg1 arg2 harg2 arg3 harg3 arg4 harg4 arg5 harg5 arg6 harg6 arg7 harg7 arg8 harg8 x0 x1 x2 x3 x4 y
  rw [runL5] at hc ⊢
  exact View.canon_apply_of_pieces _ _ (View.PiecesOf.mem (last_at c i arg1 harg1 arg2 harg2 arg3 harg3 arg4 harg4 arg5 harg5 arg6 harg6 arg7 harg7 arg8 harg8 x0 x1 x2 x3 x4).2) y hc

theorem out6_at (b : Fin 32) (j : Fin 512) :
    out0_A_6 (F := Ideal) c i arg1 harg1 arg2 harg2 arg3 harg3 arg4 harg4 arg5 harg5 arg6 harg6 arg7 harg7 arg8 harg8 x0 x1 x2 x3 x4 (ix3 0 b j)
      = stateOf x0 x1 x2 x3 x4 60 b j := by
  unfold out0_A_6
  rw [runL6, View.read_writes_full VO0_6 VO0_6.junk inb_S1x32x512_S1x32x512_0_0_0]
  exact (pay5_at ..).trans ((last_at c i arg1 harg1 arg2 harg2 arg3 harg3 arg4 harg4 arg5 harg5 arg6 harg6 arg7 harg7 arg8 harg8 x0 x1 x2 x3 x4).1 b j)

theorem out6_eq :
    out0_A_6 (F := Ideal) c i arg1 harg1 arg2 harg2 arg3 harg3 arg4 harg4 arg5 harg5 arg6 harg6 arg7 harg7 arg8 harg8 x0 x1 x2 x3 x4
      = fun y : S1x32x512.Idx => stateOf x0 x1 x2 x3 x4 60 (y 1) (y 2) := by
  funext y
  obtain ⟨b, j, rfl⟩ : ∃ (b : Fin 32) (j : Fin 512), y = ix3 0 b j := ⟨y 1, y 2, by
    funext a; fin_cases a
    · exact Subsingleton.elim (α := Fin 1) _ _
    · rfl
    · rfl⟩
  exact out6_at c i arg1 harg1 arg2 harg2 arg3 harg3 arg4 harg4 arg5 harg5 arg6 harg6 arg7 harg7 arg8 harg8 x0 x1 x2 x3 x4 b j

end Out

section Operands

variable (m : (ℓ : Loc nD τ sig) → Buf (Elt Ideal) ℓ)

theorem index0 : ∀ t : Fin cfg0.N, win0_0.index t 0 = t.val ∧ win0_0.index t 1 = 0 ∧ win0_0.index t 2 = 0 ∧ win0_0.index t 3 = 0 := by decide +kernel
theorem index1 : ∀ t : Fin cfg0.N, win0_1.index t 0 = t.val ∧ win0_1.index t 1 = 0 ∧ win0_1.index t 2 = 0 := by decide +kernel
theorem index2 : ∀ t : Fin cfg0.N, win0_2.index t 0 = t.val ∧ win0_2.index t 1 = 0 ∧ win0_2.index t 2 = 0 := by decide +kernel
theorem index3 : ∀ t : Fin cfg0.N, win0_3.index t 0 = t.val ∧ win0_3.index t 1 = 0 ∧ win0_3.index t 2 = 0 := by decide +kernel
theorem index4 : ∀ t : Fin cfg0.N, win0_4.index t 0 = t.val ∧ win0_4.index t 1 = 0 ∧ win0_4.index t 2 = 0 := by decide +kernel
theorem index5 : ∀ t : Fin cfg0.N, win0_5.index t 0 = t.val ∧ win0_5.index t 1 = 0 ∧ win0_5.index t 2 = 0 ∧ win0_5.index t 3 = 0 := by decide +kernel
theorem index6 : ∀ t : Fin cfg0.N, win0_6.index t 0 = t.val ∧ win0_6.index t 1 = 0 ∧ win0_6.index t 2 = 0 := by decide +kernel

theorem stackX (A B : Vec Ideal S60x32x300 .f32) (s : Fin 2) (u : Fin 60) (b : Fin 32) (e : Fin 300) :
    concatenate S2x60x32x300 0 [⟨S1x60x32x300, broadcastInDim S1x60x32x300 ![1, 2, 3] bcast_S60x32x300_S1x60x32x300_1_2_3 A⟩,
        ⟨S1x60x32x300, broadcastInDim S1x60x32x300 ![1, 2, 3] bcast_S60x32x300_S1x60x32x300_1_2_3 B⟩]
        concatenates_S1x60x32x300_S1x60x32x300_S2x60x32x300_d0 (ix4 s u b e) = pick s.val (A (ix3 u b e)) (B (ix3 u b e)) := by
  unfold pick
  pointwise
  rfl

theorem stackI (A B : Vec Ideal S1536x300 .f32) (s : Fin 2) (e : Fin 300) (g : Fin 1536) :
    concatenate S2x300x1536 0 [⟨S1x300x1536, broadcastInDim S1x300x1536 ![1, 2] bcast_S300x1536_S1x300x1536_1_2 (transpose S300x1536 [1, 0] A transposes_S1536x300_S300x1536_1_0)⟩,
        ⟨S1x300x1536, broadcastInDim S1x300x1536 ![1, 2] bcast_S300x1536_S1x300x1536_1_2 (transpose S300x1536 [1, 0] B transposes_S1536x300_S300x1536_1_0)⟩]
        concatenates_S1x300x1536_S1x300x1536_S2x300x1536_d0 (ix3 s e g) = pick s.val (A (ix2 g e)) (B (ix2 g e)) := by
  unfold pick
  pointwise
  rfl

theorem stackH (A B : Vec Ideal S1536x512 .f32) (s : Fin 2) (d : Fin 512) (g : Fin 1536) :
    concatenate S2x512x1536 0 [⟨S1x512x1536, broadcastInDim S1x512x1536 ![1, 2] bcast_S512x1536_S1x512x1536_1_2 (transpose S512x1536 [1, 0] A transposes_S1536x512_S512x1536_1_0)⟩,
        ⟨S1x512x1536, broadcastInDim S1x512x1536 ![1, 2] bcast_S512x1536_S1x512x1536_1_2 (transpose S512x1536 [1, 0] B transposes_S1536x512_S512x1536_1_0)⟩]
        concatenates_S1x512x1536_S1x512x1536_S2x512x1536_d0 (ix3 s d g) = pick s.val (A (ix2 g d)) (B (ix2 g d)) := by
  unfold pick
  pointwise
  rfl

theorem stackB (A B : Vec Ideal S1536 .f32) (s : Fin 2) (g : Fin 1536) :
    shapeCast S2x1x1536 (concatenate S2x1536 0 [⟨S1x1536, broadcastInDim S1x1536 ![1] bcast_S1536_S1x1536_1 A⟩, ⟨S1x1536, broadcastInDim S1x1536 ![1] bcast_S1536_S1x1536_1 B⟩]
        concatenates_S1x1536_S1x1536_S2x1536_d0) shapeCasts_S2x1536_S2x1x1536 (ix3 s 0 g) = pick s.val (A (ix1 g)) (B (ix1 g)) := by
  unfold pick
  pointwise
  rfl

/-- A point of the grid is one of the two encoders. -/
theorem two (t : Fin cfg0.N) : t.val < 2 := t.isLt

theorem inputs_at (c : Dev nD) (t : Fin cfg0.N) (u : Fin 60) (b : Fin 32) (e : Fin 300) :
    (iblk m c 0 t : Vec Ideal S1x60x32x300 .f32) (ix4 0 u b e)
      = pick t.val ((m ((c : Thread nD τ).loc main_arg0) : Vec Ideal S60x32x300 .f32) (ix3 u b e)) ((m ((c : Thread nD τ).loc main_arg1) : Vec Ideal S60x32x300 .f32) (ix3 u b e)) := by
  have e1 : (V m c main_v2 : Vec Ideal S2x60x32x300 .f32) (ix4 (⟨t.val, two t⟩ : Fin 2) u b e)
      = pick t.val ((m ((c : Thread nD τ).loc main_arg0) : Vec Ideal S60x32x300 .f32) (ix3 u b e)) ((m ((c : Thread nD τ).loc main_arg1) : Vec Ideal S60x32x300 .f32) (ix3 u b e)) := by
    entry_read
    exact stackX _ _ (⟨t.val, two t⟩ : Fin 2) u b e
  have e2 : (iblk m c 0 t : Vec Ideal S1x60x32x300 .f32) (ix4 0 u b e) = (V m c main_v2 : Vec Ideal S2x60x32x300 .f32) (ix4 (⟨t.val, two t⟩ : Fin 2) u b e) := by
    unfold iblk
    blk_ext [(index0 t).1, (index0 t).2.1, (index0 t).2.2.1, (index0 t).2.2.2]
  exact e2.trans e1

theorem inputW_at (c : Dev nD) (t : Fin cfg0.N) (e : Fin 300) (g : Fin 1536) :
    (iblk m c 1 t : Vec Ideal S1x300x1536 .f32) (ix3 0 e g)
      = pick t.val ((m ((c : Thread nD τ).loc main_arg2) : Vec Ideal S1536x300 .f32) (ix2 g e)) ((m ((c : Thread nD τ).loc main_arg6) : Vec Ideal S1536x300 .f32) (ix2 g e)) := by
  have e1 : (V m c main_v7 : Vec Ideal S2x300x1536 .f32) (ix3 (⟨t.val, two t⟩ : Fin 2) e g)
      = pick t.val ((m ((c : Thread nD τ).loc main_arg2) : Vec Ideal S1536x300 .f32) (ix2 g e)) ((m ((c : Thread nD τ).loc main_arg6) : Vec Ideal S1536x300 .f32) (ix2 g e)) := by
    entry_read
    exact stackI _ _ (⟨t.val, two t⟩ : Fin 2) e g
  have e2 : (iblk m c 1 t : Vec Ideal S1x300x1536 .f32) (ix3 0 e g) = (V m c main_v7 : Vec Ideal S2x300x1536 .f32) (ix3 (⟨t.val, two t⟩ : Fin 2) e g) := by
    unfold iblk
    blk_ext [(index1 t).1, (index1 t).2.1, (index1 t).2.2]
  exact e2.trans e1

theorem stateW_at (c : Dev nD) (t : Fin cfg0.N) (e : Fin 512) (g : Fin 1536) :
    (iblk m c 2 t : Vec Ideal S1x512x1536 .f32) (ix3 0 e g)
      = pick t.val ((m ((c : Thread nD τ).loc main_arg3) : Vec Ideal S1536x512 .f32) (ix2 g e)) ((m ((c : Thread nD τ).loc main_arg7) : Vec Ideal S1536x512 .f32) (ix2 g e)) := by
  have e1 : (V m c main_v12 : Vec Ideal S2x512x1536 .f32) (ix3 (⟨t.val, two t⟩ : Fin 2) e g)
      = pick t.val ((m ((c : Thread nD τ).loc main_arg3) : Vec Ideal S1536x512 .f32) (ix2 g e)) ((m ((c : Thread nD τ).loc main_arg7) : Vec Ideal S1536x512 .f32) (ix2 g e)) := by
    entry_read
    exact stackH _ _ (⟨t.val, two t⟩ : Fin 2) e g
  have e2 : (iblk m c 2 t : Vec Ideal S1x512x1536 .f32) (ix3 0 e g) = (V m c main_v12 : Vec Ideal S2x512x1536 .f32) (ix3 (⟨t.val, two t⟩ : Fin 2) e g) := by
    unfold iblk
    blk_ext [(index2 t).1, (index2 t).2.1, (index2 t).2.2]
  exact e2.trans e1

theorem inputb_at (c : Dev nD) (t : Fin cfg0.N) (g : Fin 1536) :
    (iblk m c 3 t : Vec Ideal S1x1x1536 .f32) (ix3 0 0 g)
      = pick t.val ((m ((c : Thread nD τ).loc main_arg4) : Vec Ideal S1536 .f32) (ix1 g)) ((m ((c : Thread nD τ).loc main_arg8) : Vec Ideal S1536 .f32) (ix1 g)) := by
  have e1 : (V m c main_v16 : Vec Ideal S2x1x1536 .f32) (ix3 (⟨t.val, two t⟩ : Fin 2) 0 g)
      = pick t.val ((m ((c : Thread nD τ).loc main_arg4) : Vec Ideal S1536 .f32) (ix1 g)) ((m ((c : Thread nD τ).loc main_arg8) : Vec Ideal S1536 .f32) (ix1 g)) := by
    entry_read
    exact stackB _ _ (⟨t.val, two t⟩ : Fin 2) g
  have e2 : (iblk m c 3 t : Vec Ideal S1x1x1536 .f32) (ix3 0 0 g) = (V m c main_v16 : Vec Ideal S2x1x1536 .f32) (ix3 (⟨t.val, two t⟩ : Fin 2) 0 g) := by
    unfold iblk
    blk_ext [(index3 t).1, (index3 t).2.1, (index3 t).2.2]
  exact e2.trans e1

theorem stateb_at (c : Dev nD) (t : Fin cfg0.N) (g : Fin 1536) :
    (iblk m c 4 t : Vec Ideal S1x1x1536 .f32) (ix3 0 0 g)
      = pick t.val ((m ((c : Thread nD τ).loc main_arg5) : Vec Ideal S1536 .f32) (ix1 g)) ((m ((c : Thread nD τ).loc main_arg9) : Vec Ideal S1536 .f32) (ix1 g)) := by
  have e1 : (V m c main_v20 : Vec Ideal S2x1x1536 .f32) (ix3 (⟨t.val, two t⟩ : Fin 2) 0 g)
      = pick t.val ((m ((c : Thread nD τ).loc main_arg5) : Vec Ideal S1536 .f32) (ix1 g)) ((m ((c : Thread nD τ).loc main_arg9) : Vec Ideal S1536 .f32) (ix1 g)) := by
    entry_read
    exact stackB _ _ (⟨t.val, two t⟩ : Fin 2) g
  have e2 : (iblk m c 4 t : Vec Ideal S1x1x1536 .f32) (ix3 0 0 g) = (V m c main_v20 : Vec Ideal S2x1x1536 .f32) (ix3 (⟨t.val, two t⟩ : Fin 2) 0 g) := by
    unfold iblk
    blk_ext [(index4 t).1, (index4 t).2.1, (index4 t).2.2]
  exact e2.trans e1

/-- The first encoder's states, and the second's. -/
abbrev hidA (c : Dev nD) : ℕ → Fin 32 → Fin 512 → EReal :=
  hid (m ((c : Thread nD τ).loc main_arg0)) (m ((c : Thread nD τ).loc main_arg2)) (m ((c : Thread nD τ).loc main_arg3))
    (m ((c : Thread nD τ).loc main_arg4)) (m ((c : Thread nD τ).loc main_arg5))
abbrev hidB (c : Dev nD) : ℕ → Fin 32 → Fin 512 → EReal :=
  hid (m ((c : Thread nD τ).loc main_arg1)) (m ((c : Thread nD τ).loc main_arg6)) (m ((c : Thread nD τ).loc main_arg7))
    (m ((c : Thread nD τ).loc main_arg8)) (m ((c : Thread nD τ).loc main_arg9))

/-- The states a grid point computes are its encoder's. -/
theorem stateOf_at (c : Dev nD) (t : Fin cfg0.N) :
    stateOf (iblk m c 0 t) (iblk m c 1 t) (iblk m c 2 t) (iblk m c 3 t) (iblk m c 4 t) = pick t.val (hidA m c) (hidB m c) := by
  have e0 := inputs_at m c t
  have e1 := inputW_at m c t
  have e2 := stateW_at m c t
  have e3 := inputb_at m c t
  have e4 := stateb_at m c t
  have ht := two t
  unfold pick at *
  by_cases h : t.val < 1
  · simp only [if_pos h] at e0 e1 e2 e3 e4 ⊢
    unfold stateOf hidA hid
    simp only [e0, e1, e2, e3, e4]
  · simp only [if_neg h] at e0 e1 e2 e3 e4 ⊢
    unfold stateOf hidB hid
    simp only [e0, e1, e2, e3, e4]

theorem pick_congr (A B : ℕ → Fin 32 → Fin 512 → EReal) {s s' n n' : ℕ} {b b' : Fin 32} {j j' : Fin 512} (h1 : s = s') (h2 : n = n') (h3 : b = b') (h4 : j = j') :
    pick s A B n b j = pick s' A B n' b' j' := by
  subst h1 h2 h3 h4
  rfl

/-- A grid point's block of states, at every step and at the last. -/
def block5 (c : Dev nD) (t : Fin cfg0.N) : Vec Ideal S1x60x32x512 .f32 := fun y => pick t.val (hidA m c) (hidB m c) ((y 1).val + 1) (y 2) (y 3)
def block6 (c : Dev nD) (t : Fin cfg0.N) : Vec Ideal S1x32x512 .f32 := fun y => pick t.val (hidA m c) (hidB m c) 60 (y 1) (y 2)

theorem block5_eq (c : Dev nD) (t : Fin cfg0.N) : (dats m 0 c).after 5 t = block5 m c t := by
  refine (after0_5 m c t).trans ?_
  funext y
  refine (out5_at ..).trans ?_
  rw [stateOf_at]
  rfl

theorem block6_eq (c : Dev nD) (t : Fin cfg0.N) : (dats m 0 c).after 6 t = block6 m c t := by
  refine (after0_6 m c t).trans ?_
  unfold outsAt0
  dsimp only
  rw [out6_eq, stateOf_at]
  rfl

theorem ys_at (c : Dev nD) (s : Fin 2) (u : Fin 60) (b : Fin 32) (j : Fin 512) :
    ((dats m 0 c).arrAt 5 cfg0.N : Vec Ideal S2x60x32x512 .f32) (ix4 s u b j) = pick s.val (hidA m c) (hidB m c) (u.val + 1) b j := by
  refine (dats m 0 c).arrAt_forall_of_covers 5 (fun (i : S2x60x32x512.Idx) (x : EReal) =>
    x = pick (i 0).val (hidA m c) (hidB m c) ((i 1).val + 1) (i 2) (i 3))
    (by decide +kernel) (fun t hf y => ?_) (ix4 s u b j)
  have b1 : (y 1).val < 60 := (y 1).isLt
  have b2 : (y 2).val < 32 := (y 2).isLt
  have b3 : (y 3).val < 512 := (y 3).isLt
  have hx : (cfg0.win 5).xinj (cfg0.grid.coords t) y = ix4 (0 : Fin 1) (⟨(y 1).val, b1⟩ : Fin 60) (⟨(y 2).val, b2⟩ : Fin 32) (⟨(y 3).val, b3⟩ : Fin 512) := by
    funext a; fin_cases a
    · exact Subsingleton.elim (α := Fin 1) _ _
    · rfl
    · rfl
    · rfl
  have h0 : (y 0).val = 0 := Nat.lt_one_iff.mp (y 0).isLt
  refine Eq.trans (b := block5 m c t (ix4 (0 : Fin 1) (⟨(y 1).val, b1⟩ : Fin 60) (⟨(y 2).val, b2⟩ : Fin 32) (⟨(y 3).val, b3⟩ : Fin 512))) ?_ ?_
  · exact (congrFun (block5_eq m c t) _).trans (congrArg _ hx)
  · refine pick_congr _ _ ?_ ?_ ?_ ?_
    · blk_simp [(index5 t).1]
    · blk_simp [(index5 t).2.1]
    · apply Fin.ext; blk_simp [(index5 t).2.2.1]
    · apply Fin.ext; blk_simp [(index5 t).2.2.2]

theorem hT_at (c : Dev nD) (s : Fin 2) (b : Fin 32) (j : Fin 512) :
    ((dats m 0 c).arrAt 6 cfg0.N : Vec Ideal S2x32x512 .f32) (ix3 s b j) = pick s.val (hidA m c) (hidB m c) 60 b j := by
  refine (dats m 0 c).arrAt_forall_of_covers 6 (fun (i : S2x32x512.Idx) (x : EReal) =>
    x = pick (i 0).val (hidA m c) (hidB m c) 60 (i 1) (i 2))
    (by decide +kernel) (fun t hf y => ?_) (ix3 s b j)
  have b1 : (y 1).val < 32 := (y 1).isLt
  have b2 : (y 2).val < 512 := (y 2).isLt
  have hx : (cfg0.win 6).xinj (cfg0.grid.coords t) y = ix3 (0 : Fin 1) (⟨(y 1).val, b1⟩ : Fin 32) (⟨(y 2).val, b2⟩ : Fin 512) := by
    funext a; fin_cases a
    · exact Subsingleton.elim (α := Fin 1) _ _
    · rfl
    · rfl
  have h0 : (y 0).val = 0 := Nat.lt_one_iff.mp (y 0).isLt
  refine Eq.trans (b := block6 m c t (ix3 (0 : Fin 1) (⟨(y 1).val, b1⟩ : Fin 32) (⟨(y 2).val, b2⟩ : Fin 512))) ?_ ?_
  · exact (congrFun (block6_eq m c t) _).trans (congrArg _ hx)
  · refine pick_congr _ _ ?_ rfl ?_ ?_
    · blk_simp [(index6 t).1]
    · apply Fin.ext; blk_simp [(index6 t).2.1]
    · apply Fin.ext; blk_simp [(index6 t).2.2]

end Operands

end Cert.Enc

end
-- ==== Proof.ERef.lean ====
/-
  The encoders' reference: the states its loop carries are the gated recurrence's, so the two programs' results agree at any arguments.
-/
module

public import proofs.«01_k».proof.Proof.EVal
public import proofs.«01_k».proof.Proof.Gen.Reference3Ideal.Run
public import Idealize.ShloMosaic.Lib.Quiescent

@[expose] public section

set_option maxRecDepth 16384

noncomputable section

namespace Cert.Enc

open Idealize.ShloMosaic Idealize.ShloMosaic.TcCoe Idealize.SL.Sem

/-- The logistic as a quotient. -/
theorem logistic_eq (x : EReal) : Ideal.logistic x = Ideal.div 1 (1 + Ideal.exp (-x)) := by
  induction x with
  | bot =>
    have h : (1 : EReal) + ⊤ = ⊤ := EReal.coe_add_top 1
    simp [Ideal.div, h]
  | top => simp [Ideal.div]
  | coe r =>
    have h : (1 : EReal) + Ideal.exp (-(r : EReal)) = ((1 + Real.exp (-r) : ℝ) : EReal) := by
      rw [← EReal.coe_neg, EReal.coe_add]; rfl
    have p : (1 + Real.exp (-r) : ℝ) ≠ 0 := by positivity
    rw [h, Ideal.logistic_coe]
    unfold Ideal.div
    rw [if_neg (by exact_mod_cast p), one_mul, ← EReal.coe_inv]

open Cert.Reference3Ideal Cert.Reference3Ideal.Gen Cert.Reference3Ideal.Value

/-- One step's input rows, products and new states, as the reference writes them. -/
def refIn (X : FVec Ideal S60x32x300 .f32) (n : (⟨S_, .i32⟩ : BufTy).Contents (Elt Ideal)) (W : FVec Ideal S1536x300 .f32) (b : FVec Ideal S1536 .f32) : FVec Ideal S32x1536 .f32 :=
  addf (Host.dotGeneral dot_S32x300_S300x1536_S32x1536_1_0_0_1_n_n none (shapeCast S32x300 (Host.dynamicSlice S1x32x300 X (fun k => (((![n, constantI S_ 32 0#32, constantI S_ 32 0#32] : Fin 3 → (⟨S_, .i32⟩ : BufTy).Contents (Elt Ideal))) k (Shape.Idx.first h_S_)).toInt) sliceFits_S60x32x300_S1x32x300) shapeCasts_S1x32x300_S32x300) (transpose S300x1536 [1, 0] W transposes_S1536x300_S300x1536_1_0)) (broadcastInDim S32x1536 ![0, 1] bcast_S1x1536_S32x1536_0_1 (broadcastInDim S1x1536 ![1] bcast_S1536_S1x1536_1 b))

def refRec (H : FVec Ideal S32x512 .f32) (W : FVec Ideal S1536x512 .f32) (b : FVec Ideal S1536 .f32) : FVec Ideal S32x1536 .f32 :=
  addf (Host.dotGeneral dot_S32x512_S512x1536_S32x1536_1_0_0_1_n_n none H (transpose S512x1536 [1, 0] W transposes_S1536x512_S512x1536_1_0)) (broadcastInDim S32x1536 ![0, 1] bcast_S1x1536_S32x1536_0_1 (broadcastInDim S1x1536 ![1] bcast_S1536_S1x1536_1 b))

def refZ (A B : FVec Ideal S32x1536 .f32) : FVec Ideal S32x512 .f32 :=
  Host.divf (broadcastInDim S32x512 ![] bcast_S_S32x512 (constant S_ .f32 0x3F800000#32)) (addf (broadcastInDim S32x512 ![] bcast_S_S32x512 (constant S_ .f32 0x3F800000#32)) (Host.exp (Host.negf (addf (extractStridedSlice S32x512 ![0, 512] A slices_S32x1536_S32x512_0_512) (extractStridedSlice S32x512 ![0, 512] B slices_S32x1536_S32x512_0_512)))))

def refNew (A B : FVec Ideal S32x1536 .f32) (Z H : FVec Ideal S32x512 .f32) : FVec Ideal S32x512 .f32 :=
  addf (mulf (subf (broadcastInDim S32x512 ![] bcast_S_S32x512 (constant S_ .f32 0x3F800000#32)) Z) (Host.tanh (addf (extractStridedSlice S32x512 ![0, 1024] A slices_S32x1536_S32x512_0_1024) (mulf (Host.divf (broadcastInDim S32x512 ![] bcast_S_S32x512 (constant S_ .f32 0x3F800000#32)) (addf (broadcastInDim S32x512 ![] bcast_S_S32x512 (constant S_ .f32 0x3F800000#32)) (Host.exp (Host.negf (addf (extractStridedSlice S32x512 ![0, 0] A slices_S32x1536_S32x512_0_0) (extractStridedSlice S32x512 ![0, 0] B slices_S32x1536_S32x512_0_0)))))) (extractStridedSlice S32x512 ![0, 1024] B slices_S32x1536_S32x512_0_1024))))) (mulf Z H)

/-- The step number as a word. -/
abbrev ctr (k : ℕ) : (⟨S_, .i32⟩ : BufTy).Contents (Elt Ideal) := fun _ => Scf.iv 0#32 1#32 k

theorem ctr_int : ∀ k : Fin 60, (Scf.iv 0#32 1#32 k.val).toInt = (k.val : Int) := by decide +kernel

theorem refIn_at (X : FVec Ideal S60x32x300 .f32) (k : ℕ) (hk : k < 60) (W : FVec Ideal S1536x300 .f32) (b : FVec Ideal S1536 .f32) (s : Fin 32) (g : Fin 1536) :
    refIn X (ctr k) W b (ix2 s g) = lin (fun e => X (ix3 (⟨k, hk⟩ : Fin 60) s e)) (fun e g => W (ix2 g e)) (fun g => b (ix1 g)) g := by
  have hs : ∀ (u : Fin 32) (e : Fin 300), shapeCast S32x300 (Host.dynamicSlice S1x32x300 X (fun k' => (((![ctr k, constantI S_ 32 0#32, constantI S_ 32 0#32] : Fin 3 → (⟨S_, .i32⟩ : BufTy).Contents (Elt Ideal))) k' (Shape.Idx.first h_S_)).toInt) sliceFits_S60x32x300_S1x32x300) shapeCasts_S1x32x300_S32x300 (ix2 u e)
      = X (ix3 (⟨k, hk⟩ : Fin 60) u e) := by
    intro u e
    have hd : Host.dynamicSlice S1x32x300 X (fun k' => (((![ctr k, constantI S_ 32 0#32, constantI S_ 32 0#32] : Fin 3 → (⟨S_, .i32⟩ : BufTy).Contents (Elt Ideal))) k' (Shape.Idx.first h_S_)).toInt) sliceFits_S60x32x300_S1x32x300 (ix3 0 u e)
        = X (ix3 (⟨k, hk⟩ : Fin 60) u e) := by
      rw [Host.dynamicSlice_apply]
      congr 1
      funext a
      apply Fin.ext
      have h0 := ctr_int ⟨k, hk⟩
      fin_cases a
      · show Host.clampedStart _ _ _ _ _ + _ = k
        rw [Host.clampedStart_of_le _ _ _ k h0 (by show k + 1 ≤ 60; omega)]
        rfl
      · show Host.clampedStart _ _ _ _ _ + _ = u.val
        rw [Host.clampedStart_of_le _ _ _ 0 rfl (by decide)]
        exact Nat.zero_add _
      · show Host.clampedStart _ _ _ _ _ + _ = e.val
        rw [Host.clampedStart_of_le _ _ _ 0 rfl (by decide)]
        exact Nat.zero_add _
    rw [← hd]
    generalize Host.dynamicSlice S1x32x300 X _ _ = Y
    pointwise
  unfold refIn
  generalize shapeCast S32x300 _ _ = Y at hs ⊢
  unfold lin
  simp only [← hs]
  pointwise

theorem refRec_at (H : FVec Ideal S32x512 .f32) (W : FVec Ideal S1536x512 .f32) (b : FVec Ideal S1536 .f32) (s : Fin 32) (g : Fin 1536) :
    refRec H W b (ix2 s g) = lin (fun d => H (ix2 s d)) (fun d g => W (ix2 g d)) (fun g => b (ix1 g)) g := by
  unfold lin
  pointwise [refRec]

theorem refNew_at (A B : FVec Ideal S32x1536 .f32) (H : FVec Ideal S32x512 .f32) (s : Fin 32) (j : Fin 512) :
    refNew A B (refZ A B) H (ix2 s j) = cell (fun g => A (ix2 s g)) (fun g => B (ix2 s g)) (H (ix2 s j)) j := by
  unfold cell
  simp only [logistic_eq]
  pointwise [refNew, refZ]

/-- What the states after a step are stored into. -/
def refPut (Y : FVec Ideal S60x32x512 .f32) (H : FVec Ideal S32x512 .f32) (n : (⟨S_, .i32⟩ : BufTy).Contents (Elt Ideal)) : FVec Ideal S60x32x512 .f32 :=
  Host.dynamicUpdateSlice Y (broadcastInDim S1x32x512 ![1, 2] bcast_S32x512_S1x32x512_1_2 H) (fun k => (((![n, constantI S_ 32 0#32, constantI S_ 32 0#32] : Fin 3 → (⟨S_, .i32⟩ : BufTy).Contents (Elt Ideal))) k (Shape.Idx.first h_S_)).toInt) updateFits_S60x32x512_S1x32x512

theorem refPut_at (Y : FVec Ideal S60x32x512 .f32) (H : FVec Ideal S32x512 .f32) (k : ℕ) (hk : k < 60) (u : Fin 60) (b : Fin 32) (j : Fin 512) :
    refPut Y H (ctr k) (ix3 u b j) = if u.val = k then H (ix2 b j) else Y (ix3 u b j) := by
  have h0 := ctr_int ⟨k, hk⟩
  have c0 : Host.clampedStart S60x32x512 S1x32x512 updateFits_S60x32x512_S1x32x512.1 (fun k' => (((![ctr k, constantI S_ 32 0#32, constantI S_ 32 0#32] : Fin 3 → (⟨S_, .i32⟩ : BufTy).Contents (Elt Ideal))) k' (Shape.Idx.first h_S_)).toInt) 0 = k :=
    Host.clampedStart_of_le _ _ _ k h0 (by show k + 1 ≤ 60; omega)
  have c1 : Host.clampedStart S60x32x512 S1x32x512 updateFits_S60x32x512_S1x32x512.1 (fun k' => (((![ctr k, constantI S_ 32 0#32, constantI S_ 32 0#32] : Fin 3 → (⟨S_, .i32⟩ : BufTy).Contents (Elt Ideal))) k' (Shape.Idx.first h_S_)).toInt) 1 = 0 :=
    Host.clampedStart_of_le _ _ _ 0 rfl (by decide)
  have c2 : Host.clampedStart S60x32x512 S1x32x512 updateFits_S60x32x512_S1x32x512.1 (fun k' => (((![ctr k, constantI S_ 32 0#32, constantI S_ 32 0#32] : Fin 3 → (⟨S_, .i32⟩ : BufTy).Contents (Elt Ideal))) k' (Shape.Idx.first h_S_)).toInt) 2 = 0 :=
    Host.clampedStart_of_le _ _ _ 0 rfl (by decide)
  unfold refPut
  rw [Host.dynamicUpdateSlice_apply]
  by_cases h : u.val = k
  · rw [if_pos h, dif_pos]
    · have e : ∀ x : S1x32x512.Idx, (x 1).val = b.val → (x 2).val = j.val → broadcastInDim S1x32x512 ![1, 2] bcast_S32x512_S1x32x512_1_2 H x = H (ix2 b j) := by
        intro x h1 h2
        obtain rfl : x = ix3 0 b j := by
          funext a; fin_cases a
          · exact Subsingleton.elim (α := Fin 1) _ _
          · exact Fin.ext h1
          · exact Fin.ext h2
        pointwise
      refine e _ ?_ ?_
      · show b.val - Host.clampedStart S60x32x512 S1x32x512 _ _ 1 = b.val
        rw [c1]; rfl
      · show j.val - Host.clampedStart S60x32x512 S1x32x512 _ _ 2 = j.val
        rw [c2]; rfl
    · intro a
      fin_cases a
      · show Host.clampedStart S60x32x512 S1x32x512 _ _ 0 ≤ u.val ∧ u.val < Host.clampedStart S60x32x512 S1x32x512 _ _ 0 + 1
        rw [c0]; omega
      · show Host.clampedStart S60x32x512 S1x32x512 _ _ 1 ≤ b.val ∧ b.val < Host.clampedStart S60x32x512 S1x32x512 _ _ 1 + 32
        rw [c1]; omega
      · show Host.clampedStart S60x32x512 S1x32x512 _ _ 2 ≤ j.val ∧ j.val < Host.clampedStart S60x32x512 S1x32x512 _ _ 2 + 512
        rw [c2]; omega
  · rw [if_neg h, dif_neg]
    intro hin
    have ha := hin 0
    have hb : Host.clampedStart S60x32x512 S1x32x512 _ _ 0 ≤ u.val ∧ u.val < Host.clampedStart S60x32x512 S1x32x512 _ _ 0 + 1 := ha
    rw [c0] at hb
    omega

/-- What the loop carries before its `k`-th trip, at the ten arguments: the arguments, the step number, the two encoders' states
    and the states stored so far. -/
structure Carried (V : Valuation τ sig (Elt Ideal)) (A0 A1 : FVec Ideal S60x32x300 .f32) (A2 : FVec Ideal S1536x300 .f32) (A3 : FVec Ideal S1536x512 .f32) (A4 A5 : FVec Ideal S1536 .f32)
    (A6 : FVec Ideal S1536x300 .f32) (A7 : FVec Ideal S1536x512 .f32) (A8 A9 : FVec Ideal S1536 .f32) (k : ℕ) : Prop where
  a0 : V (Proc.devRef .tc main_v3_0) = A0
  a1 : V (Proc.devRef .tc main_v3_1) = A1
  a2 : V (Proc.devRef .tc main_v3_2) = A2
  a3 : V (Proc.devRef .tc main_v3_4) = A3
  a4 : V (Proc.devRef .tc main_v3_3) = A4
  a5 : V (Proc.devRef .tc main_v3_5) = A5
  a6 : V (Proc.devRef .tc main_v3_6) = A6
  a7 : V (Proc.devRef .tc main_v3_8) = A7
  a8 : V (Proc.devRef .tc main_v3_7) = A8
  a9 : V (Proc.devRef .tc main_v3_9) = A9
  n : V (Proc.devRef .tc main_v3_10) = ctr k
  h : ∀ b j, (V (Proc.devRef .tc main_v3_11) : FVec Ideal S32x512 .f32) (ix2 b j) = hid A0 A2 A3 A4 A5 k b j
  g : ∀ b j, (V (Proc.devRef .tc main_v3_12) : FVec Ideal S32x512 .f32) (ix2 b j) = hid A1 A6 A7 A8 A9 k b j
  hs : ∀ (u : Fin 60) b j, u.val < k → (V (Proc.devRef .tc main_v3_13) : FVec Ideal S60x32x512 .f32) (ix3 u b j) = hid A0 A2 A3 A4 A5 (u.val + 1) b j
  gs : ∀ (u : Fin 60) b j, u.val < k → (V (Proc.devRef .tc main_v3_14) : FVec Ideal S60x32x512 .f32) (ix3 u b j) = hid A1 A6 A7 A8 A9 (u.val + 1) b j

/-- One trip's new states, at a sentence and hidden unit. -/
theorem new_at (X : FVec Ideal S60x32x300 .f32) (Wi : FVec Ideal S1536x300 .f32) (Wh : FVec Ideal S1536x512 .f32) (bi bh : FVec Ideal S1536 .f32) (H : FVec Ideal S32x512 .f32)
    (k : ℕ) (hk : k < 60) (hH : ∀ b j, H (ix2 b j) = hid X Wi Wh bi bh k b j) (b : Fin 32) (j : Fin 512) :
    refNew (refIn X (ctr k) Wi bi) (refRec H Wh bh) (refZ (refIn X (ctr k) Wi bi) (refRec H Wh bh)) H (ix2 b j) = hid X Wi Wh bi bh (k + 1) b j := by
  rw [refNew_at]
  unfold hid
  rw [state_succ _ _ _ _ _ _ hk]
  congr 1
  · funext g; exact refIn_at X k hk Wi bi b g
  · funext g
    rw [refRec_at]
    congr 1
    funext d; exact hH b d
  · exact hH b j

variable {A0 A1 : FVec Ideal S60x32x300 .f32} {A2 : FVec Ideal S1536x300 .f32} {A3 : FVec Ideal S1536x512 .f32} {A4 A5 : FVec Ideal S1536 .f32}
  {A6 : FVec Ideal S1536x300 .f32} {A7 : FVec Ideal S1536x512 .f32} {A8 A9 : FVec Ideal S1536 .f32}

theorem v49_at {V : Valuation τ sig (Elt Ideal)} {k : ℕ} (hk : k < 60) (h : Carried V A0 A1 A2 A3 A4 A5 A6 A7 A8 A9 k) (b : Fin 32) (j : Fin 512) :
    (res_main_while0b_v49 V : FVec Ideal S32x512 .f32) (ix2 b j) = hid A0 A2 A3 A4 A5 (k + 1) b j := by
  have e : (res_main_while0b_v49 V : FVec Ideal S32x512 .f32)
      = refNew (refIn A0 (ctr k) A2 A4) (refRec (V (Proc.devRef .tc main_v3_11)) A3 A5) (refZ (refIn A0 (ctr k) A2 A4) (refRec (V (Proc.devRef .tc main_v3_11)) A3 A5)) (V (Proc.devRef .tc main_v3_11)) := by
    unfold res_main_while0b_v49 res_main_while0b_v41 res_main_while0b_v16 res_main_while0b_v21
    rw [h.a0, h.a2, h.a3, h.a4, h.a5, h.n]
    rfl
  rw [e]
  exact new_at A0 A2 A3 A4 A5 _ k hk h.h b j

theorem v87_at {V : Valuation τ sig (Elt Ideal)} {k : ℕ} (hk : k < 60) (h : Carried V A0 A1 A2 A3 A4 A5 A6 A7 A8 A9 k) (b : Fin 32) (j : Fin 512) :
    (res_main_while0b_v87 V : FVec Ideal S32x512 .f32) (ix2 b j) = hid A1 A6 A7 A8 A9 (k + 1) b j := by
  have e : (res_main_while0b_v87 V : FVec Ideal S32x512 .f32)
      = refNew (refIn A1 (ctr k) A6 A8) (refRec (V (Proc.devRef .tc main_v3_12)) A7 A9) (refZ (refIn A1 (ctr k) A6 A8) (refRec (V (Proc.devRef .tc main_v3_12)) A7 A9)) (V (Proc.devRef .tc main_v3_12)) := by
    unfold res_main_while0b_v87 res_main_while0b_v79 res_main_while0b_v54 res_main_while0b_v59
    rw [h.a1, h.a6, h.a7, h.a8, h.a9, h.n]
    rfl
  rw [e]
  exact new_at A1 A6 A7 A8 A9 _ k hk h.g b j

theorem put_at (f : ℕ → Fin 32 → Fin 512 → EReal) (Y : FVec Ideal S60x32x512 .f32) (H : FVec Ideal S32x512 .f32) (k : ℕ) (hk : k < 60)
    (hY : ∀ (u : Fin 60) b j, u.val < k → Y (ix3 u b j) = f (u.val + 1) b j) (hH : ∀ b j, H (ix2 b j) = f (k + 1) b j)
    (u : Fin 60) (b : Fin 32) (j : Fin 512) (hu : u.val < k + 1) : refPut Y H (ctr k) (ix3 u b j) = f (u.val + 1) b j := by
  rw [refPut_at _ _ _ hk]
  by_cases h : u.val = k
  · rw [if_pos h, hH, h]
  · rw [if_neg h, hY _ _ _ (by omega)]

theorem carried_step {V : Valuation τ sig (Elt Ideal)} {k : ℕ} (hk : k < 60) (h : Carried V A0 A1 A2 A3 A4 A5 A6 A7 A8 A9 k) :
    Carried (STEP V) A0 A1 A2 A3 A4 A5 A6 A7 A8 A9 (k + 1) where
  a0 := (STEP_main_v3_0 V).trans h.a0
  a1 := (STEP_main_v3_1 V).trans h.a1
  a2 := (STEP_main_v3_2 V).trans h.a2
  a3 := (STEP_main_v3_4 V).trans h.a3
  a4 := (STEP_main_v3_3 V).trans h.a4
  a5 := (STEP_main_v3_5 V).trans h.a5
  a6 := (STEP_main_v3_6 V).trans h.a6
  a7 := (STEP_main_v3_8 V).trans h.a7
  a8 := (STEP_main_v3_7 V).trans h.a8
  a9 := (STEP_main_v3_9 V).trans h.a9
  n := by
    rw [STEP_main_v3_10]
    unfold step_main_v3_10
    rw [h.n]
    funext i
    show Scf.iv 0#32 1#32 k + 1#32 = Scf.iv 0#32 1#32 (k + 1)
    rw [Scf.iv_succ]
  h := fun b j => by
    rw [STEP_main_v3_11]
    exact v49_at hk h b j
  g := fun b j => by
    rw [STEP_main_v3_12]
    exact v87_at hk h b j
  hs := fun u b j hu => by
    rw [STEP_main_v3_13]
    unfold step_main_v3_13
    rw [h.n]
    exact put_at (hid A0 A2 A3 A4 A5) _ _ k hk h.hs (v49_at hk h) u b j hu
  gs := fun u b j hu => by
    rw [STEP_main_v3_14]
    unfold step_main_v3_14
    rw [h.n]
    exact put_at (hid A1 A6 A7 A8 A9) _ _ k hk h.gs (v87_at hk h) u b j hu

variable (m : (ℓ : Loc nD τ sig) → Buf (Elt Ideal) ℓ)

theorem carried_zero (c : Dev nD) :
    Carried (StableHlo.entryContents preI m c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) 0 where
  a0 := by
    simp only [StableHlo.entryContents, StableHlo.afterL_cons, StableHlo.afterL_nil]
    after_reads_simp
    rfl
  a1 := by
    simp only [StableHlo.entryContents, StableHlo.afterL_cons, StableHlo.afterL_nil]
    after_reads_simp
    rfl
  a2 := by
    simp only [StableHlo.entryContents, StableHlo.afterL_cons, StableHlo.afterL_nil]
    after_reads_simp
    rfl
  a3 := by
    simp only [StableHlo.entryContents, StableHlo.afterL_cons, StableHlo.afterL_nil]
    after_reads_simp
    rfl
  a4 := by
    simp only [StableHlo.entryContents, StableHlo.afterL_cons, StableHlo.afterL_nil]
    after_reads_simp
    rfl
  a5 := by
    simp only [StableHlo.entryContents, StableHlo.afterL_cons, StableHlo.afterL_nil]
    after_reads_simp
    rfl
  a6 := by
    simp only [StableHlo.entryContents, StableHlo.afterL_cons, StableHlo.afterL_nil]
    after_reads_simp
    rfl
  a7 := by
    simp only [StableHlo.entryContents, StableHlo.afterL_cons, StableHlo.afterL_nil]
    after_reads_simp
    rfl
  a8 := by
    simp only [StableHlo.entryContents, StableHlo.afterL_cons, StableHlo.afterL_nil]
    after_reads_simp
    rfl
  a9 := by
    simp only [StableHlo.entryContents, StableHlo.afterL_cons, StableHlo.afterL_nil]
    after_reads_simp
    rfl
  n := ctr_entry m c
  h := fun b j => by
    have e : (StableHlo.entryContents preI m c (Proc.devRef .tc main_v3_11) : FVec Ideal S32x512 .f32) = broadcastInDim S32x512 ![] bcast_S_S32x512 (constant (F := Ideal) S_ .f32 0x00000000#32) := by
      simp only [StableHlo.entryContents, StableHlo.afterL_cons, StableHlo.afterL_nil]
      after_reads_simp
      rfl
    rw [e]
    show _ = (0 : EReal)
    pointwise
  g := fun b j => by
    have e : (StableHlo.entryContents preI m c (Proc.devRef .tc main_v3_12) : FVec Ideal S32x512 .f32) = broadcastInDim S32x512 ![] bcast_S_S32x512 (constant (F := Ideal) S_ .f32 0x00000000#32) := by
      simp only [StableHlo.entryContents, StableHlo.afterL_cons, StableHlo.afterL_nil]
      after_reads_simp
      rfl
    rw [e]
    show _ = (0 : EReal)
    pointwise
  hs := fun u b j hu => absurd hu (Nat.not_lt_zero _)
  gs := fun u b j hu => absurd hu (Nat.not_lt_zero _)

theorem carried (c : Dev nD) : ∀ k : ℕ, k ≤ 60 →
    Carried (STEP^[k] (StableHlo.entryContents preI m c)) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) k
  | 0 => fun _ => carried_zero m c
  | k + 1 => fun hk => by
    rw [Function.iterate_succ_apply']
    exact carried_step (by omega) (carried c k (by omega))

/-- The two results, from the arguments. -/
def allStates (A0 A1 : (⟨3, ![60, 32, 300]⟩ : Shape).Idx → EReal) (A2 : (⟨2, ![1536, 300]⟩ : Shape).Idx → EReal) (A3 : (⟨2, ![1536, 512]⟩ : Shape).Idx → EReal) (A4 A5 : (⟨1, ![1536]⟩ : Shape).Idx → EReal)
    (A6 : (⟨2, ![1536, 300]⟩ : Shape).Idx → EReal) (A7 : (⟨2, ![1536, 512]⟩ : Shape).Idx → EReal) (A8 A9 : (⟨1, ![1536]⟩ : Shape).Idx → EReal) : (⟨4, ![2, 60, 32, 512]⟩ : Shape).Idx → EReal :=
  fun i => pick (i 0).val (hid A0 A2 A3 A4 A5) (hid A1 A6 A7 A8 A9) ((i 1).val + 1) (i 2) (i 3)

def lastStates (A0 A1 : (⟨3, ![60, 32, 300]⟩ : Shape).Idx → EReal) (A2 : (⟨2, ![1536, 300]⟩ : Shape).Idx → EReal) (A3 : (⟨2, ![1536, 512]⟩ : Shape).Idx → EReal) (A4 A5 : (⟨1, ![1536]⟩ : Shape).Idx → EReal)
    (A6 : (⟨2, ![1536, 300]⟩ : Shape).Idx → EReal) (A7 : (⟨2, ![1536, 512]⟩ : Shape).Idx → EReal) (A8 A9 : (⟨1, ![1536]⟩ : Shape).Idx → EReal) : (⟨3, ![2, 32, 512]⟩ : Shape).Idx → EReal :=
  fun i => pick (i 0).val (hid A0 A2 A3 A4 A5) (hid A1 A6 A7 A8 A9) 60 (i 1) (i 2)

theorem stackYs (A B : FVec Ideal S60x32x512 .f32) (s : Fin 2) (u : Fin 60) (b : Fin 32) (j : Fin 512) :
    concatenate S2x60x32x512 0 [⟨S1x60x32x512, broadcastInDim S1x60x32x512 ![1, 2, 3] bcast_S60x32x512_S1x60x32x512_1_2_3 A⟩, ⟨S1x60x32x512, broadcastInDim S1x60x32x512 ![1, 2, 3] bcast_S60x32x512_S1x60x32x512_1_2_3 B⟩]
      concatenates_S1x60x32x512_S1x60x32x512_S2x60x32x512_d0 (ix4 s u b j) = pick s.val (A (ix3 u b j)) (B (ix3 u b j)) := by
  unfold pick
  pointwise
  rfl

theorem stackHT (A B : FVec Ideal S32x512 .f32) (s : Fin 2) (b : Fin 32) (j : Fin 512) :
    concatenate S2x32x512 0 [⟨S1x32x512, broadcastInDim S1x32x512 ![1, 2] bcast_S32x512_S1x32x512_1_2 A⟩, ⟨S1x32x512, broadcastInDim S1x32x512 ![1, 2] bcast_S32x512_S1x32x512_1_2 B⟩]
      concatenates_S1x32x512_S1x32x512_S2x32x512_d0 (ix3 s b j) = pick s.val (A (ix2 b j)) (B (ix2 b j)) := by
  unfold pick
  pointwise
  rfl

theorem out6_ref {V : Valuation τ sig (Elt Ideal)} (h : Carried V A0 A1 A2 A3 A4 A5 A6 A7 A8 A9 60) :
    (out_main_v6 V : FVec Ideal S2x60x32x512 .f32) = allStates A0 A1 A2 A3 A4 A5 A6 A7 A8 A9 := by
  funext i
  obtain ⟨s, u, b, j, rfl⟩ : ∃ (s : Fin 2) (u : Fin 60) (b : Fin 32) (j : Fin 512), i = ix4 s u b j := ⟨i 0, i 1, i 2, i 3, by
    funext a; fin_cases a <;> rfl⟩
  refine (stackYs _ _ s u b j).trans ?_
  rw [h.hs u b j u.isLt, h.gs u b j u.isLt]
  show _ = pick s.val (hid A0 A2 A3 A4 A5) (hid A1 A6 A7 A8 A9) (u.val + 1) b j
  unfold pick
  split <;> rfl

theorem out9_ref {V : Valuation τ sig (Elt Ideal)} (h : Carried V A0 A1 A2 A3 A4 A5 A6 A7 A8 A9 60) :
    (out_main_v9 V : FVec Ideal S2x32x512 .f32) = lastStates A0 A1 A2 A3 A4 A5 A6 A7 A8 A9 := by
  funext i
  obtain ⟨s, b, j, rfl⟩ : ∃ (s : Fin 2) (b : Fin 32) (j : Fin 512), i = ix3 s b j := ⟨i 0, i 1, i 2, by
    funext a; fin_cases a <;> rfl⟩
  refine (stackHT _ _ s b j).trans ?_
  rw [h.h b j, h.g b j]
  show _ = pick s.val (hid A0 A2 A3 A4 A5) (hid A1 A6 A7 A8 A9) 60 b j
  unfold pick
  split <;> rfl

end Cert.Enc

end
-- ==== Proof.ERun.lean ====
/-
  The two encoder programs' runs, ending at the same states.
-/
module

public import proofs.«01_k».proof.Proof.ERef

@[expose] public section

set_option maxRecDepth 16384

noncomputable section

namespace Cert.Enc

open Idealize.ShloMosaic Idealize.ShloMosaic.TcCoe Idealize.SL.Sem

section
open Cert.Kernel3Ideal Cert.Kernel3Ideal.Gen

theorem allStates_kernel (m : (ℓ : Loc nD τ sig) → Buf (Elt Ideal) ℓ) (c : Dev nD) : ((dats m 0 c).arrAt 5 cfg0.N : FVec Ideal S2x60x32x512 .f32) =
    allStates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine funext fun (i : S2x60x32x512.Idx) => ?_
  obtain ⟨s, u, b, j, rfl⟩ : ∃ (s : Fin 2) (u : Fin 60) (b : Fin 32) (j : Fin 512), i = ix4 s u b j := ⟨i 0, i 1, i 2, i 3, by
    funext a; fin_cases a <;> rfl⟩
  exact ys_at m c s u b j

theorem lastStates_kernel (m : (ℓ : Loc nD τ sig) → Buf (Elt Ideal) ℓ) (c : Dev nD) : ((dats m 0 c).arrAt 6 cfg0.N : FVec Ideal S2x32x512 .f32) =
    lastStates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine funext fun (i : S2x32x512.Idx) => ?_
  obtain ⟨s, b, j, rfl⟩ : ∃ (s : Fin 2) (b : Fin 32) (j : Fin 512), i = ix3 s b j := ⟨i 0, i 1, i 2, by
    funext a; fin_cases a <;> rfl⟩
  exact hT_at m c s b j

theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21_0) = allStates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v21_1) = lastStates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (allStates_kernel m c), (h c).2.1.trans (lastStates_kernel m c), (h c).2.2⟩) (Cert.Kernel3Ideal.Value.run_blocks m ρ)
end

section
open Cert.Reference3Ideal Cert.Reference3Ideal.Gen

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = allStates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v9) = lastStates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (out6_ref (carried m c 60 (le_refl _))), (h c).2.1.trans (out9_ref (carried m c 60 (le_refl _))), (h c).2.2⟩)
    (Cert.Reference3Ideal.Value.run m ρ)

theorem ref_sem (s : MemSt nD τ sig (Elt Ideal)) : s.sem = fun _ => 0 := sem_eq_zero_of_no_sems (by decide) s
end

end Cert.Enc

end
-- ==== Proof.Algebra.lean ====
/-
  The arithmetic behind the vocabulary distribution: the masked block sums of the exponentials add up to the sum over the
  whole vocabulary, and a quotient of exponentials is unchanged when the logits are shifted by their finite maximum.
-/
module

public import Idealize.ShloMosaic.Lib.Pointwise
public import Idealize.ShloMosaic.Lib.IdealHost

@[expose] public section

noncomputable section

namespace Cert.Vocab

open Idealize.ShloMosaic

/-- The numbers below `1024 * (n + 1)` that are below `50000`, split at `1024 * n`. -/
theorem sum_block {M : Type} [AddCommMonoid M] (f : Fin 50000 → M) (n : ℕ) :
    (∑ v : Fin 50000, if v.val < 1024 * (n + 1) then f v else 0)
      = (∑ v : Fin 50000, if v.val < 1024 * n then f v else 0)
        + ∑ q : Fin 1024, if h : 1024 * n + q.val < 50000 then f ⟨1024 * n + q.val, h⟩ else 0 := by
  have e : (∑ q : Fin 1024, if h : 1024 * n + q.val < 50000 then f ⟨1024 * n + q.val, h⟩ else 0)
      = ∑ v : Fin 50000, if 1024 * n ≤ v.val ∧ v.val < 1024 * (n + 1) then f v else 0 := by
    classical
    rw [← Finset.sum_filter, ← Finset.sum_filter_ne_zero (s := Finset.univ) (f := fun q : Fin 1024 => if h : 1024 * n + q.val < 50000 then f ⟨1024 * n + q.val, h⟩ else 0)]
    symm
    rw [← Finset.sum_filter_ne_zero]
    refine Finset.sum_bij (fun v hv => (⟨v.val - 1024 * n, by
      have := (Finset.mem_filter.mp (Finset.mem_filter.mp hv).1).2; omega⟩ : Fin 1024)) ?_ ?_ ?_ ?_
    · intro v hv
      obtain ⟨h1, h2⟩ := Finset.mem_filter.mp hv
      have h3 := (Finset.mem_filter.mp h1).2
      refine Finset.mem_filter.mpr ⟨Finset.mem_univ _, ?_⟩
      have h4 : 1024 * n + (v.val - 1024 * n) = v.val := by omega
      simp only [h4, v.isLt, dif_pos]
      exact h2
    · intro v hv w hw h
      have h1 := (Finset.mem_filter.mp (Finset.mem_filter.mp hv).1).2
      have h2 := (Finset.mem_filter.mp (Finset.mem_filter.mp hw).1).2
      have := congrArg Fin.val h
      simp only at this
      exact Fin.ext (by omega)
    · intro q hq
      have h2 := (Finset.mem_filter.mp hq).2
      have hlt : 1024 * n + q.val < 50000 := by
        by_contra hc; rw [dif_neg hc] at h2; exact h2 rfl
      rw [dif_pos hlt] at h2
      have := q.isLt
      refine ⟨⟨1024 * n + q.val, hlt⟩, Finset.mem_filter.mpr ⟨Finset.mem_filter.mpr ⟨Finset.mem_univ _, by
        constructor <;> simp only <;> omega⟩, h2⟩, Fin.ext (by simp only; omega)⟩
    · intro v hv
      have h3 := (Finset.mem_filter.mp (Finset.mem_filter.mp hv).1).2
      have h4 : 1024 * n + (v.val - 1024 * n) = v.val := by omega
      simp only [h4, v.isLt, dif_pos]
  rw [e, ← Finset.sum_add_distrib]
  refine Finset.sum_congr rfl fun v _ => ?_
  by_cases h1 : v.val < 1024 * n
  · rw [if_pos (by omega), if_pos h1, if_neg (by omega), add_zero]
  · by_cases h2 : v.val < 1024 * (n + 1)
    · rw [if_pos h2, if_neg h1, if_pos ⟨by omega, h2⟩, zero_add]
    · rw [if_neg h2, if_neg h1, if_neg (by omega), add_zero]

/-- A sum of real numbers, read in the extended reals. -/
theorem coe_sum {n : ℕ} (g : Fin n → ℝ) : (∑ w, ((g w : ℝ) : EReal)) = ((∑ w, g w : ℝ) : EReal) := by
  induction (Finset.univ : Finset (Fin n)) using Finset.induction_on with
  | empty => simp
  | insert a s ha ih => rw [Finset.sum_insert ha, Finset.sum_insert ha, ih, EReal.coe_add]

/-- At finite logits: a product with the reciprocal of the exponentials' sum is the quotient of the exponentials of the
    logits less their maximum by those exponentials' sum. -/
theorem shifted {n : ℕ} (l : Fin n → ℝ) (M : EReal) (hM : M = Finset.univ.fold max ⊥ fun v => ((l v : ℝ) : EReal)) (v : Fin n) :
    Ideal.exp (l v : ℝ) * Ideal.div 1 (∑ w, Ideal.exp ((l w : ℝ) : EReal))
      = Ideal.div (Ideal.exp (((l v : ℝ) : EReal) - M)) (∑ w, Ideal.exp (((l w : ℝ) : EReal) - M)) := by
  have hfin : ∃ x : ℝ, M = (x : EReal) := by
    have h1 : M < ⊤ := hM ▸ (Finset.fold_max_lt _).mpr ⟨bot_lt_top, fun w _ => EReal.coe_lt_top _⟩
    have h2 : ⊥ < M := hM ▸ (Finset.lt_fold_max _).mpr (Or.inr ⟨v, Finset.mem_univ _, EReal.bot_lt_coe _⟩)
    exact ⟨M.toReal, (EReal.coe_toReal h1.ne h2.ne').symm⟩
  obtain ⟨x, hx⟩ := hfin
  have hexp : ∀ y : ℝ, Ideal.exp ((y : ℝ) : EReal) = ((Real.exp y : ℝ) : EReal) := fun y => rfl
  have hsub : ∀ w, Ideal.exp (((l w : ℝ) : EReal) - M) = ((Real.exp (l w - x) : ℝ) : EReal) := fun w => by
    rw [hx, ← EReal.coe_sub, hexp]
  have hs := fun g : Fin n → ℝ => coe_sum g
  simp only [hsub, hexp, hs]
  have p1 : 0 < ∑ w, Real.exp (l w) := Finset.sum_pos (fun w _ => Real.exp_pos _) ⟨v, Finset.mem_univ _⟩
  have p2 : 0 < ∑ w, Real.exp (l w - x) := Finset.sum_pos (fun w _ => Real.exp_pos _) ⟨v, Finset.mem_univ _⟩
  unfold Ideal.div
  rw [if_neg (by exact_mod_cast p1.ne'), if_neg (by exact_mod_cast p2.ne'), one_mul, ← EReal.coe_inv, ← EReal.coe_inv,
    ← EReal.coe_mul, ← EReal.coe_mul]
  congr 1
  simp only [Real.exp_sub]
  rw [← Finset.sum_div]
  have := Real.exp_pos x
  field_simp

end Cert.Vocab

end
-- ==== Proof.DMath.lean ====
/-
  The arithmetic of the decoder's steps: what the kernel computes for one sentence, from products formed once before its loop,
  and what the reference computes step by step, are the same where the entries that meet in the rearranged products are real numbers.
-/
module

public import proofs.«01_k».proof.Proof.EVal
public import proofs.«01_k».proof.Proof.Algebra

@[expose] public section

noncomputable section

namespace Cert.Dec

open Idealize.ShloMosaic
open Cert.Enc (cell lin)
open Cert.Vocab (coe_sum)

/-- One sentence's operands: its response words, the encoders' outputs and last states, and the weights. -/
structure Sent where
  de : Fin 59 → Fin 300 → EReal
  K : Fin 60 → Fin 512 → EReal
  ca : Fin 512 → EReal
  se : Fin 512 → EReal
  sa : Fin 512 → EReal
  Wp : Fin 512 → Fin 1024 → EReal
  bp : Fin 512 → EReal
  Wl : Fin 512 → Fin 1324 → EReal
  bl : Fin 512 → EReal
  Wi : Fin 1536 → Fin 512 → EReal
  Wh : Fin 1536 → Fin 512 → EReal
  bi : Fin 1536 → EReal
  bh : Fin 1536 → EReal
  Wa : Fin 512 → Fin 512 → EReal
  Wc : Fin 512 → Fin 512 → EReal
  bc : Fin 512 → EReal

/-- The three parts of a joined row's positions. -/
abbrev p0 (e : Fin 300) : Fin 1324 := ⟨e.val, by omega⟩
abbrev p1 (k : Fin 512) : Fin 1324 := ⟨300 + k.val, by omega⟩
abbrev p2 (k : Fin 512) : Fin 1324 := ⟨812 + k.val, by omega⟩
abbrev q0 (k : Fin 512) : Fin 1024 := ⟨k.val, by omega⟩
abbrev q1 (k : Fin 512) : Fin 1024 := ⟨512 + k.val, by omega⟩

theorem sum_three (f : Fin 1324 → EReal) : (∑ i, f i) = (∑ e, f (p0 e)) + (∑ k, f (p1 k)) + ∑ k, f (p2 k) := by
  have h := Fin.sum_univ_add (a := 812) (b := 512) f
  have h' := Fin.sum_univ_add (a := 300) (b := 512) fun i : Fin 812 => f (Fin.castAdd 512 i)
  exact h.trans (congrArg (· + _) h')

theorem sum_two (f : Fin 1024 → EReal) : (∑ i, f i) = (∑ k, f (q0 k)) + ∑ k, f (q1 k) :=
  Fin.sum_univ_add (a := 512) (b := 512) f

section Steps
variable (S : Sent)

/-- The recurrence's new state from the sums of the step's input. -/
def hNew (gi : Fin 1536 → EReal) (h : Fin 512 → EReal) (j : Fin 512) : EReal :=
  cell gi (lin h (fun d g => S.Wh g d) S.bh) (h j) j

/-- The kernel's products before its loop. -/
def kPart (t : Fin 59) (o : Fin 512) : EReal := ∑ e : Fin 300, S.de t e * S.Wl o (p0 e)
def kCa (g : Fin 1536) : EReal := ∑ o : Fin 512, ((∑ k : Fin 512, S.ca k * S.Wl o (p1 k)) + S.bl o) * S.Wi g o
def kX (t : Fin 59) (g : Fin 1536) : EReal := (∑ o : Fin 512, kPart S t o * S.Wi g o) + (kCa S g + S.bi g)
def kM (k : Fin 512) (g : Fin 1536) : EReal := ∑ o : Fin 512, S.Wl o (p2 k) * S.Wi g o
def kA (s : Fin 60) (d : Fin 512) : EReal := ∑ e : Fin 512, S.K s e * S.Wa d e
def kC (s : Fin 60) (j : Fin 512) : EReal := ∑ e : Fin 512, S.K s e * S.Wc j e

/-- The kernel's step. -/
def kGi (t : Fin 59) (a : Fin 512 → EReal) (g : Fin 1536) : EReal := kX S t g + ∑ k : Fin 512, a k * kM S k g
def kScore (h : Fin 512 → EReal) (s : Fin 60) : EReal := ∑ d : Fin 512, kA S s d * h d
def kWt (l : Fin 60 → EReal) (s : Fin 60) : EReal := Ideal.exp (l s) * Ideal.div 1 (∑ w : Fin 60, Ideal.exp (l w))
def kAttn (h : Fin 512 → EReal) (j : Fin 512) : EReal :=
  Ideal.tanh ((∑ s : Fin 60, kC S s j * kWt (kScore S h) s) + S.bc j)
def kStart (j : Fin 512) : EReal :=
  Ideal.tanh (((∑ k : Fin 512, S.se k * S.Wp j (q0 k)) + ∑ k : Fin 512, S.sa k * S.Wp j (q1 k)) + S.bp j)

/-- The reference's step. -/
def rX (t : Fin 59) (a : Fin 512 → EReal) (o : Fin 512) : EReal :=
  ((∑ e : Fin 300, S.de t e * S.Wl o (p0 e)) + (∑ k : Fin 512, S.ca k * S.Wl o (p1 k)) + ∑ k : Fin 512, a k * S.Wl o (p2 k)) + S.bl o
def rGi (t : Fin 59) (a : Fin 512 → EReal) (g : Fin 1536) : EReal := (∑ o : Fin 512, rX S t a o * S.Wi g o) + S.bi g
def rScore (h : Fin 512 → EReal) (s : Fin 60) : EReal := ∑ e : Fin 512, (∑ d : Fin 512, h d * S.Wa d e) * S.K s e
def top (l : Fin 60 → EReal) : EReal := Finset.univ.fold max ⊥ l
def rWt (l : Fin 60 → EReal) (s : Fin 60) : EReal :=
  Ideal.div (Ideal.exp (l s - top l)) (∑ w : Fin 60, Ideal.exp (l w - top l))
def rAttn (h : Fin 512 → EReal) (j : Fin 512) : EReal :=
  Ideal.tanh ((∑ e : Fin 512, (∑ s : Fin 60, rWt (rScore S h) s * S.K s e) * S.Wc j e) + S.bc j)

/-- The recurrent state and the attention before each step, from either program's step. -/
def kState : ℕ → (Fin 512 → EReal) × (Fin 512 → EReal)
  | 0 => (kStart S, fun _ => 0)
  | k + 1 =>
    if hk : k < 59 then
      (hNew S (kGi S ⟨k, hk⟩ (kState k).2) (kState k).1, kAttn S (hNew S (kGi S ⟨k, hk⟩ (kState k).2) (kState k).1))
    else kState k

def rState : ℕ → (Fin 512 → EReal) × (Fin 512 → EReal)
  | 0 => (kStart S, fun _ => 0)
  | k + 1 =>
    if hk : k < 59 then
      (hNew S (rGi S ⟨k, hk⟩ (rState k).2) (rState k).1, rAttn S (hNew S (rGi S ⟨k, hk⟩ (rState k).2) (rState k).1))
    else rState k

theorem kState_succ (k : ℕ) (hk : k < 59) :
    kState S (k + 1) = (hNew S (kGi S ⟨k, hk⟩ (kState S k).2) (kState S k).1, kAttn S (hNew S (kGi S ⟨k, hk⟩ (kState S k).2) (kState S k).1)) := by
  rw [kState, dif_pos hk]

theorem rState_succ (k : ℕ) (hk : k < 59) :
    rState S (k + 1) = (hNew S (rGi S ⟨k, hk⟩ (rState S k).2) (rState S k).1, rAttn S (hNew S (rGi S ⟨k, hk⟩ (rState S k).2) (rState S k).1)) := by
  rw [rState, dif_pos hk]

end Steps

/-- A number that is real. -/
def Re (x : EReal) : Prop := ∃ y : ℝ, x = (y : EReal)

theorem Re.logistic (x : EReal) : Re (Ideal.logistic x) := by
  induction x with
  | bot => exact ⟨0, by simp⟩
  | top => exact ⟨1, by simp⟩
  | coe r => exact ⟨_, Ideal.logistic_coe r⟩

theorem Re.tanh (x : EReal) : Re (Ideal.tanh x) := by
  induction x with
  | bot => exact ⟨-1, by simp⟩
  | top => exact ⟨1, by simp⟩
  | coe r => exact ⟨_, Ideal.tanh_coe r⟩

theorem Re.cell (gi gh : Fin 1536 → EReal) (h : EReal) (hh : Re h) (j : Fin 512) : Re (cell gi gh h j) := by
  obtain ⟨z, hz⟩ := Re.logistic (gi ⟨512 + j.val, by omega⟩ + gh ⟨512 + j.val, by omega⟩)
  obtain ⟨n, hn⟩ := Re.tanh (gi ⟨1024 + j.val, by omega⟩ + Ideal.logistic (gi ⟨j.val, by omega⟩ + gh ⟨j.val, by omega⟩) * gh ⟨1024 + j.val, by omega⟩)
  obtain ⟨y, rfl⟩ := hh
  refine ⟨(1 - z) * n + z * y, ?_⟩
  unfold Cert.Enc.cell
  rw [hz, hn, ← EReal.coe_one]
  simp only [← EReal.coe_mul, ← EReal.coe_add, ← EReal.coe_sub]

/-- The operands whose products are rearranged are real. -/
structure Sent.Real (S : Sent) : Prop where
  de : ∀ t e, Re (S.de t e)
  K : ∀ s e, Re (S.K s e)
  ca : ∀ k, Re (S.ca k)
  Wl : ∀ o i, Re (S.Wl o i)
  bl : ∀ o, Re (S.bl o)
  Wi : ∀ g o, Re (S.Wi g o)
  Wa : ∀ d e, Re (S.Wa d e)
  Wc : ∀ j e, Re (S.Wc j e)

/-- The input's sums, with the order of the two products exchanged, over the reals. -/
theorem gi_real {n m : ℕ} (A B : Fin m → ℝ) (b : Fin m → ℝ) (W : Fin m → ℝ) (a : Fin n → ℝ) (L : Fin m → Fin n → ℝ) :
    (∑ o, A o * W o) + (∑ o, (B o + b o) * W o) + (∑ k, a k * ∑ o, L o k * W o)
      = ∑ o, (A o + B o + (∑ k, a k * L o k) + b o) * W o := by
  have h : (∑ k, a k * ∑ o, L o k * W o) = ∑ o, (∑ k, a k * L o k) * W o := by
    simp only [Finset.mul_sum, Finset.sum_mul]
    rw [Finset.sum_comm]
    refine Finset.sum_congr rfl fun o _ => Finset.sum_congr rfl fun k _ => by ring
  rw [h, ← Finset.sum_add_distrib, ← Finset.sum_add_distrib]
  refine Finset.sum_congr rfl fun o _ => by ring

theorem exchange {n m : ℕ} (x : Fin n → ℝ) (Y : Fin n → Fin m → ℝ) (z : Fin m → ℝ) :
    (∑ e, (∑ d, x d * Y d e) * z e) = ∑ d, (∑ e, z e * Y d e) * x d := by
  simp only [Finset.sum_mul]
  rw [Finset.sum_comm]
  refine Finset.sum_congr rfl fun d _ => Finset.sum_congr rfl fun e _ => by ring

variable {S : Sent}

theorem gi_eq (hS : S.Real) (t : Fin 59) (a : Fin 512 → EReal) (ha : ∀ k, Re (a k)) : kGi S t a = rGi S t a := by
  funext g
  choose de hde using hS.de t
  choose ca hca using hS.ca
  choose Wl hWl using hS.Wl
  choose bl hbl using hS.bl
  choose Wi hWi using hS.Wi g
  choose a' ha' using ha
  unfold kGi rGi kX kCa kPart kM rX
  simp only [hde, hca, hWl, hbl, hWi, ha', ← EReal.coe_mul, coe_sum, ← EReal.coe_add]
  rw [← gi_real, EReal.coe_add, EReal.coe_add]
  abel

theorem score_eq (hS : S.Real) (h : Fin 512 → EReal) (hh : ∀ j, Re (h j)) : kScore S h = rScore S h ∧ ∀ s, Re (kScore S h s) := by
  choose h' hh' using hh
  choose K hK using hS.K
  choose Wa hWa using hS.Wa
  refine ⟨?_, fun s => ?_⟩
  · funext s
    unfold kScore rScore kA
    simp only [hh', hK, hWa, ← EReal.coe_mul, coe_sum]
    rw [exchange]
  · unfold kScore kA
    simp only [hh', hK, hWa, ← EReal.coe_mul, coe_sum]
    exact ⟨_, rfl⟩

theorem wt_eq (l : Fin 60 → EReal) (hl : ∀ s, Re (l s)) (s : Fin 60) : kWt l s = rWt l s ∧ Re (kWt l s) := by
  choose l' hl' using hl
  obtain rfl : l = fun s => ((l' s : ℝ) : EReal) := funext hl'
  refine ⟨Cert.Vocab.shifted l' _ rfl s, ?_⟩
  have hexp : ∀ y : ℝ, Ideal.exp ((y : ℝ) : EReal) = ((Real.exp y : ℝ) : EReal) := fun y => rfl
  have p1 : 0 < ∑ w, Real.exp (l' w) := Finset.sum_pos (fun w _ => Real.exp_pos _) ⟨s, Finset.mem_univ _⟩
  unfold kWt Ideal.div
  simp only [hexp, coe_sum]
  rw [if_neg (by exact_mod_cast p1.ne'), one_mul, ← EReal.coe_inv, ← EReal.coe_mul]
  exact ⟨_, rfl⟩

theorem attn_eq (hS : S.Real) (h : Fin 512 → EReal) (hh : ∀ j, Re (h j)) : kAttn S h = rAttn S h := by
  obtain ⟨e, hr⟩ := score_eq hS h hh
  funext j
  have hw : ∀ s, rWt (rScore S h) s = kWt (kScore S h) s := fun s => by rw [← e]; exact (wt_eq _ hr s).1.symm
  choose w hw' using fun s => (wt_eq _ hr s).2
  choose K hK using hS.K
  choose Wc hWc using hS.Wc j
  unfold kAttn rAttn kC
  simp only [hw, hw', hK, hWc, ← EReal.coe_mul, coe_sum]
  rw [exchange (fun s => w s) K Wc]
  congr 3
  refine Finset.sum_congr rfl fun s _ => ?_
  congr 1
  exact Finset.sum_congr rfl fun d _ => mul_comm _ _

/-- The two programs' states are the same, and real. -/
theorem state_eq (hS : S.Real) : ∀ k : ℕ, kState S k = rState S k ∧ (∀ j, Re ((kState S k).1 j)) ∧ ∀ j, Re ((kState S k).2 j)
  | 0 => ⟨rfl, fun j => Re.tanh _, fun j => ⟨0, rfl⟩⟩
  | k + 1 => by
    obtain ⟨e, h1, h2⟩ := state_eq hS k
    by_cases hk : k < 59
    · have hh : ∀ j, Re (hNew S (kGi S ⟨k, hk⟩ (kState S k).2) (kState S k).1 j) := fun j => Re.cell _ _ _ (h1 j) j
      have hg := gi_eq hS ⟨k, hk⟩ _ h2
      rw [kState_succ S k hk, rState_succ S k hk, ← e, ← hg, ← attn_eq hS _ hh]
      exact ⟨rfl, hh, fun j => Re.tanh _⟩
    · rw [kState, rState, dif_neg hk, dif_neg hk]
      exact ⟨e, h1, h2⟩

end Cert.Dec

end
-- ==== Proof.DSent.lean ====
/-
  A sentence of the decoder from the arguments as they are passed, and the array of outputs that both programs end with.
-/
module

public import proofs.«01_k».proof.Proof.DMath

@[expose] public section

noncomputable section

namespace Cert.Dec

open Idealize.ShloMosaic Idealize.ShloMosaic.TcCoe

/-- Two rows side by side. -/
def side (x y : Fin 512 → EReal) (j : Fin 1024) : EReal :=
  if h : j.val < 512 then x ⟨j.val, h⟩ else y ⟨j.val - 512, by omega⟩

/-- A sentence's row of outputs: the state and the attention after a step, and nought past the last. -/
def outRow (S : Sent) (t : ℕ) (j : Fin 1024) : EReal :=
  if t < 59 then side (kState S (t + 1)).1 (kState S (t + 1)).2 j else 0

variable (A0 : (⟨3, ![59, 32, 300]⟩ : Shape).Idx → EReal) (A1 : (⟨3, ![60, 32, 512]⟩ : Shape).Idx → EReal) (A2 A3 A4 : (⟨2, ![32, 512]⟩ : Shape).Idx → EReal)
  (A5 : (⟨2, ![512, 1024]⟩ : Shape).Idx → EReal) (A6 : (⟨1, ![512]⟩ : Shape).Idx → EReal) (A7 : (⟨2, ![512, 1324]⟩ : Shape).Idx → EReal) (A8 : (⟨1, ![512]⟩ : Shape).Idx → EReal)
  (A9 A10 : (⟨2, ![1536, 512]⟩ : Shape).Idx → EReal) (A11 A12 : (⟨1, ![1536]⟩ : Shape).Idx → EReal) (A13 A14 : (⟨2, ![512, 512]⟩ : Shape).Idx → EReal) (A15 : (⟨1, ![512]⟩ : Shape).Idx → EReal)

/-- A sentence, from the sixteen arguments. -/
def sentOf (b : Fin 32) : Sent where
  de t e := A0 (ix3 t b e)
  K s e := A1 (ix3 s b e)
  ca k := A2 (ix2 b k)
  se k := A3 (ix2 b k)
  sa k := A4 (ix2 b k)
  Wp j i := A5 (ix2 j i)
  bp j := A6 (ix1 j)
  Wl o i := A7 (ix2 o i)
  bl o := A8 (ix1 o)
  Wi g o := A9 (ix2 g o)
  Wh g d := A10 (ix2 g d)
  bi g := A11 (ix1 g)
  bh g := A12 (ix1 g)
  Wa d e := A13 (ix2 d e)
  Wc j e := A14 (ix2 j e)
  bc j := A15 (ix1 j)

/-- The sentence of a half at a position in it. -/
abbrev srow (s : Fin 2) (b : Fin 16) : Fin 32 := ⟨16 * s.val + b.val, by omega⟩

/-- The outputs of all sentences, ordered in halves. -/
def decoded : (⟨4, ![2, 64, 16, 1024]⟩ : Shape).Idx → EReal :=
  fun i => outRow (sentOf A0 A1 A2 A3 A4 A5 A6 A7 A8 A9 A10 A11 A12 A13 A14 A15 (srow (i 0) (i 2))) (i 1).val (i 3)

end Cert.Dec

end
-- ==== Proof.DPay.lean ====
/-
  The decoder kernel's expressions at an index: the products formed before its loop and one step's operations.
-/
module

public import proofs.«01_k».proof.Proof.DSent
public import proofs.«01_k».proof.Proof.Gen.Kernel4Ideal.Skeleton

@[expose] public section

set_option maxRecDepth 16384

noncomputable section

namespace Cert.Dec

open Idealize.ShloMosaic Idealize.ShloMosaic.TcCoe
open Cert.Enc (cell lin)
open Cert.Kernel4Ideal Cert.Kernel4Ideal.Gen

theorem pay10_at (v0 : Vec Ideal S16x512 .f32) (v1 : Vec Ideal S512x512 .f32) (v4 : Vec Ideal S16x512 .f32) (v5 : Vec Ideal S512x512 .f32) (v9 : Vec Ideal S1x512 .f32) (b : Fin 16) (j : Fin 512) :
    k0_pay10 v0 v1 v4 v5 v9 (ix2 b j) = Ideal.tanh (((∑ k : Fin 512, v0 (ix2 b k) * v1 (ix2 k j)) + ∑ k : Fin 512, v4 (ix2 b k) * v5 (ix2 k j)) + v9 (ix2 0 j)) := by
  pointwise [k0_pay10]

theorem pay5_at (b : Fin 16) (j : Fin 512) : k0_pay5 (F := Ideal) (ix2 b j) = (0 : EReal) := by
  pointwise [k0_pay5]

theorem pay2_at (t : Fin 8) (b : Fin 16) (j : Fin 1024) : k0_pay2 (F := Ideal) (ix4 0 t b j) = (0 : EReal) := by
  pointwise [k0_pay2]

theorem pay14_at (v14 : Vec Ideal S16x512 .f32) (v15 : Vec Ideal S512x512 .f32) (v18 : Vec Ideal S59x16x300 .f32) (v20 : Vec Ideal S512x1536 .f32) (v22 : Vec Ideal S300x512 .f32)
    (v25 : Vec Ideal S1x512 .f32) (v30 : Vec Ideal S1x1536 .f32) (t : Fin 59) (b : Fin 16) (g : Fin 1536) :
    k0_pay14 (k0_pay11 v20) (k0_pay12 v18 v22) (k0_pay13 v14 v15 v20 v25) v30 (ix3 t b g)
      = (∑ o : Fin 512, (∑ e : Fin 300, v18 (ix3 t b e) * v22 (ix2 e o)) * v20 (ix2 o g))
        + ((∑ o : Fin 512, ((∑ k : Fin 512, v14 (ix2 b k) * v15 (ix2 k o)) + v25 (ix2 0 o)) * v20 (ix2 o g)) + v30 (ix2 0 g)) := by
  pointwise [k0_pay14, k0_pay11, k0_pay12, k0_pay13]

theorem pay15_at (v20 : Vec Ideal S512x1536 .f32) (v42 : Vec Ideal S512x512 .f32) (k : Fin 512) (g : Fin 1536) :
    k0_pay15 (k0_pay11 v20) v42 (ix2 k g) = ∑ o : Fin 512, v42 (ix2 k o) * v20 (ix2 o g) := by
  pointwise [k0_pay15, k0_pay11]

theorem pay17_at (v48 : Vec Ideal S60x16x512 .f32) (v50 : Vec Ideal S512x512 .f32) (s : Fin 60) (b : Fin 16) (d : Fin 512) :
    k0_pay17 v48 v50 (ix3 s b d) = ∑ e : Fin 512, v48 (ix3 s b e) * v50 (ix2 d e) := by
  pointwise [k0_pay17, k0_pay16]

theorem pay18_at (v48 : Vec Ideal S60x16x512 .f32) (v56 : Vec Ideal S512x512 .f32) (s : Fin 60) (b : Fin 16) (j : Fin 512) :
    k0_pay1 (k0_pay18 v48 v56) (ix3 s b j) = ∑ e : Fin 512, v48 (ix3 s b e) * v56 (ix2 e j) := by
  pointwise [k0_pay1, k0_pay18, k0_pay16]

theorem pay8_at (v67 : Vec Ideal S512x1536 .f32) (v69 : Vec Ideal S1x1536 .f32) (h a : FVec Ideal S16x512 .f32) (v77 : Vec Ideal S1x16x1536 .f32) (v79 : Vec Ideal S512x1536 .f32) (b : Fin 16) (j : Fin 512) :
    k0_pay8 (k0_pay3 v67) (k0_pay4 v69) h a v77 v79 (ix2 b j)
      = cell (fun g => v77 (ix3 0 b g) + ∑ k : Fin 512, a (ix2 b k) * v79 (ix2 k g)) (lin (fun d => h (ix2 b d)) (fun d g => v67 (ix2 d g)) (fun g => v69 (ix2 0 g))) (h (ix2 b j)) j := by
  unfold cell lin
  pointwise [k0_pay8, k0_pay3, k0_pay4]

theorem pay9_at (v68 : FVec Ideal S512x1536 .f32) (v70 : FVec Ideal S1x1536 .f32) (h a : FVec Ideal S16x512 .f32) (v77 : Vec Ideal S1x16x1536 .f32) (v79 : Vec Ideal S512x1536 .f32)
    (v103 v116 : Vec Ideal S60x16x512 .f32) (s : Fin 60) (b : Fin 16) (j : Fin 512) :
    k0_pay9 v68 v70 h a v77 v79 v103 v116 (ix3 s b j)
      = v116 (ix3 s b j) * kWt (fun s => ∑ d : Fin 512, v103 (ix3 s b d) * k0_pay8 v68 v70 h a v77 v79 (ix2 b d)) s := by
  unfold k0_pay9 kWt
  generalize k0_pay8 v68 v70 h a v77 v79 = x
  pointwise

theorem pay6_at (v71 : Vec Ideal S1x512 .f32) (v118 : FVec Ideal S60x16x512 .f32) (b : Fin 16) (j : Fin 512) :
    k0_pay6 v71 v118 (ix2 b j) = Ideal.tanh ((∑ s : Fin 60, v118 (ix3 s b j)) + v71 (ix2 0 j)) := by
  pointwise [k0_pay6]

theorem pay7_at (v71 : Vec Ideal S1x512 .f32) (v102 : FVec Ideal S16x512 .f32) (v118 : FVec Ideal S60x16x512 .f32) (b : Fin 16) (j : Fin 1024) :
    k0_pay7 v71 v102 v118 (ix4 0 0 b j) = side (fun j => v102 (ix2 b j)) (fun j => k0_pay6 v71 v118 (ix2 b j)) j := by
  unfold k0_pay7 side
  generalize k0_pay6 v71 v118 = x
  pointwise

theorem trips_eq : k0_t1_loop.trips = 59 := by decide +kernel
theorem off1_eq : ∀ k : Fin k0_t1_loop.trips, k0_off1 k = ![k.val, 0, 0] := by decide +kernel
theorem off2_eq : ∀ k : Fin k0_t1_loop.trips, k0_off2 k = ![0, k.val, 0, 0] := by decide +kernel

end Cert.Dec

end
-- ==== Proof.DVal.lean ====
/-
  What the decoder's kernel leaves at the ideal values: at each half of the sentences, step, sentence and position, the recurrent
  state or the attention after that step, and nought past the last step.
-/
module

public import proofs.«01_k».proof.Proof.DPay
public import proofs.«01_k».proof.Proof.Gen.Kernel4Ideal.Value
public import Idealize.ShloMosaic.Lib.VecWindow
public import Idealize.ShloMosaic.Lib.Pipeline.ValueKit
public import Idealize.ShloMosaic.Lib.Pipeline.ReadBack

@[expose] public section

set_option maxRecDepth 16384

noncomputable section

namespace Cert.Dec

open Idealize.ShloMosaic Idealize.ShloMosaic.TcCoe
open Cert.Enc (cell lin)
open Cert.Kernel4Ideal Cert.Kernel4Ideal.Gen

theorem pay2_zero (x : S1x8x16x1024.Idx) : k0_pay2 (F := Ideal) x = (0 : EReal) := by
  obtain ⟨t, b, j, rfl⟩ : ∃ (t : Fin 8) (b : Fin 16) (j : Fin 1024), x = ix4 0 t b j := ⟨x 1, x 2, x 3, by
    funext a; fin_cases a
    · exact Subsingleton.elim (α := Fin 1) _ _
    · rfl
    · rfl
    · rfl⟩
  exact pay2_at t b j

/-- A step's store covers the outputs of that step. -/
theorem step_covers (k : Fin k0_t1_loop.trips) (w : Vec Ideal S1x1x16x1024 .f32) (L : List (View.Piece (Elt Ideal) S1x64x16x1024 .f32)) (y : S1x64x16x1024.Idx) (h : (y 1).val = k.val) :
    ∃ p ∈ ([⟨Rect.unit (s := S1x64x16x1024) (k0_off2 k) S1x1x16x1024.size (k0_off2_inb k), w⟩] ++ L : List (View.Piece (Elt Ideal) S1x64x16x1024 .f32)), y ∈ p.1.set := by
  refine ⟨⟨Rect.unit (s := S1x64x16x1024) (k0_off2 k) S1x1x16x1024.size (k0_off2_inb k), w⟩, List.mem_cons_self, ?_⟩
  obtain ⟨b, j, hb⟩ : ∃ (b : Fin 16) (j : Fin 1024), (Rect.unit (s := S1x64x16x1024) (k0_off2 k) S1x1x16x1024.size (k0_off2_inb k)).emb (ix4 0 0 b j) = y := ⟨y 2, y 3, by
    funext a; apply Fin.ext; refine (Rect.idx_unit_val ..).trans ?_; rw [congrFun (off2_eq k) a]
    have h0 : (y 0).val = 0 := Nat.lt_one_iff.mp (y 0).isLt
    fin_cases a <;> simp [h, h0]⟩
  rw [← hb]
  exact LoadRect.idx_mem _ _

section Run

variable (c : Dev nD) (i : grid0.Coords) (arg1 : Memref sig .tc .vmem S59x16x300 .f32) (harg1 : arg1.IsWhole) (arg2 : Memref sig .tc .vmem S60x16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S300x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1x512 .f32) (harg12 : arg12.IsWhole) (arg13 : Memref sig .tc .vmem S512x1536 .f32) (harg13 : arg13.IsWhole) (arg14 : Memref sig .tc .vmem S512x1536 .f32) (harg14 : arg14.IsWhole) (arg15 : Memref sig .tc .vmem S1x1536 .f32) (harg15 : arg15.IsWhole) (arg16 : Memref sig .tc .vmem S1x1536 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S1x512 .f32) (harg19 : arg19.IsWhole) (arg20 : Memref sig .tc .vmem S1x64x16x1024 .f32) (harg20 : arg20.IsWhole) (arg21 : Memref sig .tc .vmem S59x16x1536 .f32) (harg21 : arg21.IsWhole) (arg22 : Memref sig .tc .vmem S512x1536 .f32) (harg22 : arg22.IsWhole) (arg23 : Memref sig .tc .vmem S60x16x512 .f32) (harg23 : arg23.IsWhole) (arg24 : Memref sig .tc .vmem S60x16x512 .f32) (harg24 : arg24.IsWhole)
  (v67 : Vec Ideal S512x1536 .f32) (v69 : Vec Ideal S1x1536 .f32) (v71 : Vec Ideal S1x512 .f32)
  (Z1 : BufTy.Contents (Elt Ideal) arg21.view.ty) (Z2 : BufTy.Contents (Elt Ideal) arg22.view.ty) (Z3 : BufTy.Contents (Elt Ideal) arg23.view.ty) (Z4 : BufTy.Contents (Elt Ideal) arg24.view.ty)

/-- The rows a step loads from the first scratch buffer, and the three buffers it loads whole. -/
def rows (k : Fin k0_t1_loop.trips) : Vec Ideal S1x16x1536 .f32 :=
  View.readAt (Elt Ideal) arg21.view (Rect.unit (s := S59x16x1536) (k0_off1 k) S1x16x1536.size (k0_off1_inb k)).toLoadRect Z1
abbrev ld2 : Vec Ideal S512x1536 .f32 := View.readAt (Elt Ideal) arg22.view (Rect.unit (s := S512x1536) ![0, 0] S512x1536.size inb_S512x1536_S512x1536_0_0).toLoadRect Z2
abbrev ld3 : Vec Ideal S60x16x512 .f32 := View.readAt (Elt Ideal) arg23.view (Rect.unit (s := S60x16x512) ![0, 0, 0] S60x16x512.size inb_S60x16x512_S60x16x512_0_0_0).toLoadRect Z3
abbrev ld4 : Vec Ideal S60x16x512 .f32 := View.readAt (Elt Ideal) arg24.view (Rect.unit (s := S60x16x512) ![0, 0, 0] S60x16x512.size inb_S60x16x512_S60x16x512_0_0_0).toLoadRect Z4

theorem ld2_eq : ld2 arg22 Z2 = arg22.view.read (Elt Ideal) Z2 := by
  unfold ld2
  rw [View.readAt_full]

theorem ld3_eq : ld3 arg23 Z3 = arg23.view.read (Elt Ideal) Z3 := by
  unfold ld3
  rw [View.readAt_full]

theorem ld4_eq : ld4 arg24 Z4 = arg24.view.read (Elt Ideal) Z4 := by
  unfold ld4
  rw [View.readAt_full]

theorem rows_at (k : Fin k0_t1_loop.trips) (hk : k.val < 59) (b : Fin 16) (g : Fin 1536) :
    rows arg21 Z1 k (ix3 0 b g) = arg21.view.read (Elt Ideal) Z1 (ix3 (⟨k.val, hk⟩ : Fin 59) b g) := by
  unfold rows
  refine View.ld_unit_apply_of _ _ _ _ _ _ fun a => ?_
  rw [congrFun (off1_eq k) a]
  fin_cases a <;> simp

/-- One trip's new state and its weighted rows, from what it loads. -/
def newH (k : Fin k0_t1_loop.trips) (a : FVec Ideal S16x512 .f32 × FVec Ideal S16x512 .f32) : FVec Ideal S16x512 .f32 :=
  k0_pay8 (k0_pay3 v67) (k0_pay4 v69) a.1 a.2 (rows arg21 Z1 k) (ld2 arg22 Z2)
def newW (k : Fin k0_t1_loop.trips) (a : FVec Ideal S16x512 .f32 × FVec Ideal S16x512 .f32) : FVec Ideal S60x16x512 .f32 :=
  k0_pay9 (k0_pay3 v67) (k0_pay4 v69) a.1 a.2 (rows arg21 Z1 k) (ld2 arg22 Z2) (ld3 arg23 Z3) (ld4 arg24 Z4)

theorem tripR_eq (k : Fin k0_t1_loop.trips) (a : FVec Ideal S16x512 .f32 × FVec Ideal S16x512 .f32) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v67 v69 v71 Z1 Z2 Z3 Z4 k a
      = (newH arg21 arg22 v67 v69 Z1 Z2 k a, k0_pay6 v71 (newW arg21 arg22 arg23 arg24 v67 v69 Z1 Z2 Z3 Z4 k a)) := by
  unfold tripR_k0_t1 trip_k0_t1
  rfl

theorem tripL_eq (k : Fin k0_t1_loop.trips) (a : FVec Ideal S16x512 .f32 × FVec Ideal S16x512 .f32) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v67 v69 v71 Z1 Z2 Z3 Z4 k a
      = [⟨Rect.unit (s := S1x64x16x1024) (k0_off2 k) S1x1x16x1024.size (k0_off2_inb k),
          k0_pay7 v71 (newH arg21 arg22 v67 v69 Z1 Z2 k a) (newW arg21 arg22 arg23 arg24 v67 v69 Z1 Z2 Z3 Z4 k a)⟩] := by
  unfold tripL_k0_t1 trip_k0_t1
  rfl

variable (S : Fin 16 → Sent)
  (hZ1 : ∀ t b g, arg21.view.read (Elt Ideal) Z1 (ix3 t b g) = kX (S b) t g)
  (hZ2 : ∀ b k g, arg22.view.read (Elt Ideal) Z2 (ix2 k g) = kM (S b) k g)
  (hZ3 : ∀ b s d, arg23.view.read (Elt Ideal) Z3 (ix3 s b d) = kA (S b) s d)
  (hZ4 : ∀ b s j, arg24.view.read (Elt Ideal) Z4 (ix3 s b j) = kC (S b) s j)
  (hW : ∀ b d g, v67 (ix2 d g) = (S b).Wh g d) (hb : ∀ b g, v69 (ix2 0 g) = (S b).bh g) (hc : ∀ b j, v71 (ix2 0 j) = (S b).bc j)

include hZ1 hZ2 hW hb in
/-- A step's state from the states before. -/
theorem newH_at (k : Fin k0_t1_loop.trips) (hk : k.val < 59) (a : FVec Ideal S16x512 .f32 × FVec Ideal S16x512 .f32)
    (h1 : ∀ b j, a.1 (ix2 b j) = (kState (S b) k.val).1 j) (h2 : ∀ b j, a.2 (ix2 b j) = (kState (S b) k.val).2 j) (b : Fin 16) (j : Fin 512) :
    newH arg21 arg22 v67 v69 Z1 Z2 k a (ix2 b j) = (kState (S b) (k.val + 1)).1 j := by
  unfold newH
  rw [pay8_at, kState_succ _ _ hk]
  show _ = hNew (S b) (kGi (S b) ⟨k.val, hk⟩ (kState (S b) k.val).2) (kState (S b) k.val).1 j
  unfold hNew
  congr 1
  · funext g
    unfold kGi
    rw [rows_at arg21 Z1 k hk, hZ1, ld2_eq]
    congr 1
    exact Finset.sum_congr rfl fun d _ => by rw [h2, hZ2 b]
  · congr 1
    · funext d; exact h1 b d
    · funext d g; exact hW b d g
    · funext g; exact hb b g
  · exact h1 b j

include hZ1 hZ2 hZ3 hZ4 hW hb hc in
/-- A step's attention from the states before. -/
theorem newA_at (k : Fin k0_t1_loop.trips) (hk : k.val < 59) (a : FVec Ideal S16x512 .f32 × FVec Ideal S16x512 .f32)
    (h1 : ∀ b j, a.1 (ix2 b j) = (kState (S b) k.val).1 j) (h2 : ∀ b j, a.2 (ix2 b j) = (kState (S b) k.val).2 j) (b : Fin 16) (j : Fin 512) :
    k0_pay6 v71 (newW arg21 arg22 arg23 arg24 v67 v69 Z1 Z2 Z3 Z4 k a) (ix2 b j) = (kState (S b) (k.val + 1)).2 j := by
  have hh := newH_at arg21 arg22 v67 v69 Z1 Z2 S hZ1 hZ2 hW hb k hk a h1 h2 b
  have e2 : (kState (S b) (k.val + 1)).2 = kAttn (S b) (kState (S b) (k.val + 1)).1 := by rw [kState_succ _ _ hk]
  rw [e2, pay6_at, hc b]
  unfold kAttn
  congr 2
  refine Finset.sum_congr rfl fun s _ => ?_
  unfold newW
  rw [pay9_at, ld4_eq, hZ4]
  congr 2
  funext s'
  unfold kScore
  refine Finset.sum_congr rfl fun d _ => ?_
  rw [ld3_eq, hZ3]
  congr 1
  exact hh d

/-- The block of outputs. -/
def outs (y : S1x64x16x1024.Idx) : EReal := outRow (S (y 2)) (y 1).val (y 3)

variable (init : FVec Ideal S16x512 .f32 × FVec Ideal S16x512 .f32)
  (hi1 : ∀ b j, init.1 (ix2 b j) = kStart (S b) j) (hi2 : ∀ b j, init.2 (ix2 b j) = 0)

include hZ1 hZ2 hZ3 hZ4 hW hb hc hi1 hi2 in
theorem run_at : ∀ k : ℕ, k ≤ 59 →
    (∀ b j, (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v67 v69 v71 Z1 Z2 Z3 Z4 init k).1.1 (ix2 b j) = (kState (S b) k).1 j)
    ∧ (∀ b j, (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v67 v69 v71 Z1 Z2 Z3 Z4 init k).1.2 (ix2 b j) = (kState (S b) k).2 j)
    ∧ View.PiecesOf (Val := Elt Ideal) (e := .f32) (outs S)
      (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v67 v69 v71 Z1 Z2 Z3 Z4 init k).2
    ∧ ∀ y : S1x64x16x1024.Idx, (y 1).val < k → ∃ p ∈ (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v67 v69 v71 Z1 Z2 Z3 Z4 init k).2, y ∈ p.1.set := by
  intro k
  induction k with
  | zero => exact fun _ => ⟨hi1, hi2, trivial, fun y hy => absurd hy (Nat.not_lt_zero _)⟩
  | succ k ih =>
    intro hk
    obtain ⟨h1, h2, h3, h4⟩ := ih (by omega)
    have ht : k < k0_t1_loop.trips := by rw [trips_eq]; omega
    have e := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v67 v69 v71 Z1 Z2 Z3 Z4 init ⟨k, ht⟩
    rw [tripR_eq, tripL_eq] at e
    rw [show k + 1 = (⟨k, ht⟩ : Fin k0_t1_loop.trips).val + 1 from rfl, e]
    have hH := newH_at arg21 arg22 v67 v69 Z1 Z2 S hZ1 hZ2 hW hb ⟨k, ht⟩ (by show k < 59; omega) _ h1 h2
    have hA := newA_at arg21 arg22 arg23 arg24 v67 v69 v71 Z1 Z2 Z3 Z4 S hZ1 hZ2 hZ3 hZ4 hW hb hc ⟨k, ht⟩ (by show k < 59; omega) _ h1 h2
    have hy : ∀ (b : Fin 16) (j : Fin 1024), (Rect.unit (s := S1x64x16x1024) (k0_off2 ⟨k, ht⟩) S1x1x16x1024.size (k0_off2_inb ⟨k, ht⟩)).emb (ix4 0 0 b j) = ix4 0 (⟨k, by omega⟩ : Fin 64) b j := by
      intro b j
      funext a; apply Fin.ext; refine (Rect.idx_unit_val ..).trans ?_; rw [congrFun (off2_eq ⟨k, ht⟩) a]; fin_cases a <;> simp
    refine ⟨hH, hA, ⟨?_, h3⟩, ?_⟩
    · intro x
      obtain ⟨b, j, rfl⟩ : ∃ (b : Fin 16) (j : Fin 1024), x = ix4 0 0 b j := ⟨x 2, x 3, by
        funext a; fin_cases a
        · exact Subsingleton.elim (α := Fin 1) _ _
        · exact Subsingleton.elim (α := Fin 1) _ _
        · rfl
        · rfl⟩
      refine (pay7_at ..).trans ?_
      show _ = outs S (Rect.emb _ _)
      rw [hy]
      show _ = outRow (S b) k j
      unfold outRow
      rw [if_pos (by omega)]
      congr 1
      · funext j; exact hH b j
      · funext j; exact hA b j
    · intro y hk'
      by_cases hlt : (y 1).val < k
      · obtain ⟨p, hp, hm⟩ := h4 y hlt
        exact ⟨p, List.mem_cons_of_mem _ hp, hm⟩
      · exact step_covers ⟨k, ht⟩ _ _ y (Nat.le_antisymm (Nat.lt_succ_iff.mp hk') (Nat.not_lt.mp hlt))

end Run

section Out

variable (c : Dev nD) (i : grid0.Coords) (arg1 : Memref sig .tc .vmem S59x16x300 .f32) (harg1 : arg1.IsWhole) (arg2 : Memref sig .tc .vmem S60x16x512 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S300x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1x512 .f32) (harg12 : arg12.IsWhole) (arg13 : Memref sig .tc .vmem S512x1536 .f32) (harg13 : arg13.IsWhole) (arg14 : Memref sig .tc .vmem S512x1536 .f32) (harg14 : arg14.IsWhole) (arg15 : Memref sig .tc .vmem S1x1536 .f32) (harg15 : arg15.IsWhole) (arg16 : Memref sig .tc .vmem S1x1536 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S1x512 .f32) (harg19 : arg19.IsWhole) (arg20 : Memref sig .tc .vmem S1x64x16x1024 .f32) (harg20 : arg20.IsWhole) (arg21 : Memref sig .tc .vmem S59x16x1536 .f32) (harg21 : arg21.IsWhole) (arg22 : Memref sig .tc .vmem S512x1536 .f32) (harg22 : arg22.IsWhole) (arg23 : Memref sig .tc .vmem S60x16x512 .f32) (harg23 : arg23.IsWhole) (arg24 : Memref sig .tc .vmem S60x16x512 .f32) (harg24 : arg24.IsWhole)
  (x0 : Vec Ideal S59x16x300 .f32) (x1 : Vec Ideal S60x16x512 .f32) (x2 : Vec Ideal S16x512 .f32) (x3 : Vec Ideal S16x512 .f32) (x4 : Vec Ideal S16x512 .f32) (x5 : Vec Ideal S512x512 .f32) (x6 : Vec Ideal S512x512 .f32) (x7 : Vec Ideal S1x512 .f32) (x8 : Vec Ideal S300x512 .f32) (x9 : Vec Ideal S512x512 .f32) (x10 : Vec Ideal S512x512 .f32) (x11 : Vec Ideal S1x512 .f32) (x12 : Vec Ideal S512x1536 .f32) (x13 : Vec Ideal S512x1536 .f32) (x14 : Vec Ideal S1x1536 .f32) (x15 : Vec Ideal S1x1536 .f32) (x16 : Vec Ideal S512x512 .f32) (x17 : Vec Ideal S512x512 .f32) (x18 : Vec Ideal S1x512 .f32)

/-- The blocks of operands are these sentences'. -/
structure Blocks (S : Fin 16 → Sent) : Prop where
  b0 : ∀ b t e, x0 (ix3 t b e) = (S b).de t e
  b1 : ∀ b s e, x1 (ix3 s b e) = (S b).K s e
  b2 : ∀ b k, x2 (ix2 b k) = (S b).ca k
  b3 : ∀ b k, x3 (ix2 b k) = (S b).se k
  b4 : ∀ b k, x4 (ix2 b k) = (S b).sa k
  b5 : ∀ b k j, x5 (ix2 k j) = (S b).Wp j (q0 k)
  b6 : ∀ b k j, x6 (ix2 k j) = (S b).Wp j (q1 k)
  b7 : ∀ b j, x7 (ix2 0 j) = (S b).bp j
  b8 : ∀ b e o, x8 (ix2 e o) = (S b).Wl o (p0 e)
  b9 : ∀ b k o, x9 (ix2 k o) = (S b).Wl o (p1 k)
  b10 : ∀ b k o, x10 (ix2 k o) = (S b).Wl o (p2 k)
  b11 : ∀ b o, x11 (ix2 0 o) = (S b).bl o
  b12 : ∀ b o g, x12 (ix2 o g) = (S b).Wi g o
  b13 : ∀ b d g, x13 (ix2 d g) = (S b).Wh g d
  b14 : ∀ b g, x14 (ix2 0 g) = (S b).bi g
  b15 : ∀ b g, x15 (ix2 0 g) = (S b).bh g
  b16 : ∀ b d e, x16 (ix2 d e) = (S b).Wa d e
  b17 : ∀ b e j, x17 (ix2 e j) = (S b).Wc j e
  b18 : ∀ b j, x18 (ix2 0 j) = (S b).bc j

/-- What the four scratch buffers hold once the products before the loop are stored. -/
abbrev scr1 : BufTy.Contents (Elt Ideal) arg21.view.ty :=
  arg21.view.writes (Elt Ideal) arg21.view.junk (kernelRun0_A.sl.HS0_1 c arg1 harg1 arg3 harg3 arg9 harg9 arg10 harg10 arg12 harg12 arg13 harg13 arg15 harg15 x0 x2 x8 x9 x11 x12 x14)
abbrev scr2 : BufTy.Contents (Elt Ideal) arg22.view.ty :=
  arg22.view.writes (Elt Ideal) arg22.view.junk (kernelRun0_A.sl.HS1_1 c arg11 harg11 arg13 harg13 x10 x12)
abbrev scr3 : BufTy.Contents (Elt Ideal) arg23.view.ty :=
  arg23.view.writes (Elt Ideal) arg23.view.junk (kernelRun0_A.sl.HS2_1 c arg2 harg2 arg17 harg17 x1 x16)
abbrev scr4 : BufTy.Contents (Elt Ideal) arg24.view.ty :=
  arg24.view.writes (Elt Ideal) arg24.view.junk (kernelRun0_A.sl.HS3_1 c arg2 harg2 arg18 harg18 x1 x17)

variable {S : Fin 16 → Sent} (hB : Blocks x0 x1 x2 x3 x4 x5 x6 x7 x8 x9 x10 x11 x12 x13 x14 x15 x16 x17 x18 S)

include hB in
theorem scr1_at (t : Fin 59) (b : Fin 16) (g : Fin 1536) :
    arg21.view.read (Elt Ideal) (scr1 c arg1 harg1 arg3 harg3 arg9 harg9 arg10 harg10 arg12 harg12 arg13 harg13 arg15 harg15 arg21 x0 x2 x8 x9 x11 x12 x14) (ix3 t b g) = kX (S b) t g := by
  unfold scr1 kernelRun0_A.sl.HS0_1 kernelRun0_A.sl.r_1 kernelRun0_A.sl.r_2 kernelRun0_A.sl.r_3
  rw [View.read_writes_full arg21.view arg21.view.junk inb_S59x16x1536_S59x16x1536_0_0_0]
  rw [View.readAt_full, View.readAt_full, View.readAt_full, View.readAt_full, View.readAt_full, View.readAt_full, View.readAt_full, harg1.read_unread, harg3.read_unread, harg9.read_unread, harg10.read_unread, harg12.read_unread, harg13.read_unread, harg15.read_unread]
  refine (pay14_at ..).trans ?_
  unfold kX kPart kCa
  simp only [hB.b0 b, hB.b2 b, hB.b8 b, hB.b9 b, hB.b11 b, hB.b12 b, hB.b14 b]

include hB in
theorem scr2_at (b : Fin 16) (k : Fin 512) (g : Fin 1536) :
    arg22.view.read (Elt Ideal) (scr2 c arg11 harg11 arg13 harg13 arg22 x10 x12) (ix2 k g) = kM (S b) k g := by
  unfold scr2 kernelRun0_A.sl.HS1_1 kernelRun0_A.sl.r_1
  rw [View.read_writes_full arg22.view arg22.view.junk inb_S512x1536_S512x1536_0_0]
  rw [View.readAt_full, View.readAt_full, harg11.read_unread, harg13.read_unread]
  refine (pay15_at ..).trans ?_
  unfold kM
  simp only [hB.b10 b, hB.b12 b]

include hB in
theorem scr3_at (b : Fin 16) (s : Fin 60) (d : Fin 512) :
    arg23.view.read (Elt Ideal) (scr3 c arg2 harg2 arg17 harg17 arg23 x1 x16) (ix3 s b d) = kA (S b) s d := by
  unfold scr3 kernelRun0_A.sl.HS2_1
  rw [View.read_writes_full arg23.view arg23.view.junk inb_S60x16x512_S60x16x512_0_0_0]
  rw [View.readAt_full, View.readAt_full, harg2.read_unread, harg17.read_unread]
  refine (pay17_at ..).trans ?_
  unfold kA
  simp only [hB.b1 b, hB.b16 b]

include hB in
theorem scr4_at (b : Fin 16) (s : Fin 60) (j : Fin 512) :
    arg24.view.read (Elt Ideal) (scr4 c arg2 harg2 arg18 harg18 arg24 x1 x17) (ix3 s b j) = kC (S b) s j := by
  unfold scr4 kernelRun0_A.sl.HS3_1 kernelRun0_A.sl.r_4
  rw [View.read_writes_full arg24.view arg24.view.junk inb_S60x16x512_S60x16x512_0_0_0]
  rw [View.readAt_full, View.readAt_full, harg2.read_unread, harg18.read_unread]
  refine (pay18_at ..).trans ?_
  unfold kC
  simp only [hB.b1 b, hB.b17 b]

/-- The three operands a step loads whole. -/
abbrev ldW : Vec Ideal S512x1536 .f32 := View.readAt (Elt Ideal) arg14.view (Rect.unit (s := S512x1536) ![0, 0] S512x1536.size inb_S512x1536_S512x1536_0_0).toLoadRect (harg14.unread x13)
abbrev ldb : Vec Ideal S1x1536 .f32 := View.readAt (Elt Ideal) arg16.view (Rect.unit (s := S1x1536) ![0, 0] S1x1536.size inb_S1x1536_S1x1536_0_0).toLoadRect (harg16.unread x15)
abbrev ldc : Vec Ideal S1x512 .f32 := View.readAt (Elt Ideal) arg19.view (Rect.unit (s := S1x512) ![0, 0] S1x512.size inb_S1x512_S1x512_0_0).toLoadRect (harg19.unread x18)

theorem ldW_eq : ldW arg14 harg14 x13 = x13 := by
  unfold ldW
  rw [View.readAt_full, harg14.read_unread]

theorem ldb_eq : ldb arg16 harg16 x15 = x15 := by
  unfold ldb
  rw [View.readAt_full, harg16.read_unread]

theorem ldc_eq : ldc arg19 harg19 x18 = x18 := by
  unfold ldc
  rw [View.readAt_full, harg19.read_unread]

/-- The state the loop starts from. -/
abbrev start : FVec Ideal S16x512 .f32 := kernelRun0_A.sl.r c arg4 harg4 arg5 harg5 arg6 harg6 arg7 harg7 arg8 harg8 x3 x4 x5 x6 x7

include hB in
theorem start_at (b : Fin 16) (j : Fin 512) :
    start c arg4 harg4 arg5 harg5 arg6 harg6 arg7 harg7 arg8 harg8 x3 x4 x5 x6 x7 (ix2 b j) = kStart (S b) j := by
  unfold start kernelRun0_A.sl.r
  rw [View.readAt_full, View.readAt_full, View.readAt_full, View.readAt_full, View.readAt_full, harg4.read_unread, harg5.read_unread, harg6.read_unread, harg7.read_unread, harg8.read_unread]
  refine (pay10_at ..).trans ?_
  unfold kStart
  simp only [hB.b3 b, hB.b4 b, hB.b5 b, hB.b6 b, hB.b7 b]

/-- The rows stored before the loop. -/
abbrev tail : List (View.Piece (Elt Ideal) S1x64x16x1024 .f32) :=
  [⟨Rect.unit (s := S1x64x16x1024) ![0, 56, 0, 0] S1x8x16x1024.size inb_S1x64x16x1024_S1x8x16x1024_0_56_0_0, k0_pay2 (F := Ideal)⟩]

/-- The steps' stores, from the operands. -/
abbrev steps : List (View.Piece (Elt Ideal) S1x64x16x1024 .f32) :=
  (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (ldW arg14 harg14 x13) (ldb arg16 harg16 x15) (ldc arg19 harg19 x18)
    (scr1 c arg1 harg1 arg3 harg3 arg9 harg9 arg10 harg10 arg12 harg12 arg13 harg13 arg15 harg15 arg21 x0 x2 x8 x9 x11 x12 x14)
    (scr2 c arg11 harg11 arg13 harg13 arg22 x10 x12) (scr3 c arg2 harg2 arg17 harg17 arg23 x1 x16) (scr4 c arg2 harg2 arg18 harg18 arg24 x1 x17)
    (start c arg4 harg4 arg5 harg5 arg6 harg6 arg7 harg7 arg8 harg8 x3 x4 x5 x6 x7, k0_pay5 (F := Ideal)) 59).2

theorem runL : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18).1 = steps c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 ++ tail := by
  unfold kernelRun0_A
  dsimp only
  rw [show Scf.trips (0#32) (Scalar.addi 0#32 59#32) 1#32 = 59 from trips_eq]

include hB in
theorem out19_at (y : S1x64x16x1024.Idx) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 y = outs S y := by
  have hr := run_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (ldW arg14 harg14 x13) (ldb arg16 harg16 x15) (ldc arg19 harg19 x18)
    (scr1 c arg1 harg1 arg3 harg3 arg9 harg9 arg10 harg10 arg12 harg12 arg13 harg13 arg15 harg15 arg21 x0 x2 x8 x9 x11 x12 x14)
    (scr2 c arg11 harg11 arg13 harg13 arg22 x10 x12) (scr3 c arg2 harg2 arg17 harg17 arg23 x1 x16) (scr4 c arg2 harg2 arg18 harg18 arg24 x1 x17) S
    (fun t b g => scr1_at (hB := hB) (t := t) (b := b) (g := g) ..) (fun b k g => scr2_at (hB := hB) (b := b) (k := k) (g := g) ..)
    (fun b s d => scr3_at (hB := hB) (b := b) (s := s) (d := d) ..) (fun b s j => scr4_at (hB := hB) (b := b) (s := s) (j := j) ..)
    (fun b d g => (congrFun (ldW_eq arg14 harg14 x13) _).trans (hB.b13 b d g)) (fun b g => (congrFun (ldb_eq arg16 harg16 x15) _).trans (hB.b15 b g))
    (fun b j => (congrFun (ldc_eq arg19 harg19 x18) _).trans (hB.b18 b j))
    (start c arg4 harg4 arg5 harg5 arg6 harg6 arg7 harg7 arg8 harg8 x3 x4 x5 x6 x7, k0_pay5 (F := Ideal))
    (fun b j => start_at (hB := hB) (b := b) (j := j) ..) pay5_at 59 (le_refl _)
  unfold out0_A_19
  rw [View.read_writes_junk_apply_eq_canon]
  have hc := cover0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 y
  rw [runL] at hc ⊢
  by_cases hlt : (y 1).val < 59
  · exact View.canon_append_of_piecesOf (outs S) _ _ hr.2.2.1 y (hr.2.2.2 y hlt)
  · have h0 : outs S y = 0 := by
      unfold outs outRow
      exact if_neg hlt
    rw [h0]
    refine View.canon_eq_of_allAt _ y 0 hc fun p hp x hx => ?_
    rcases List.mem_append.mp hp with hp | hp
    · exact (hr.2.2.1.mem p hp x).trans ((congrArg (outs S) hx).trans h0)
    · obtain rfl := List.mem_singleton.mp hp
      exact pay2_zero x

end Out

end Cert.Dec

end
-- ==== Proof.DOps.lean ====
/-
  The decoder kernel's blocks of operands at a grid point, from the arguments: the point's half of the sentences, and the weights' transposes and parts.
-/
module

public import proofs.«01_k».proof.Proof.DSent
public import proofs.«01_k».proof.Proof.Gen.Kernel4Ideal.Value
public import Idealize.ShloMosaic.Lib.VecWindow
public import Idealize.ShloMosaic.Lib.Pipeline.ValueKit
public import Idealize.ShloMosaic.Lib.Pipeline.ReadBack

@[expose] public section

set_option maxRecDepth 16384

noncomputable section

namespace Cert.Dec

open Idealize.ShloMosaic Idealize.ShloMosaic.TcCoe
open Cert.Kernel4Ideal Cert.Kernel4Ideal.Gen

variable (m : (ℓ : Loc nD τ sig) → Buf (Elt Ideal) ℓ)

/-- A point of the grid is one of the two halves. -/
theorem two (t : Fin cfg0.N) : t.val < 2 := t.isLt
abbrev half (t : Fin cfg0.N) : Fin 2 := ⟨t.val, two t⟩

theorem index0 : ∀ t : Fin cfg0.N, win0_0.index t 0 = 0 ∧ win0_0.index t 1 = t.val ∧ win0_0.index t 2 = 0 := by decide +kernel
theorem index1 : ∀ t : Fin cfg0.N, win0_1.index t 0 = 0 ∧ win0_1.index t 1 = t.val ∧ win0_1.index t 2 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem index9 : ∀ t : Fin cfg0.N, win0_9.index t 0 = 0 ∧ win0_9.index t 1 = 0 := by decide +kernel
theorem index10 : ∀ t : Fin cfg0.N, win0_10.index t 0 = 0 ∧ win0_10.index t 1 = 0 := by decide +kernel
theorem index11 : ∀ t : Fin cfg0.N, win0_11.index t 0 = 0 ∧ win0_11.index t 1 = 0 := by decide +kernel
theorem index12 : ∀ t : Fin cfg0.N, win0_12.index t 0 = 0 ∧ win0_12.index t 1 = 0 := by decide +kernel
theorem index13 : ∀ t : Fin cfg0.N, win0_13.index t 0 = 0 ∧ win0_13.index t 1 = 0 := by decide +kernel
theorem index14 : ∀ t : Fin cfg0.N, win0_14.index t 0 = 0 ∧ win0_14.index t 1 = 0 := by decide +kernel
theorem index15 : ∀ t : Fin cfg0.N, win0_15.index t 0 = 0 ∧ win0_15.index t 1 = 0 := by decide +kernel
theorem index16 : ∀ t : Fin cfg0.N, win0_16.index t 0 = 0 ∧ win0_16.index t 1 = 0 := by decide +kernel
theorem index17 : ∀ t : Fin cfg0.N, win0_17.index t 0 = 0 ∧ win0_17.index t 1 = 0 := by decide +kernel
theorem index18 : ∀ t : Fin cfg0.N, win0_18.index t 0 = 0 ∧ win0_18.index t 1 = 0 := by decide +kernel
theorem index19 : ∀ t : Fin cfg0.N, win0_19.index t 0 = t.val ∧ win0_19.index t 1 = 0 ∧ win0_19.index t 2 = 0 ∧ win0_19.index t 3 = 0 := by decide +kernel

theorem op0 (c : Dev nD) (t : Fin cfg0.N) (b : Fin 16) (u : Fin 59) (e : Fin 300) :
    (iblk m c 0 t : Vec Ideal S59x16x300 .f32) (ix3 u b e) = (m ((c : Thread nD τ).loc main_arg0) : Vec Ideal S59x32x300 .f32) (ix3 u (srow (half t) b) e) := by
  have e2 : (iblk m c 0 t : Vec Ideal S59x16x300 .f32) (ix3 u b e) = (V m c main_arg0 : Vec Ideal S59x32x300 .f32) (ix3 u (srow (half t) b) e) := by
    unfold iblk
    blk_ext [(index0 t).1, (index0 t).2.1, (index0 t).2.2]
  rw [e2, V_main_arg0]

theorem op1 (c : Dev nD) (t : Fin cfg0.N) (b : Fin 16) (u : Fin 60) (e : Fin 512) :
    (iblk m c 1 t : Vec Ideal S60x16x512 .f32) (ix3 u b e) = (m ((c : Thread nD τ).loc main_arg1) : Vec Ideal S60x32x512 .f32) (ix3 u (srow (half t) b) e) := by
  have e2 : (iblk m c 1 t : Vec Ideal S60x16x512 .f32) (ix3 u b e) = (V m c main_arg1 : Vec Ideal S60x32x512 .f32) (ix3 u (srow (half t) b) e) := by
    unfold iblk
    blk_ext [(index1 t).1, (index1 t).2.1, (index1 t).2.2]
  rw [e2, V_main_arg1]

theorem op2 (c : Dev nD) (t : Fin cfg0.N) (b : Fin 16) (e : Fin 512) :
    (iblk m c 2 t : Vec Ideal S16x512 .f32) (ix2 b e) = (m ((c : Thread nD τ).loc main_arg2) : Vec Ideal S32x512 .f32) (ix2 (srow (half t) b) e) := by
  have e2 : (iblk m c 2 t : Vec Ideal S16x512 .f32) (ix2 b e) = (V m c main_arg2 : Vec Ideal S32x512 .f32) (ix2 (srow (half t) b) e) := by
    unfold iblk
    blk_ext [(index2 t).1, (index2 t).2]
  rw [e2, V_main_arg2]

theorem op3 (c : Dev nD) (t : Fin cfg0.N) (b : Fin 16) (e : Fin 512) :
    (iblk m c 3 t : Vec Ideal S16x512 .f32) (ix2 b e) = (m ((c : Thread nD τ).loc main_arg3) : Vec Ideal S32x512 .f32) (ix2 (srow (half t) b) e) := by
  have e2 : (iblk m c 3 t : Vec Ideal S16x512 .f32) (ix2 b e) = (V m c main_arg3 : Vec Ideal S32x512 .f32) (ix2 (srow (half t) b) e) := by
    unfold iblk
    blk_ext [(index3 t).1, (index3 t).2]
  rw [e2, V_main_arg3]

theorem op4 (c : Dev nD) (t : Fin cfg0.N) (b : Fin 16) (e : Fin 512) :
    (iblk m c 4 t : Vec Ideal S16x512 .f32) (ix2 b e) = (m ((c : Thread nD τ).loc main_arg4) : Vec Ideal S32x512 .f32) (ix2 (srow (half t) b) e) := by
  have e2 : (iblk m c 4 t : Vec Ideal S16x512 .f32) (ix2 b e) = (V m c main_arg4 : Vec Ideal S32x512 .f32) (ix2 (srow (half t) b) e) := by
    unfold iblk
    blk_ext [(index4 t).1, (index4 t).2]
  rw [e2, V_main_arg4]

theorem op5 (c : Dev nD) (t : Fin cfg0.N) (k j : Fin 512) :
    (iblk m c 5 t : Vec Ideal S512x512 .f32) (ix2 k j) = (m ((c : Thread nD τ).loc main_arg5) : Vec Ideal S512x1024 .f32) (ix2 j (q0 k)) := by
  have e1 : (V m c main_v2 : Vec Ideal S512x512 .f32) (ix2 k j) = (m ((c : Thread nD τ).loc main_arg5) : Vec Ideal S512x1024 .f32) (ix2 j (q0 k)) := by
    entry_read
    generalize (m ((c : Thread nD τ).loc main_arg5) : Vec Ideal S512x1024 .f32) = A
    pointwise
  have e2 : (iblk m c 5 t : Vec Ideal S512x512 .f32) (ix2 k j) = (V m c main_v2 : Vec Ideal S512x512 .f32) (ix2 k j) := by
    unfold iblk
    blk_ext [(index5 t).1, (index5 t).2]
  exact e2.trans e1

theorem op6 (c : Dev nD) (t : Fin cfg0.N) (k j : Fin 512) :
    (iblk m c 6 t : Vec Ideal S512x512 .f32) (ix2 k j) = (m ((c : Thread nD τ).loc main_arg5) : Vec Ideal S512x1024 .f32) (ix2 j (q1 k)) := by
  have e1 : (V m c main_v3 : Vec Ideal S512x512 .f32) (ix2 k j) = (m ((c : Thread nD τ).loc main_arg5) : Vec Ideal S512x1024 .f32) (ix2 j (q1 k)) := by
    entry_read
    generalize (m ((c : Thread nD τ).loc main_arg5) : Vec Ideal S512x1024 .f32) = A
    pointwise
  have e2 : (iblk m c 6 t : Vec Ideal S512x512 .f32) (ix2 k j) = (V m c main_v3 : Vec Ideal S512x512 .f32) (ix2 k j) := by
    unfold iblk
    blk_ext [(index6 t).1, (index6 t).2]
  exact e2.trans e1

theorem op7 (c : Dev nD) (t : Fin cfg0.N) (j : Fin 512) :
    (iblk m c 7 t : Vec Ideal S1x512 .f32) (ix2 0 j) = (m ((c : Thread nD τ).loc main_arg6) : Vec Ideal S512 .f32) (ix1 j) := by
  have e1 : (V m c main_v4 : Vec Ideal S1x512 .f32) (ix2 0 j) = (m ((c : Thread nD τ).loc main_arg6) : Vec Ideal S512 .f32) (ix1 j) := by
    entry_read
    generalize (m ((c : Thread nD τ).loc main_arg6) : Vec Ideal S512 .f32) = A
    pointwise
  have e2 : (iblk m c 7 t : Vec Ideal S1x512 .f32) (ix2 0 j) = (V m c main_v4 : Vec Ideal S1x512 .f32) (ix2 0 j) := by
    unfold iblk
    blk_ext [(index7 t).1, (index7 t).2]
  exact e2.trans e1

theorem op8 (c : Dev nD) (t : Fin cfg0.N) (e : Fin 300) (o : Fin 512) :
    (iblk m c 8 t : Vec Ideal S300x512 .f32) (ix2 e o) = (m ((c : Thread nD τ).loc main_arg7) : Vec Ideal S512x1324 .f32) (ix2 o (p0 e)) := by
  have e1 : (V m c main_v5 : Vec Ideal S300x512 .f32) (ix2 e o) = (m ((c : Thread nD τ).loc main_arg7) : Vec Ideal S512x1324 .f32) (ix2 o (p0 e)) := by
    entry_read
    generalize (m ((c : Thread nD τ).loc main_arg7) : Vec Ideal S512x1324 .f32) = A
    pointwise
  have e2 : (iblk m c 8 t : Vec Ideal S300x512 .f32) (ix2 e o) = (V m c main_v5 : Vec Ideal S300x512 .f32) (ix2 e o) := by
    unfold iblk
    blk_ext [(index8 t).1, (index8 t).2]
  exact e2.trans e1

theorem op9 (c : Dev nD) (t : Fin cfg0.N) (k o : Fin 512) :
    (iblk m c 9 t : Vec Ideal S512x512 .f32) (ix2 k o) = (m ((c : Thread nD τ).loc main_arg7) : Vec Ideal S512x1324 .f32) (ix2 o (p1 k)) := by
  have e1 : (V m c main_v6 : Vec Ideal S512x512 .f32) (ix2 k o) = (m ((c : Thread nD τ).loc main_arg7) : Vec Ideal S512x1324 .f32) (ix2 o (p1 k)) := by
    entry_read
    generalize (m ((c : Thread nD τ).loc main_arg7) : Vec Ideal S512x1324 .f32) = A
    pointwise
  have e2 : (iblk m c 9 t : Vec Ideal S512x512 .f32) (ix2 k o) = (V m c main_v6 : Vec Ideal S512x512 .f32) (ix2 k o) := by
    unfold iblk
    blk_ext [(index9 t).1, (index9 t).2]
  exact e2.trans e1

theorem op10 (c : Dev nD) (t : Fin cfg0.N) (k o : Fin 512) :
    (iblk m c 10 t : Vec Ideal S512x512 .f32) (ix2 k o) = (m ((c : Thread nD τ).loc main_arg7) : Vec Ideal S512x1324 .f32) (ix2 o (p2 k)) := by
  have e1 : (V m c main_v7 : Vec Ideal S512x512 .f32) (ix2 k o) = (m ((c : Thread nD τ).loc main_arg7) : Vec Ideal S512x1324 .f32) (ix2 o (p2 k)) := by
    entry_read
    generalize (m ((c : Thread nD τ).loc main_arg7) : Vec Ideal S512x1324 .f32) = A
    pointwise
  have e2 : (iblk m c 10 t : Vec Ideal S512x512 .f32) (ix2 k o) = (V m c main_v7 : Vec Ideal S512x512 .f32) (ix2 k o) := by
    unfold iblk
    blk_ext [(index10 t).1, (index10 t).2]
  exact e2.trans e1

theorem op11 (c : Dev nD) (t : Fin cfg0.N) (o : Fin 512) :
    (iblk m c 11 t : Vec Ideal S1x512 .f32) (ix2 0 o) = (m ((c : Thread nD τ).loc main_arg8) : Vec Ideal S512 .f32) (ix1 o) := by
  have e1 : (V m c main_v8 : Vec Ideal S1x512 .f32) (ix2 0 o) = (m ((c : Thread nD τ).loc main_arg8) : Vec Ideal S512 .f32) (ix1 o) := by
    entry_read
    generalize (m ((c : Thread nD τ).loc main_arg8) : Vec Ideal S512 .f32) = A
    pointwise
  have e2 : (iblk m c 11 t : Vec Ideal S1x512 .f32) (ix2 0 o) = (V m c main_v8 : Vec Ideal S1x512 .f32) (ix2 0 o) := by
    unfold iblk
    blk_ext [(index11 t).1, (index11 t).2]
  exact e2.trans e1

theorem op12 (c : Dev nD) (t : Fin cfg0.N) (o : Fin 512) (g : Fin 1536) :
    (iblk m c 12 t : Vec Ideal S512x1536 .f32) (ix2 o g) = (m ((c : Thread nD τ).loc main_arg9) : Vec Ideal S1536x512 .f32) (ix2 g o) := by
  have e1 : (V m c main_v9 : Vec Ideal S512x1536 .f32) (ix2 o g) = (m ((c : Thread nD τ).loc main_arg9) : Vec Ideal S1536x512 .f32) (ix2 g o) := by
    entry_read
    generalize (m ((c : Thread nD τ).loc main_arg9) : Vec Ideal S1536x512 .f32) = A
    pointwise
  have e2 : (iblk m c 12 t : Vec Ideal S512x1536 .f32) (ix2 o g) = (V m c main_v9 : Vec Ideal S512x1536 .f32) (ix2 o g) := by
    unfold iblk
    blk_ext [(index12 t).1, (index12 t).2]
  exact e2.trans e1

theorem op13 (c : Dev nD) (t : Fin cfg0.N) (o : Fin 512) (g : Fin 1536) :
    (iblk m c 13 t : Vec Ideal S512x1536 .f32) (ix2 o g) = (m ((c : Thread nD τ).loc main_arg10) : Vec Ideal S1536x512 .f32) (ix2 g o) := by
  have e1 : (V m c main_v10 : Vec Ideal S512x1536 .f32) (ix2 o g) = (m ((c : Thread nD τ).loc main_arg10) : Vec Ideal S1536x512 .f32) (ix2 g o) := by
    entry_read
    generalize (m ((c : Thread nD τ).loc main_arg10) : Vec Ideal S1536x512 .f32) = A
    pointwise
  have e2 : (iblk m c 13 t : Vec Ideal S512x1536 .f32) (ix2 o g) = (V m c main_v10 : Vec Ideal S512x1536 .f32) (ix2 o g) := by
    unfold iblk
    blk_ext [(index13 t).1, (index13 t).2]
  exact e2.trans e1

theorem op14 (c : Dev nD) (t : Fin cfg0.N) (g : Fin 1536) :
    (iblk m c 14 t : Vec Ideal S1x1536 .f32) (ix2 0 g) = (m ((c : Thread nD τ).loc main_arg11) : Vec Ideal S1536 .f32) (ix1 g) := by
  have e1 : (V m c main_v11 : Vec Ideal S1x1536 .f32) (ix2 0 g) = (m ((c : Thread nD τ).loc main_arg11) : Vec Ideal S1536 .f32) (ix1 g) := by
    entry_read
    generalize (m ((c : Thread nD τ).loc main_arg11) : Vec Ideal S1536 .f32) = A
    pointwise
  have e2 : (iblk m c 14 t : Vec Ideal S1x1536 .f32) (ix2 0 g) = (V m c main_v11 : Vec Ideal S1x1536 .f32) (ix2 0 g) := by
    unfold iblk
    blk_ext [(index14 t).1, (index14 t).2]
  exact e2.trans e1

theorem op15 (c : Dev nD) (t : Fin cfg0.N) (g : Fin 1536) :
    (iblk m c 15 t : Vec Ideal S1x1536 .f32) (ix2 0 g) = (m ((c : Thread nD τ).loc main_arg12) : Vec Ideal S1536 .f32) (ix1 g) := by
  have e1 : (V m c main_v12 : Vec Ideal S1x1536 .f32) (ix2 0 g) = (m ((c : Thread nD τ).loc main_arg12) : Vec Ideal S1536 .f32) (ix1 g) := by
    entry_read
    generalize (m ((c : Thread nD τ).loc main_arg12) : Vec Ideal S1536 .f32) = A
    pointwise
  have e2 : (iblk m c 15 t : Vec Ideal S1x1536 .f32) (ix2 0 g) = (V m c main_v12 : Vec Ideal S1x1536 .f32) (ix2 0 g) := by
    unfold iblk
    blk_ext [(index15 t).1, (index15 t).2]
  exact e2.trans e1

theorem op16 (c : Dev nD) (t : Fin cfg0.N) (d e : Fin 512) :
    (iblk m c 16 t : Vec Ideal S512x512 .f32) (ix2 d e) = (m ((c : Thread nD τ).loc main_arg13) : Vec Ideal S512x512 .f32) (ix2 d e) := by
  have e1 : (V m c main_arg13 : Vec Ideal S512x512 .f32) (ix2 d e) = (m ((c : Thread nD τ).loc main_arg13) : Vec Ideal S512x512 .f32) (ix2 d e) := by
    rw [V_main_arg13]
  have e2 : (iblk m c 16 t : Vec Ideal S512x512 .f32) (ix2 d e) = (V m c main_arg13 : Vec Ideal S512x512 .f32) (ix2 d e) := by
    unfold iblk
    blk_ext [(index16 t).1, (index16 t).2]
  exact e2.trans e1

theorem op17 (c : Dev nD) (t : Fin cfg0.N) (e j : Fin 512) :
    (iblk m c 17 t : Vec Ideal S512x512 .f32) (ix2 e j) = (m ((c : Thread nD τ).loc main_arg14) : Vec Ideal S512x512 .f32) (ix2 j e) := by
  have e1 : (V m c main_v13 : Vec Ideal S512x512 .f32) (ix2 e j) = (m ((c : Thread nD τ).loc main_arg14) : Vec Ideal S512x512 .f32) (ix2 j e) := by
    entry_read
    generalize (m ((c : Thread nD τ).loc main_arg14) : Vec Ideal S512x512 .f32) = A
    pointwise
  have e2 : (iblk m c 17 t : Vec Ideal S512x512 .f32) (ix2 e j) = (V m c main_v13 : Vec Ideal S512x512 .f32) (ix2 e j) := by
    unfold iblk
    blk_ext [(index17 t).1, (index17 t).2]
  exact e2.trans e1

theorem op18 (c : Dev nD) (t : Fin cfg0.N) (j : Fin 512) :
    (iblk m c 18 t : Vec Ideal S1x512 .f32) (ix2 0 j) = (m ((c : Thread nD τ).loc main_arg15) : Vec Ideal S512 .f32) (ix1 j) := by
  have e1 : (V m c main_v14 : Vec Ideal S1x512 .f32) (ix2 0 j) = (m ((c : Thread nD τ).loc main_arg15) : Vec Ideal S512 .f32) (ix1 j) := by
    entry_read
    generalize (m ((c : Thread nD τ).loc main_arg15) : Vec Ideal S512 .f32) = A
    pointwise
  have e2 : (iblk m c 18 t : Vec Ideal S1x512 .f32) (ix2 0 j) = (V m c main_v14 : Vec Ideal S1x512 .f32) (ix2 0 j) := by
    unfold iblk
    blk_ext [(index18 t).1, (index18 t).2]
  exact e2.trans e1

end Cert.Dec

end
-- ==== Proof.DKer.lean ====
/-
  The decoder kernel's array of outputs: each half's block is that half's sentences' states and attentions.
-/
module

public import proofs.«01_k».proof.Proof.DVal
public import proofs.«01_k».proof.Proof.DOps

@[expose] public section

set_option maxRecDepth 16384

noncomputable section

namespace Cert.Dec

open Idealize.ShloMosaic Idealize.ShloMosaic.TcCoe Idealize.SL.Sem
open Cert.Kernel4Ideal Cert.Kernel4Ideal.Gen

variable (m : (ℓ : Loc nD τ sig) → Buf (Elt Ideal) ℓ)

/-- The sentences, from the arguments. -/
abbrev sents (c : Dev nD) (b : Fin 32) : Sent :=
  sentOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) b

theorem blocks_at (c : Dev nD) (t : Fin cfg0.N) : Blocks (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (fun b => sents m c (srow (half t) b)) where
  b0 := fun b u e => op0 m c t b u e
  b1 := fun b u e => op1 m c t b u e
  b2 := fun b k => op2 m c t b k
  b3 := fun b k => op3 m c t b k
  b4 := fun b k => op4 m c t b k
  b5 := fun _ k j => op5 m c t k j
  b6 := fun _ k j => op6 m c t k j
  b7 := fun _ j => op7 m c t j
  b8 := fun _ e o => op8 m c t e o
  b9 := fun _ k o => op9 m c t k o
  b10 := fun _ k o => op10 m c t k o
  b11 := fun _ o => op11 m c t o
  b12 := fun _ o g => op12 m c t o g
  b13 := fun _ d g => op13 m c t d g
  b14 := fun _ g => op14 m c t g
  b15 := fun _ g => op15 m c t g
  b16 := fun _ d e => op16 m c t d e
  b17 := fun _ e j => op17 m c t e j
  b18 := fun _ j => op18 m c t j

/-- A half's block of outputs. -/
def block19 (c : Dev nD) (t : Fin cfg0.N) : Vec Ideal S1x64x16x1024 .f32 := fun y => outRow (sents m c (srow (half t) (y 2))) (y 1).val (y 3)

theorem block19_eq (c : Dev nD) (t : Fin cfg0.N) : (dats m 0 c).after 19 t = block19 m c t := by
  refine (after0_19 m c t).trans ?_
  unfold outsAt0
  funext y
  exact out19_at (hB := blocks_at m c t) (y := y) ..

theorem outRow_congr (f : Fin 32 → Sent) {b b' : Fin 32} {u u' : ℕ} {j j' : Fin 1024} (h1 : b = b') (h2 : u = u') (h3 : j = j') : outRow (f b) u j = outRow (f b') u' j' := by
  subst h1 h2 h3
  rfl

theorem outs_at (c : Dev nD) (s : Fin 2) (u : Fin 64) (b : Fin 16) (j : Fin 1024) :
    ((dats m 0 c).arrAt 19 cfg0.N : Vec Ideal S2x64x16x1024 .f32) (ix4 s u b j) = outRow (sents m c (srow s b)) u.val j := by
  refine (dats m 0 c).arrAt_forall_of_covers 19 (fun (i : S2x64x16x1024.Idx) (x : EReal) =>
    x = outRow (sents m c (srow (i 0) (i 2))) (i 1).val (i 3))
    (by decide +kernel) (fun t hf y => ?_) (ix4 s u b j)
  have b1 : (y 1).val < 64 := (y 1).isLt
  have b2 : (y 2).val < 16 := (y 2).isLt
  have b3 : (y 3).val < 1024 := (y 3).isLt
  have hx : (cfg0.win 19).xinj (cfg0.grid.coords t) y = ix4 (0 : Fin 1) (⟨(y 1).val, b1⟩ : Fin 64) (⟨(y 2).val, b2⟩ : Fin 16) (⟨(y 3).val, b3⟩ : Fin 1024) := by
    funext a; fin_cases a
    · exact Subsingleton.elim (α := Fin 1) _ _
    · rfl
    · rfl
    · rfl
  have h0 : (y 0).val = 0 := Nat.lt_one_iff.mp (y 0).isLt
  refine Eq.trans (b := block19 m c t (ix4 (0 : Fin 1) (⟨(y 1).val, b1⟩ : Fin 64) (⟨(y 2).val, b2⟩ : Fin 16) (⟨(y 3).val, b3⟩ : Fin 1024))) ?_ ?_
  · exact (congrFun (block19_eq m c t) _).trans (congrArg _ hx)
  · refine outRow_congr _ ?_ ?_ ?_
    · apply Fin.ext
      show 16 * t.val + (y 2).val = 16 * _ + _
      congr 1
      · congr 1
        blk_simp [(index19 t).1]
      · blk_simp [(index19 t).2.2.1]
    · blk_simp [(index19 t).2.1]
    · apply Fin.ext; blk_simp [(index19 t).2.2.2]

theorem decoded_kernel (c : Dev nD) : ((dats m 0 c).arrAt 19 cfg0.N : FVec Ideal S2x64x16x1024 .f32) =
    decoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine funext fun (i : S2x64x16x1024.Idx) => ?_
  obtain ⟨s, u, b, j, rfl⟩ : ∃ (s : Fin 2) (u : Fin 64) (b : Fin 16) (j : Fin 1024), i = ix4 s u b j := ⟨i 0, i 1, i 2, i 3, by
    funext a; fin_cases a <;> rfl⟩
  exact outs_at m c s u b j

theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = decoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (decoded_kernel m c), (h c).2⟩) (Cert.Kernel4Ideal.Value.run_blocks m ρ)

end Cert.Dec

end
-- ==== Proof.KIBody.lean ====
/-
  The two kernel bodies of the vocabulary product, for any float values: what one grid point of the summing kernel and one
  grid point of the writing kernel leave in the buffers they are called on.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.Regions
public import Idealize.ShloMosaic.Lib.Tactic

@[expose] public section

noncomputable section

namespace Cert.KernelIdeal.Vocab

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resource algebra: two copies of the rounds library's, one for the launch theorem and one the regions use. -/
abbrev UU : Type := UR sig nD τ × UR sig nD τ

local notation "𝕄" => MT nD τ sig Unit (Elt F) ℕ UU ℕ

abbrev 𝒱₀ : Variants := Variants.none

/-- The printed test of a grid coordinate against a small number, read back as an equation of numbers. -/
theorem test_eq (n k : ℕ) (hn : n < 49) (hk : k < 49) :
    (Scalar.cmpi .ne (Scalar.extui (Scalar.cmpi .eq (BitVec.ofNat 32 n) (BitVec.ofNat 32 k)) : BitVec 32) 0#32 = 1#1) ↔ n = k := by
  have h : ∀ a b : Fin 49, (Scalar.cmpi .ne (Scalar.extui (Scalar.cmpi .eq (BitVec.ofNat 32 a.val) (BitVec.ofNat 32 b.val)) : BitVec 32) 0#32 = 1#1) ↔ a.val = b.val := by
    decide +kernel
  exact h ⟨n, hn⟩ ⟨k, hk⟩

theorem coord_lt0 (i : grid0.Coords) : (i 0).val < 49 := (i 0).isLt
theorem coord_lt1 (i : grid1.Coords) : (i 0).val < 49 := (i 0).isLt

/-- What a point of the summing kernel adds: the row sums of the exponentials, at the last point those of the columns
    inside the vocabulary only. -/
def addend (i : grid0.Coords) (X0 : Vec F S2048x1024 .f32) (X1 : Vec F S1024x1024 .f32) : FVec F S2048x1 .f32 :=
  if (i 0).val = 48 then k0_pay2 i X0 X1 else k0_pay3 X0 X1

/-- What it leaves in the running sums: the addend on what was there, on zeros at the first point. -/
def accum (i : grid0.Coords) (X0 : Vec F S2048x1024 .f32) (X1 : Vec F S1024x1024 .f32) (X2 : Vec F S2048x1 .f32) : FVec F S2048x1 .f32 :=
  k0_pay5 (addend i X0 X1) (if (i 0).val = 0 then k0_pay4 else X2)

theorem z2 : (![0, 0] : Fin 2 → Nat) = fun _ => 0 := funext fun a => by fin_cases a <;> rfl
theorem z3 : (![0, 0, 0] : Fin 3 → Nat) = fun _ => 0 := funext fun a => by fin_cases a <;> rfl

set_option maxHeartbeats 1000000 in
/-- One point of the summing kernel on the buffers it is called on. -/
theorem body0 (c : Dev nD) (E : Set ℕ) (i : grid0.Coords) (s0 : Fin 1) (s1 : Fin 2) (s2 : Fin 1)
    (X0 : S2048x1024.Idx → Elt F .f32) (X1 : S1024x1024.Idx → Elt F .f32) (X2 : S2048x1.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (accum i X0 X1 X2)) -∗ K ⟨⟩))
      ⊢ wp frame (wpE (defs₀ (F := F)) 𝒱₀ c none) E
          (cc0_vocab_sum i (stage0_0 s0) (hstage0_0 s0) (stage0_1 s1) (hstage0_1 s1) (stage0_2 s2) (hstage0_2 s2)) K := by
  have r0 : (Memref.whole cc0_stg0_0 : Memref sig .tc _ _ _).view.readAt (Elt F) (Rect.unit (s := S2048x1024) ![0, 0] S2048x1024.size
      inb_S2048x1024_S2048x1024_0_0).toLoadRect = id := funext (Memref.readAt_unit_zero (Elt F) cc0_stg0_0 z2 _)
  have r1 : (Memref.whole cc0_stg1_0 : Memref sig .tc _ _ _).view.readAt (Elt F) (Rect.unit (s := S1024x1024) ![0, 0] S1024x1024.size
      inb_S1024x1024_S1024x1024_0_0).toLoadRect = id := funext (Memref.readAt_unit_zero (Elt F) cc0_stg1_0 z2 _)
  have r1' : (Memref.whole cc0_stg1_1 : Memref sig .tc _ _ _).view.readAt (Elt F) (Rect.unit (s := S1024x1024) ![0, 0] S1024x1024.size
      inb_S1024x1024_S1024x1024_0_0).toLoadRect = id := funext (Memref.readAt_unit_zero (Elt F) cc0_stg1_1 z2 _)
  have r2 : (Memref.whole cc0_stg2_0 : Memref sig .tc _ _ _).view.readAt (Elt F) (Rect.unit (s := S2048x1) ![0, 0] S2048x1.size
      inb_S2048x1_S2048x1_0_0).toLoadRect = id := funext (Memref.readAt_unit_zero (Elt F) cc0_stg2_0 z2 _)
  have w2 : ∀ f w, (((Memref.whole cc0_stg2_0).access (Rect.unit (s := S2048x1) ![0, 0] S2048x1.size inb_S2048x1_S2048x1_0_0)) :
      View sig .tc _ _ _).write (Elt F) f w Finset.univ = w := Memref.write_access_unit_zero_univ (Elt F) cc0_stg2_0 z2 _
  have t48 := test_eq (i 0).val 48 (coord_lt0 i) (by decide)
  have t0 := test_eq (i 0).val 0 (coord_lt0 i) (by decide)
  have hs1 : s1 = 0 ∨ s1 = 1 := by revert s1; decide
  obtain rfl : s0 = 0 := Subsingleton.elim _ _
  obtain rfl : s2 = 0 := Subsingleton.elim _ _
  rw [cc0_vocab_sum_eq_skeleton]; unfold cc0_vocab_sum_skel
  rcases hs1 with rfl | rfl <;>
  · simp only [owns_whole_eq]
    by_cases h48 : (i 0).val = 48
    · have h0 : ¬ (i 0).val = 0 := by omega
      simp only [dif_pos (t48.mpr h48), dif_neg (fun h => h0 (t0.mp h)), Prog.lift, Prog.bind_op, Prog.bind_ret, pure_bind]
      iintro ⟨⟨⟨%f0, %hf0, H0⟩, ⟨%f1, %hf1, H1⟩, ⟨%f2, %hf2, H2⟩⟩, Hk⟩
      sl_steps
      iapply Hk
      simp only [r0, r1, r1', r2, w2, id]
      isplitl [H0]
      · iexists f0; isplitr; · ipureintro; exact hf0
        iexact H0
      isplitl [H1]
      · iexists f1; isplitr; · ipureintro; exact hf1
        iexact H1
      · iexists _; isplitr; swap; · iexact H2
        ipureintro; rw [accum, addend, if_pos h48, if_neg h0, hf0, hf1, hf2]
    · by_cases h0 : (i 0).val = 0
      · simp only [dif_neg (fun h => h48 (t48.mp h)), dif_pos (t0.mpr h0), Prog.lift, Prog.bind_op, Prog.bind_ret, pure_bind]
        iintro ⟨⟨⟨%f0, %hf0, H0⟩, ⟨%f1, %hf1, H1⟩, ⟨%f2, %hf2, H2⟩⟩, Hk⟩
        sl_steps
        iapply Hk
        simp only [r0, r1, r1', r2, w2, id]
        isplitl [H0]
        · iexists f0; isplitr; · ipureintro; exact hf0
          iexact H0
        isplitl [H1]
        · iexists f1; isplitr; · ipureintro; exact hf1
          iexact H1
        · iexists _; isplitr; swap; · iexact H2
          ipureintro; rw [accum, addend, if_neg h48, if_pos h0, hf0, hf1]; exact w2 _ _
      · simp only [dif_neg (fun h => h48 (t48.mp h)), dif_neg (fun h => h0 (t0.mp h)), Prog.lift, Prog.bind_op, Prog.bind_ret, pure_bind]
        iintro ⟨⟨⟨%f0, %hf0, H0⟩, ⟨%f1, %hf1, H1⟩, ⟨%f2, %hf2, H2⟩⟩, Hk⟩
        sl_steps
        iapply Hk
        simp only [r0, r1, r1', r2, w2, id]
        isplitl [H0]
        · iexists f0; isplitr; · ipureintro; exact hf0
          iexact H0
        isplitl [H1]
        · iexists f1; isplitr; · ipureintro; exact hf1
          iexact H1
        · iexists _; isplitr; swap; · iexact H2
          ipureintro; rw [accum, addend, if_neg h48, if_neg h0, hf0, hf1, hf2]

/-- The reciprocals the writing kernel keeps in its scratch: taken of the sums at the first point, kept afterwards. -/
def recip (i : grid1.Coords) (X2 : Vec F S2048x1 .f32) (S : Vec F S2048x1 .f32) : Vec F S2048x1 .f32 :=
  if (i 0).val = 0 then k1_pay1 X2 else S

set_option maxHeartbeats 1000000 in
/-- One point of the writing kernel on the buffers it is called on. -/
theorem body1 (c : Dev nD) (E : Set ℕ) (i : grid1.Coords) (s0 : Fin 1) (s1 : Fin 2) (s2 : Fin 1) (s3 : Fin 2)
    (X0 : S2048x1024.Idx → Elt F .f32) (X1 : S1024x1024.Idx → Elt F .f32) (X2 : S2048x1.Idx → Elt F .f32)
    (X3 : S32x59x1024.Idx → Elt F .f32) (S : Buf (Elt F) ((c : Thread nD τ).loc cc1_scratch0)) (K : PUnit → sProp 𝕄) :
    iprop((owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3
            ∗ (((c : Thread nD τ).loc cc1_scratch0) ↦{fullShare} S))
          ∗ (iprop(owns (c : Thread nD τ) (stage1_0 s0) fullShare X0 ∗ owns (c : Thread nD τ) (stage1_1 s1) fullShare X1
                  ∗ owns (c : Thread nD τ) (stage1_2 s2) fullShare X2
                  ∗ owns (c : Thread nD τ) (stage1_3 s3) fullShare (k1_pay2 X0 X1 (recip i X2 S))
                  ∗ (((c : Thread nD τ).loc cc1_scratch0) ↦{fullShare} recip i X2 S)) -∗ K ⟨⟩))
      ⊢ wp frame (wpE (defs₀ (F := F)) 𝒱₀ c none) E
          (cc1_vocab_out i (stage1_0 s0) (hstage1_0 s0) (stage1_1 s1) (hstage1_1 s1) (stage1_2 s2) (hstage1_2 s2)
            (stage1_3 s3) (hstage1_3 s3) (Memref.whole cc1_scratch0) (Memref.isWhole_whole _)) K := by
  have r0 : (Memref.whole cc1_stg0_0 : Memref sig .tc _ _ _).view.readAt (Elt F) (Rect.unit (s := S2048x1024) ![0, 0] S2048x1024.size
      inb_S2048x1024_S2048x1024_0_0).toLoadRect = id := funext (Memref.readAt_unit_zero (Elt F) cc1_stg0_0 z2 _)
  have r1 : (Memref.whole cc1_stg1_0 : Memref sig .tc _ _ _).view.readAt (Elt F) (Rect.unit (s := S1024x1024) ![0, 0] S1024x1024.size
      inb_S1024x1024_S1024x1024_0_0).toLoadRect = id := funext (Memref.readAt_unit_zero (Elt F) cc1_stg1_0 z2 _)
  have r1' : (Memref.whole cc1_stg1_1 : Memref sig .tc _ _ _).view.readAt (Elt F) (Rect.unit (s := S1024x1024) ![0, 0] S1024x1024.size
      inb_S1024x1024_S1024x1024_0_0).toLoadRect = id := funext (Memref.readAt_unit_zero (Elt F) cc1_stg1_1 z2 _)
  have r2 : (Memref.whole cc1_stg2_0 : Memref sig .tc _ _ _).view.readAt (Elt F) (Rect.unit (s := S2048x1) ![0, 0] S2048x1.size
      inb_S2048x1_S2048x1_0_0).toLoadRect = id := funext (Memref.readAt_unit_zero (Elt F) cc1_stg2_0 z2 _)
  have r5 : (Memref.whole cc1_scratch0 : Memref sig .tc _ _ _).view.readAt (Elt F) (Rect.unit (s := S2048x1) ![0, 0] S2048x1.size
      inb_S2048x1_S2048x1_0_0).toLoadRect = id := funext (Memref.readAt_unit_zero (Elt F) cc1_scratch0 z2 _)
  have w5 : ∀ f w, (((Memref.whole cc1_scratch0).access (Rect.unit (s := S2048x1) ![0, 0] S2048x1.size inb_S2048x1_S2048x1_0_0)) :
      View sig .tc _ _ _).write (Elt F) f w Finset.univ = w := Memref.write_access_unit_zero_univ (Elt F) cc1_scratch0 z2 _
  have w3 : ∀ f w, (((Memref.whole cc1_stg3_0).access (Rect.unit (s := S32x59x1024) ![0, 0, 0] S32x59x1024.size inb_S32x59x1024_S32x59x1024_0_0_0)) :
      View sig .tc _ _ _).write (Elt F) f w Finset.univ = w := Memref.write_access_unit_zero_univ (Elt F) cc1_stg3_0 z3 _
  have w3' : ∀ f w, (((Memref.whole cc1_stg3_1).access (Rect.unit (s := S32x59x1024) ![0, 0, 0] S32x59x1024.size inb_S32x59x1024_S32x59x1024_0_0_0)) :
      View sig .tc _ _ _).write (Elt F) f w Finset.univ = w := Memref.write_access_unit_zero_univ (Elt F) cc1_stg3_1 z3 _
  have t0 := test_eq (i 0).val 0 (coord_lt1 i) (by decide)
  have hs1 : s1 = 0 ∨ s1 = 1 := by revert s1; decide
  have hs3 : s3 = 0 ∨ s3 = 1 := by revert s3; decide
  obtain rfl : s0 = 0 := Subsingleton.elim _ _
  obtain rfl : s2 = 0 := Subsingleton.elim _ _
  rw [cc1_vocab_out_eq_skeleton]; unfold cc1_vocab_out_skel
  rcases hs1 with rfl | rfl <;> rcases hs3 with rfl | rfl <;>
  · simp only [owns_whole_eq]
    by_cases h0 : (i 0).val = 0
    · simp only [dif_pos (t0.mpr h0), Prog.lift, Prog.bind_op, Prog.bind_ret, pure_bind]
      iintro ⟨⟨⟨%f0, %hf0, H0⟩, ⟨%f1, %hf1, H1⟩, ⟨%f2, %hf2, H2⟩, ⟨%f3, %hf3, H3⟩, HS⟩, Hk⟩
      sl_steps
      iapply Hk
      simp only [r0, r1, r1', r2, r5, w3, w3', w5, id, recip, if_pos h0]
      isplitl [H0]
      · iexists f0; isplitr; · ipureintro; exact hf0
        iexact H0
      isplitl [H1]
      · iexists f1; isplitr; · ipureintro; exact hf1
        iexact H1
      isplitl [H2]
      · iexists f2; isplitr; · ipureintro; exact hf2
        iexact H2
      rw [← hf0, ← hf1, ← hf2]
      isplitl [H3]
      · iexists _; isplitr; swap; · iexact H3
        ipureintro; rfl
      iexact HS
    · simp only [dif_neg (fun h => h0 (t0.mp h)), Prog.lift, Prog.bind_op, Prog.bind_ret, pure_bind]
      iintro ⟨⟨⟨%f0, %hf0, H0⟩, ⟨%f1, %hf1, H1⟩, ⟨%f2, %hf2, H2⟩, ⟨%f3, %hf3, H3⟩, HS⟩, Hk⟩
      sl_steps
      iapply Hk
      simp only [r0, r1, r1', r2, r5, w3, w3', w5, id, recip, if_neg h0]
      isplitl [H0]
      · iexists f0; isplitr; · ipureintro; exact hf0
        iexact H0
      isplitl [H1]
      · iexists f1; isplitr; · ipureintro; exact hf1
        iexact H1
      isplitl [H2]
      · iexists f2; isplitr; · ipureintro; exact hf2
        iexact H2
      rw [← hf0, ← hf1]
      isplitl [H3]
      · iexists _; isplitr; swap; · iexact H3
        ipureintro; rfl
      iexact HS

end Cert.KernelIdeal.Vocab

end
-- ==== Proof.KIRun.lean ====
/-
  The two-region program's run, for any float values. The rows of the last weight block that lie past the array's end hold
  words nothing names, and a float product of a whole tile may depend on them; so what each region leaves is stated as a
  relation, over some contents of those rows, and the second region is entered at whatever sums the first one left.
-/
module

public import proofs.«01_k».proof.Proof.KIBody
public import Idealize.ShloMosaic.Lib.Pipeline.ValueKit

@[expose] public section

noncomputable section

namespace Cert.KernelIdeal.Vocab

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

/-- The launch theorem's copy of the rounds algebra, and the regions'. -/
abbrev EPk : Emb (UR sig nD τ) (MT nD τ sig Unit (Elt F) ℕ UU ℕ) := embL
abbrev EPr : Emb (UR sig nD τ) (MT nD τ sig Unit (Elt F) ℕ UU ℕ) := embR

/-! ## The regions' relational data -/

/-- The weight block at a point as the summing kernel finds it: its rows inside the array, `d` on the others. -/
def wblk0 (V : Valuation τ sig (Elt F)) (t : Fin cfg0.N) (d : S1024x1024.Idx → Elt F .f32) : S1024x1024.Idx → Elt F .f32 :=
  win0_1.fill (grid0.coords t) d ((win0_1.blk t).view.read (Elt F) (V main_arg1))
/-- The same in the writing kernel. -/
def wblk1 (V : Valuation τ sig (Elt F)) (t : Fin cfg1.N) (d : S1024x1024.Idx → Elt F .f32) : S1024x1024.Idx → Elt F .f32 :=
  win1_1.fill (grid1.coords t) d ((win1_1.blk t).view.read (Elt F) (V main_arg1))

/-- The summing region's data: the inputs' buffers are left as found; the running sums are one accumulation step on what
    was found, over some contents of the block's rows outside the array. -/
def rdat0 (V : Valuation τ sig (Elt F)) (c : Dev nD) : RDat τ (Elt F) Unit ℕ UU ℕ cfg0 c where
  A w := V (Pipeline.arrRef spec0 w)
  after w t := match w with
    | ⟨0, _⟩ => fun Y X => X = Y
    | ⟨1, _⟩ => fun Y X => X = Y
    | ⟨2, _⟩ => fun Y X => ∃ d, X = accum (grid0.coords t) (V main_arg0) (wblk0 V t d) Y
  Φ _ := Pipeline.scopedRest spec0 c
  q _ := fullShare
  owed _ := 0

/-- The writing region's data: the inputs' buffers are left as found; the result's buffer holds the products at some
    contents of the rows outside the array; from the second point on the scratch holds the sums' reciprocals. -/
def rdat1 (V : Valuation τ sig (Elt F)) (c : Dev nD) : RDat τ (Elt F) Unit ℕ UU ℕ cfg1 c where
  A w := V (Pipeline.arrRef spec1 w)
  after w t := match w with
    | ⟨0, _⟩ => fun Y X => X = Y
    | ⟨1, _⟩ => fun Y X => X = Y
    | ⟨2, _⟩ => fun Y X => X = Y
    | ⟨3, _⟩ => fun _ X => ∃ d, X = k1_pay2 (V main_arg0) (wblk1 V t d) (k1_pay1 (V main_v0))
  Φ t := iprop(((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f))
    ∗ (∃ f : Buf (Elt F) ((c : Thread nD τ).loc cc1_scratch0), ⌜t.val ≠ 0 → f = k1_pay1 (V main_v0)⌝ ∗ (((c : Thread nD τ).loc cc1_scratch0) ↦{fullShare} f)))
  q _ := fullShare
  owed _ := 0

/-- Both regions' data at one valuation of the unscoped buffers (each region reads its own part only). -/
def rdats (V : Valuation τ sig (Elt F)) : (p : Fin 2) → (c : Dev nD) → RDat τ (Elt F) Unit ℕ UU ℕ (cfgs p) c
  | 0 => rdat0 V
  | 1 => rdat1 V
  | ⟨_ + 2, h⟩ => absurd h (Nat.not_lt.2 (Nat.le_add_left _ _))

/-! ## What the bodies find -/

/-- A window that is fetched at the first point only and left as found holds the block of the first point at every point. -/
theorem finds_first {cfg : Cfg sig Λ₀} {c : Dev nD} (rd : RDat τ (Elt F) Unit ℕ UU ℕ cfg c) (w : Fin cfg.W)
    (Z : (cfg.win w).block.Idx → Elt F (cfg.win w).elt)
    (hZ : ∀ t d, (cfg.win w).fetch t = true → rd.fetched w t d = Z)
    (h0 : ∀ t : Fin cfg.N, t.val = 0 → (cfg.win w).fetch t = true)
    (hfl : ∀ t, (cfg.win w).flush t = false)
    (ha : ∀ t Y X, rd.after w t Y X → X = Y) :
    ∀ (n : ℕ) (h : n < cfg.N) (Y : (cfg.win w).block.Idx → Elt F (cfg.win w).elt), rd.Finds w ⟨n, h⟩ Y → Y = Z := by
  intro n
  induction n with
  | zero =>
    intro h Y hY
    obtain ⟨d, rfl⟩ := (rd.finds_of_fetch (h0 _ rfl) Y).mp hY
    exact hZ _ d (h0 _ rfl)
  | succ n ih =>
    intro h Y hY
    by_cases hf : (cfg.win w).fetch ⟨n + 1, h⟩ = true
    · obtain ⟨d, rfl⟩ := (rd.finds_of_fetch hf Y).mp hY
      exact hZ _ d hf
    · rcases (rd.finds_of_pos (Bool.not_eq_true _ ▸ hf) (Nat.succ_ne_zero n) Y).mp hY with h' | ⟨Y', hY', hX⟩
      · rw [hfl] at h'; exact absurd h' Bool.false_ne_true
      · rw [ha _ _ _ hX]; exact ih _ Y' hY'

theorem grid0_val (t : Fin cfg0.N) : ((grid0.coords t) 0).val = t.val := by
  revert t; decide +kernel
theorem grid1_val (t : Fin cfg1.N) : ((grid1.coords t) 0).val = t.val := by
  revert t; decide +kernel

/-- The one block of the rows' window is the array. -/
theorem rows0 (V : Valuation τ sig (Elt F)) (c : Dev nD) (t : Fin cfg0.N) (d) : (rdat0 V c).fetched 0 t d = V main_arg0 := by
  funext j
  show V main_arg0 _ = V main_arg0 j
  refine congrArg _ ?_
  show ((cfg0.win 0).rect t).emb (fun a => ⟨(j a).val, _⟩) = j
  funext a; apply Fin.ext
  rw [Window.rect_emb_val_of_index_zero _ _ _ (by fin_cases a <;> rfl)]
theorem rows1 (V : Valuation τ sig (Elt F)) (c : Dev nD) (t : Fin cfg1.N) (d) : (rdat1 V c).fetched 0 t d = V main_arg0 := by
  funext j
  show V main_arg0 _ = V main_arg0 j
  refine congrArg _ ?_
  show ((cfg1.win 0).rect t).emb (fun a => ⟨(j a).val, _⟩) = j
  funext a; apply Fin.ext
  rw [Window.rect_emb_val_of_index_zero _ _ _ (by fin_cases a <;> rfl)]
theorem sums1 (V : Valuation τ sig (Elt F)) (c : Dev nD) (t : Fin cfg1.N) (d) : (rdat1 V c).fetched 2 t d = V main_v0 := by
  funext j
  show V main_v0 _ = V main_v0 j
  refine congrArg _ ?_
  show ((cfg1.win 2).rect t).emb (fun a => ⟨(j a).val, _⟩) = j
  funext a; apply Fin.ext
  rw [Window.rect_emb_val_of_index_zero _ _ _ (by fin_cases a <;> rfl)]

theorem finds0_0 (V : Valuation τ sig (Elt F)) (c : Dev nD) (t : Fin cfg0.N) (Y) (h : (rdat0 V c).Finds 0 t Y) : Y = V main_arg0 :=
  finds_first (rdat0 V c) 0 (V main_arg0) (fun t d _ => rows0 V c t d) (fun t h => (fetch0_0 t).mpr (by rw [h])) (fun _ => rfl) (fun _ _ _ h => h) t.val t.isLt Y h
theorem finds0_1 (V : Valuation τ sig (Elt F)) (c : Dev nD) (t : Fin cfg0.N) (Y) (h : (rdat0 V c).Finds 1 t Y) : ∃ d, Y = wblk0 V t d :=
  ((rdat0 V c).finds_of_fetch (fetch0_1 t) Y).mp h
theorem finds1_0 (V : Valuation τ sig (Elt F)) (c : Dev nD) (t : Fin cfg1.N) (Y) (h : (rdat1 V c).Finds 0 t Y) : Y = V main_arg0 :=
  finds_first (rdat1 V c) 0 (V main_arg0) (fun t d _ => rows1 V c t d) (fun t h => (fetch1_0 t).mpr (by rw [h])) (fun _ => rfl) (fun _ _ _ h => h) t.val t.isLt Y h
theorem finds1_1 (V : Valuation τ sig (Elt F)) (c : Dev nD) (t : Fin cfg1.N) (Y) (h : (rdat1 V c).Finds 1 t Y) : ∃ d, Y = wblk1 V t d :=
  ((rdat1 V c).finds_of_fetch (fetch1_1 t) Y).mp h
theorem finds1_2 (V : Valuation τ sig (Elt F)) (c : Dev nD) (t : Fin cfg1.N) (Y) (h : (rdat1 V c).Finds 2 t Y) : Y = V main_v0 :=
  finds_first (rdat1 V c) 2 (V main_v0) (fun t d _ => sums1 V c t d) (fun t h => (fetch1_2 t).mpr (by rw [h])) (fun _ => rfl) (fun _ _ _ h => h) t.val t.isLt Y h

/-! ## The body obligations -/

theorem oblig0 (V : Valuation τ sig (Elt F)) (c : Dev nD) : (rdat0 V c).BodyObligation (defs₀ (F := F)) 𝒱₀ () Set.univ := fun t Y hY => by
  rw [bigSep_W0, bigSep_W0]
  rw [show (rdat0 V c).Φ t.succ = (rdat0 V c).Φ t.castSucc from rfl,
    show (rdat0 V c).owesAt () t.succ = (rdat0 V c).owesAt () t.castSucc from rfl]
  have e0 := finds0_0 V c t _ (hY 0)
  obtain ⟨d, e1⟩ := finds0_1 V c t _ (hY 1)
  iintro ⟨HΦ, Ho, H0, H1, H2⟩
  iapply (body0 (F := F) c Set.univ (grid0.coords t) (cfg0.slots t 0) (cfg0.slots t 1) (cfg0.slots t 2) (Y 0) (Y 1) (Y 2) _)
  isplitl [H0 H1 H2]
  · isplitl [H0]; · iexact H0
    isplitl [H1]; · iexact H1
    iexact H2
  iintro ⟨H0, H1, H2⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  iexists (accum (grid0.coords t) (Y 0) (Y 1) (Y 2)); isplitr
  · ipureintro; exact ⟨d, by rw [← e1, ← e0]⟩
  iexact H2

theorem oblig1 (V : Valuation τ sig (Elt F)) (c : Dev nD) : (rdat1 V c).BodyObligation (defs₀ (F := F)) 𝒱₀ () Set.univ := fun t Y hY => by
  rw [bigSep_W1, bigSep_W1]
  rw [show (rdat1 V c).owesAt () t.succ = (rdat1 V c).owesAt () t.castSucc from rfl]
  have e0 := finds1_0 V c t _ (hY 0)
  obtain ⟨d, e1⟩ := finds1_1 V c t _ (hY 1)
  have e2 := finds1_2 V c t _ (hY 2)
  have hc := grid1_val t
  dsimp only [rdat1]
  iintro ⟨⟨HΦ, ⟨%f, %hf, HS⟩⟩, Ho, H0, H1, H2, H3⟩
  have hr : recip (grid1.coords t) (Y 2) f = k1_pay1 (V main_v0) := by
    unfold recip
    split
    · rw [e2]
    · next h => exact hf (by rw [hc] at h; exact h)
  iapply (body1 (F := F) c Set.univ (grid1.coords t) (cfg1.slots t 0) (cfg1.slots t 1) (cfg1.slots t 2) (cfg1.slots t 3) (Y 0) (Y 1) (Y 2) (Y 3) f _)
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HΦ HS]
  · isplitl [HΦ]; · iexact HΦ
    iexists (recip (grid1.coords t) (Y 2) f); isplitr
    · ipureintro; exact fun _ => hr
    iexact HS
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  iexists (k1_pay2 (Y 0) (Y 1) (recip (grid1.coords t) (Y 2) f)); isplitr
  · ipureintro; exact ⟨d, by rw [← e1, ← e0, hr]⟩
  iexact H3

/-! ## The regions as segments -/

/-- No core owes another anything: no level is assigned. -/
abbrev L : GSem nD τ sig → Finset Unit := fun _ => ∅
abbrev lv : GSem nD τ sig → Unit → ℕ := fun _ _ => 0

/-- The core's owes, at nothing. -/
abbrev R (c : Dev nD) : sProp 𝕄 := iprop(∃ W, owes (c : Thread nD τ) (0 : CellTallies nD τ sig Unit) W)

/-- A region's launch ghost state: its cells' and its transfers' tokens. -/
abbrev ghost (p : Fin 2) (c : Dev nD) : sProp 𝕄 :=
  iprop(Pipeline.cellsGhost (Pipeline.pin (pcfgs (F := F)) adm) EPr p c ∗ Pipeline.toksInit (Pipeline.pin (pcfgs (F := F)) adm) EPr p c)

/-- The valuation with the sums at `f`. -/
abbrev withSums (V : Valuation τ sig (Elt F)) (f : main_v0.ty.Contents (Elt F)) : Valuation τ sig (Elt F) :=
  Function.update V (Proc.devRef .tc main_v0) f
/-- The valuation with the result at `f`. -/
abbrev withRes (V : Valuation τ sig (Elt F)) (f : main_v1.ty.Contents (Elt F)) : Valuation τ sig (Elt F) :=
  Function.update V (Proc.devRef .tc main_v1) f

theorem share0 (V : Valuation τ sig (Elt F)) (c : Dev nD) (w : Fin cfg0.W) : (rdats V 0 c).share w = fullShare := by
  unfold RDat.share; split <;> rfl

theorem share1 (V : Valuation τ sig (Elt F)) (c : Dev nD) (w : Fin cfg1.W) : (rdats V 1 c).share w = fullShare := by
  unfold RDat.share; split <;> rfl

/-- The four unscoped buffers, listed. -/
theorem unscoped_listed (V : Valuation τ sig (Elt F)) (c : Dev nD) :
    (unscopedBufs c (fun b => V b) : sProp 𝕄) = iprop(((((c : Thread nD τ).loc main_arg0) ↦{fullShare} V main_arg0)
      ∗ (((c : Thread nD τ).loc main_arg1) ↦{fullShare} V main_arg1) ∗ (((c : Thread nD τ).loc main_v0) ↦{fullShare} V main_v0))
      ∗ (((c : Thread nD τ).loc main_v1) ↦{fullShare} V main_v1)) := by
  rw [Pipeline.unscopedBufs_split cfgs 0 launch0.win.arr_unscoped launch0.win.arr_inj c (fun b => V b)]
  exact congrArg₂ _ (bigSep_W0 _) (unscopedRest0_eq c (fun b => V b))

/-- The summing region's arrays as it leaves them, with the result's buffer, are the unscoped buffers with the sums changed. -/
theorem leave0 (V : Valuation τ sig (Elt F)) (c : Dev nD) :
    iprop((rdats V 0 c).arraysAt cfg0.N ∗ (((c : Thread nD τ).loc main_v1) ↦{fullShare} V main_v1))
      ⊢ (iprop(∃ f, ⌜(rdat0 V c).ArrAt 2 cfg0.N f⌝ ∗ unscopedBufs c (fun b => withSums V f b)) : sProp 𝕄) := by
  rw [show (rdats V 0 c).arraysAt cfg0.N = _ from
    Pipeline.RDat.arraysAt_eq (pcfgs (F := F)) adm (rdats V) 0 c launch0.arr_whole (share0 V c) cfg0.N]
  iintro ⟨Ha, HZ⟩
  ihave H := (Entails.of_eq (bigSep_W0 _)) $$ Ha
  icases H with ⟨⟨%f0, %h0, H0⟩, ⟨%f1, %h1, H1⟩, ⟨%f2, %h2, H2⟩⟩
  have e0 : f0 = V main_arg0 := by
    have := h0; rw [show (rdats V 0 c) = rdat0 V c from rfl, RDat.ArrAt_in (rdat0 V c) 0 rfl] at this; exact this
  have e1 : f1 = V main_arg1 := by
    have := h1; rw [show (rdats V 0 c) = rdat0 V c from rfl, RDat.ArrAt_in (rdat0 V c) 1 rfl] at this; exact this
  subst e0; subst e1
  iexists f2
  isplitr; · ipureintro; exact h2
  rw [unscoped_listed, show withSums V f2 main_arg0 = V main_arg0 from Function.update_of_ne (by decide) _ _,
    show withSums V f2 main_arg1 = V main_arg1 from Function.update_of_ne (by decide) _ _,
    show withSums V f2 main_v0 = f2 from Function.update_self _ _ _,
    show withSums V f2 main_v1 = V main_v1 from Function.update_of_ne (by decide) _ _]
  isplitr [HZ]
  · isplitl [H0]; · iexact H0
    isplitl [H1]; · iexact H1
    iexact H2
  · iexact HZ

/-- The writing region's arrays as it leaves them are the unscoped buffers with the result changed. -/
theorem leave1 (V : Valuation τ sig (Elt F)) (c : Dev nD) :
    (rdats V 1 c).arraysAt cfg1.N
      ⊢ (iprop(∃ f, ⌜(rdat1 V c).ArrAt 3 cfg1.N f⌝ ∗ unscopedBufs c (fun b => withRes V f b)) : sProp 𝕄) := by
  rw [show (rdats V 1 c).arraysAt cfg1.N = _ from
    Pipeline.RDat.arraysAt_eq (pcfgs (F := F)) adm (rdats V) 1 c launch1.arr_whole (share1 V c) cfg1.N]
  iintro Ha
  ihave H := (Entails.of_eq (bigSep_W1 _)) $$ Ha
  icases H with ⟨⟨%f0, %h0, H0⟩, ⟨%f1, %h1, H1⟩, ⟨%f2, %h2, H2⟩, ⟨%f3, %h3, H3⟩⟩
  have e0 : f0 = V main_arg0 := by
    have := h0; rw [show (rdats V 1 c) = rdat1 V c from rfl, RDat.ArrAt_in (rdat1 V c) 0 rfl] at this; exact this
  have e1 : f1 = V main_arg1 := by
    have := h1; rw [show (rdats V 1 c) = rdat1 V c from rfl, RDat.ArrAt_in (rdat1 V c) 1 rfl] at this; exact this
  have e2 : f2 = V main_v0 := by
    have := h2; rw [show (rdats V 1 c) = rdat1 V c from rfl, RDat.ArrAt_in (rdat1 V c) 2 rfl] at this; exact this
  subst e0; subst e1; subst e2
  iexists f3
  isplitr; · ipureintro; exact h3
  rw [unscoped_listed, show withRes V f3 main_arg0 = V main_arg0 from Function.update_of_ne (by decide) _ _,
    show withRes V f3 main_arg1 = V main_arg1 from Function.update_of_ne (by decide) _ _,
    show withRes V f3 main_v0 = V main_v0 from Function.update_of_ne (by decide) _ _,
    show withRes V f3 main_v1 = f3 from Function.update_self _ _ _]
  isplitr [H3]
  · isplitl [H0]; · iexact H0
    isplitl [H1]; · iexact H1
    iexact H2
  · iexact H3

set_option backward.isDefEq.respectTransparency.types false in
theorem enter0 (V : Valuation τ sig (Elt F)) (c : Dev nD) :
    (unscopedBufs c (fun b => V b) : sProp 𝕄)
      ⊢ iprop((rdats V 0 c).arrays (rdats V 0 c).A ∗ (((c : Thread nD τ).loc main_v1) ↦{fullShare} V main_v1)) :=
  (Pipeline.RDat.arrays_of_unscopedBufs (p := (0 : Fin 2)) (pcfgs (F := F)) adm (rdats V) launch0.win launch0.arr_whole c
      (share0 V c) (fun b => V b) (fun _ => rfl)).trans (sep_mono .rfl (Entails.of_eq (unscopedRest0_eq c (fun b => V b))))

set_option backward.isDefEq.respectTransparency.types false in
theorem enter1 (V : Valuation τ sig (Elt F)) (c : Dev nD) :
    (unscopedBufs c (fun b => V b) : sProp 𝕄) ⊢ iprop((rdats V 1 c).arrays (rdats V 1 c).A ∗ emp) :=
  (Pipeline.RDat.arrays_of_unscopedBufs (p := (1 : Fin 2)) (pcfgs (F := F)) adm (rdats V) launch1.win launch1.arr_whole c
      (share1 V c) (fun b => V b) (fun _ => rfl)).trans (sep_mono .rfl (Entails.of_eq (unscopedRest1_eq c (fun b => V b))))

set_option backward.isDefEq.respectTransparency.types false in
/-- The summing region, entered with the unscoped buffers at `V` and left with the sums at something its data allow. -/
def reg0 (V : Valuation τ sig (Elt F)) : Pipeline.RDat.RegionSeg (pcfgs (F := F)) adm (rdats V) () defs₀ 𝒱₀ L lv 0 where
  win := launch0.win.to₀
  block_pos := launch0.block_pos
  stage_whole := launch0.stage_whole
  K := PEmpty
  osem := fun k => k.elim
  ho := Pipeline.OwnSemFacts.none _
  hbody c := oblig0 V c
  hwaits := Pipeline.RDat.hwaits_of_owed_zero _ _ _ _ L lv 0 fun _ _ => rfl
  pre c := iprop(unscopedBufs c (fun b => V b) ∗ R c)
  post c := iprop((∃ f, ⌜(rdat0 V c).ArrAt 2 cfg0.N f⌝ ∗ unscopedBufs c (fun b => withSums V f b)) ∗ R c)
  X c := iprop(emp)
  Y c := iprop(emp)
  Z c := ((c : Thread nD τ).loc main_v1) ↦{fullShare} V main_v1
  hentry c := by
    iintro ⟨⟨Hub, HO⟩, -, -⟩
    ihave H := (enter0 V c) $$ Hub
    icases H with ⟨Ha, H1⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact H1
  hin c := by
    rw [show (rdats V 0 c).Φ 0 = Pipeline.scopedRest spec0 c from rfl]
    iintro ⟨-, -, Hr⟩
    iexact Hr
  hout c := by
    rw [Pipeline.ownSems0_none]
    show (Pipeline.scopedRest spec0 c : sProp 𝕄) ⊢ _
    iintro Hr
    isplitr; · iempintro
    isplitr; · iempintro
    iexact Hr
  hexit c := by
    iintro ⟨Ha, HO, -, HZ⟩
    imodintro
    isplitr [HO]
    · iapply (leave0 V c)
      isplitl [Ha]; · iexact Ha
      iexact HZ
    · unfold Pipeline.RDat.owesAt Pipeline.owesWithin
      icases HO with ⟨%W, -, HO⟩; iexists W; iexact HO

set_option backward.isDefEq.respectTransparency.types false in
/-- The writing region, entered with the unscoped buffers at `V` and left with the result at something its data allow. -/
def reg1 (V : Valuation τ sig (Elt F)) : Pipeline.RDat.RegionSeg (pcfgs (F := F)) adm (rdats V) () defs₀ 𝒱₀ L lv 1 where
  win := launch1.win.to₀
  block_pos := launch1.block_pos
  stage_whole := launch1.stage_whole
  K := PEmpty
  osem := fun k => k.elim
  ho := Pipeline.OwnSemFacts.none _
  hbody c := oblig1 V c
  hwaits := Pipeline.RDat.hwaits_of_owed_zero _ _ _ _ L lv 1 fun _ _ => rfl
  pre c := iprop(unscopedBufs c (fun b => V b) ∗ R c)
  post c := iprop((∃ f, ⌜(rdat1 V c).ArrAt 3 cfg1.N f⌝ ∗ unscopedBufs c (fun b => withRes V f b)) ∗ R c)
  X c := iprop(emp)
  Y c := iprop(emp)
  Z c := iprop(emp)
  hentry c := by
    iintro ⟨⟨Hub, HO⟩, -, -⟩
    ihave H := (enter1 V c) $$ Hub
    icases H with ⟨Ha, -⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iempintro
  hin c := by
    show _ ⊢ (rdat1 V c).Φ 0
    unfold rdat1
    iintro ⟨-, -, Hr⟩
    ihave H := (Entails.of_eq (scopedRest1_eq c)) $$ Hr
    icases H with ⟨Ha, Hb, Hc, Hd, ⟨%f, He⟩⟩
    isplitr [He]
    · isplitl [Ha]; · iexact Ha
      isplitl [Hb]; · iexact Hb
      isplitl [Hc]; · iexact Hc
      iexact Hd
    · iexists f
      isplitr; · ipureintro; exact fun h => absurd rfl h
      iexact He
  hout c := by
    rw [Pipeline.ownSems0_none]
    show (rdat1 V c).Φ (Fin.last cfg1.N) ⊢ _
    unfold rdat1
    iintro ⟨⟨Ha, Hb, Hc, Hd⟩, ⟨%f, -, He⟩⟩
    isplitr; · iempintro
    isplitr; · iempintro
    iapply (Entails.of_eq (scopedRest1_eq c).symm)
    isplitl [Ha]; · iexact Ha
    isplitl [Hb]; · iexact Hb
    isplitl [Hc]; · iexact Hc
    isplitl [Hd]; · iexact Hd
    iexists f; iexact He
  hexit c := by
    iintro ⟨Ha, HO, -, -⟩
    imodintro
    isplitr [HO]
    · iapply (leave1 V c)
      iexact Ha
    · unfold Pipeline.RDat.owesAt Pipeline.owesWithin
      icases HO with ⟨%W, -, HO⟩; iexists W; iexact HO

/-! ## The two calls as host segments, and the launch -/

/-- The summing region run from its entry state to its exit state. -/
theorem wp0 (V : Valuation τ sig (Elt F)) (c : Dev nD) {β : Type}
    (k : PUnit → Prog (TpuEff nD τ sig (Elt F) (Pipeline.Sig Λ₀ (Fin 2) fun p => (pcfgs (F := F) p).Adm) .tc) β) (K : β → sProp 𝕄) :
    iprop((iprop(boundary (c : Thread nD τ) ∗ (∃ f, ⌜(rdat0 V c).ArrAt 2 cfg0.N f⌝ ∗ unscopedBufs c (fun b => withSums V f b)) ∗ R c)
          -∗ wp frame (wpE (Pipeline.defs (pcfgs (F := F)) defs₀) (Variants.lift 𝒱₀) (c : Thread nD τ) none) Set.univ (k ⟨⟩) K)
        ∗ boundary (c : Thread nD τ) ∗ (unscopedBufs c (fun b => V b) ∗ R c) ∗ levAts L lv
        ∗ Pipeline.cellsGhost (Pipeline.pin (pcfgs (F := F)) adm) EPr 0 c ∗ Pipeline.toksInit (Pipeline.pin (pcfgs (F := F)) adm) EPr 0 c)
      ⊢ wp frame (wpE (Pipeline.defs (pcfgs (F := F)) defs₀) (Variants.lift 𝒱₀) (c : Thread nD τ) none) Set.univ
        (.op (.customCall (Pipeline.entry 0) ()) k) K :=
  Pipeline.RDat.RegionSeg.wp (pcfgs (F := F)) adm (rdats V) () cellOf_inj EPr defs₀ 𝒱₀ L lv (reg0 V) c none (fun _ h => nomatch h) k K

/-- The writing region run from its entry state to its exit state. -/
theorem wp1 (V : Valuation τ sig (Elt F)) (c : Dev nD) {β : Type}
    (k : PUnit → Prog (TpuEff nD τ sig (Elt F) (Pipeline.Sig Λ₀ (Fin 2) fun p => (pcfgs (F := F) p).Adm) .tc) β) (K : β → sProp 𝕄) :
    iprop((iprop(boundary (c : Thread nD τ) ∗ (∃ f, ⌜(rdat1 V c).ArrAt 3 cfg1.N f⌝ ∗ unscopedBufs c (fun b => withRes V f b)) ∗ R c)
          -∗ wp frame (wpE (Pipeline.defs (pcfgs (F := F)) defs₀) (Variants.lift 𝒱₀) (c : Thread nD τ) none) Set.univ (k ⟨⟩) K)
        ∗ boundary (c : Thread nD τ) ∗ (unscopedBufs c (fun b => V b) ∗ R c) ∗ levAts L lv
        ∗ Pipeline.cellsGhost (Pipeline.pin (pcfgs (F := F)) adm) EPr 1 c ∗ Pipeline.toksInit (Pipeline.pin (pcfgs (F := F)) adm) EPr 1 c)
      ⊢ wp frame (wpE (Pipeline.defs (pcfgs (F := F)) defs₀) (Variants.lift 𝒱₀) (c : Thread nD τ) none) Set.univ
        (.op (.customCall (Pipeline.entry 1) ()) k) K :=
  Pipeline.RDat.RegionSeg.wp (pcfgs (F := F)) adm (rdats V) () cellOf_inj EPr defs₀ 𝒱₀ L lv (reg1 V) c none (fun _ h => nomatch h) k K

/-- The summing call: from the unscoped buffers at `V`, to the sums at something its data allow. -/
def call0 (V : Dev nD → Valuation τ sig (Elt F)) : Pipeline.HostSeg (Name := ℕ) (U := UU) (pcfgs (F := F)) defs₀ 𝒱₀ L lv where
  prog := Prog.lift (.customCall (Pipeline.entry 0) ())
  pre c := iprop((unscopedBufs c (fun b => V c b) ∗ R c) ∗ ghost 0 c ∗ ghost 1 c)
  post c := iprop(((∃ f, ⌜(rdat0 (V c) c).ArrAt 2 cfg0.N f⌝ ∗ unscopedBufs c (fun b => withSums (V c) f b)) ∗ R c) ∗ ghost 1 c)
  run c β k K := by
    iintro ⟨Hk, Hbd, ⟨Hpre, ⟨Hg, Ht⟩, H1⟩, Hla⟩
    iapply (wp0 (V c) c k K)
    isplitl [Hk H1]
    · iintro ⟨Hbd, Hpost⟩
      iapply Hk
      isplitl [Hbd]; · iexact Hbd
      isplitl [Hpost]; · iexact Hpost
      iexact H1
    isplitl [Hbd]; · iexact Hbd
    isplitl [Hpre]; · iexact Hpre
    isplitl [Hla]; · iexact Hla
    isplitl [Hg]; · iexact Hg
    iexact Ht

/-- The writing call: from whatever sums the first call left, to the result at something its data at those sums allow. -/
def call1 (V : Dev nD → Valuation τ sig (Elt F)) : Pipeline.HostSeg (Name := ℕ) (U := UU) (pcfgs (F := F)) defs₀ 𝒱₀ L lv where
  prog := Prog.lift (.customCall (Pipeline.entry 1) ())
  pre c := iprop(((∃ f, ⌜(rdat0 (V c) c).ArrAt 2 cfg0.N f⌝ ∗ unscopedBufs c (fun b => withSums (V c) f b)) ∗ R c) ∗ ghost 1 c)
  post c := iprop((∃ f g, ⌜(rdat0 (V c) c).ArrAt 2 cfg0.N f ∧ (rdat1 (withSums (V c) f) c).ArrAt 3 cfg1.N g⌝
    ∗ unscopedBufs c (fun b => withRes (withSums (V c) f) g b)) ∗ R c)
  run c β k K := by
    iintro ⟨Hk, Hbd, ⟨⟨⟨%f, %hf, Hub⟩, HR⟩, ⟨Hg, Ht⟩⟩, Hla⟩
    iapply (wp1 (withSums (V c) f) c k K)
    isplitl [Hk]
    · iintro ⟨Hbd, ⟨⟨%g, %hg, Hub⟩, HR⟩⟩
      iapply Hk
      isplitl [Hbd]; · iexact Hbd
      isplitl [Hub]
      · iexists f; iexists g
        isplitr; · ipureintro; exact ⟨hf, hg⟩
        iexact Hub
      iexact HR
    isplitl [Hbd]; · iexact Hbd
    isplitl [Hub HR]
    · isplitl [Hub]; · iexact Hub
      iexact HR
    isplitl [Hla]; · iexact Hla
    isplitl [Hg]; · iexact Hg
    iexact Ht

/-- The regions' launch ghost state, core by core and region by region. -/
theorem ghosts_listed : iprop((bigSep Finset.univ fun c : Dev nD => bigSep Finset.univ fun p => Pipeline.cellsGhost cfgs EPr p c)
    ∗ (bigSep Finset.univ fun c : Dev nD => bigSep Finset.univ fun p => (Pipeline.toksInit cfgs EPr p c : sProp 𝕄)))
    ⊢ bigSep Finset.univ (fun c : Dev nD => iprop(ghost 0 c ∗ ghost 1 c)) := by
  rw [← bigSep_sep']
  refine bigSep_mono fun c _ => ?_
  rw [← bigSep_sep']
  exact Entails.of_eq (bigSep_univ_eq_bigSepL [(0 : Fin 2), (1 : Fin 2)] (by decide) (by decide) _)

variable (m : (ℓ : Loc nD τ sig) → Buf (Elt F) ℓ) (ρ : Dev nD → PrngReg)

/-- A core's buffers at launch. -/
abbrev Vl (c : Dev nD) : Valuation τ sig (Elt F) := fun b => m ((c : Thread nD τ).1, b)

/-- @main as the list of its two calls. -/
abbrev segs (_ : Dev nD) : List (Pipeline.RDat.Seg (pcfgs (F := F)) adm (rdats (Vl m default)) () defs₀ 𝒱₀ L lv) :=
  [.host (call0 (Vl m)), .host (call1 (Vl m))]

/-- What the run leaves on a core: the result at something the second call's data allow at some sums the first call's do. -/
def Left (m : (ℓ : Loc nD τ sig) → Buf (Elt F) ℓ) (c : Dev nD) (s : MemSt nD τ sig (Elt F)) : Prop :=
  (∃ f, (rdat0 (Vl m c) c).ArrAt 2 cfg0.N f
    ∧ (rdat1 (withSums (Vl m c) f) c).ArrAt 3 cfg1.N (s.mem ((c : Thread nD τ).loc main_v1)))
  ∧ s.mem ((c : Thread nD τ).loc main_arg0) = m ((c : Thread nD τ).loc main_arg0)
  ∧ s.mem ((c : Thread nD τ).loc main_arg1) = m ((c : Thread nD τ).loc main_arg1)

set_option backward.isDefEq.respectTransparency.types false in
/-- Every weakly fair execution of @main terminates, and every final state has the result as `Left` says, the arguments
    unchanged and every semaphore counter at zero. -/
theorem run_main : θ_run defs (onTc (τ := τ) (main (F := F))) ⟨m, fun _ => 0, ρ⟩
    (fun r => (∀ c : Dev nD, Left m c r.2) ∧ r.2.sem = fun _ => 0) := by
  refine Pipeline.RDat.θ_run_regions_kit_dev_sems (pcfgs (F := F)) adm (rdats (Vl m default)) () cellOf_inj EPk defs₀ 𝒱₀ L lv m ρ main
    (segs m)
    (fun c Q => by
      rewrite [main_chain c, Pipeline.RDat.Seg.run_eq_chain,
        show (segs m c).map Pipeline.RDat.Seg.prog = [
          Prog.lift (.customCall (Pipeline.entry 0) ()),
          Prog.lift (.customCall (Pipeline.entry 1) ()) ] from rfl]
      dsimp (config := { failIfUnchanged := false }) only
      exact .rfl)
    (fun c => by simp only [segs, Pipeline.RDat.Seg.pipes_host, Pipeline.RDat.Seg.pipes_nil]; decide) 0 (fun _ _ => rfl)
    (fun c => iprop(ghost 0 c ∗ ghost 1 c))
    (initOf (Pipeline.cells cfgs cellOf_inj) (Pipeline.launchToks cfgs cellOf_inj),
      initOf (Pipeline.cells cfgs cellOf_inj) (Pipeline.launchToks cfgs cellOf_inj))
    ?_
    (T₀ := fun c => iprop((unscopedBufs c (fun b => Vl m c b) ∗ R c) ∗ ghost 0 c ∗ ghost 1 c))
    (Tₙ := fun c => iprop(∃ f g, ⌜(rdat0 (Vl m c) c).ArrAt 2 cfg0.N f ∧ (rdat1 (withSums (Vl m c) f) c).ArrAt 3 cfg1.N g⌝
      ∗ unscopedBufs c (fun b => withRes (withSums (Vl m c) f) g b)))
    (hch := fun c => ⟨.rfl, .rfl, .rfl⟩)
    (hinit := ?_) (QY := fun c s => Left m c s)
    (hfin := fun c s' => ?_) (hQ := fun _ h hz => ⟨h, funext fun g => hz g (.inr (regions_no_unscoped g.2))⟩)
  · iintro Hu
    ihave H := (ownU_pair _ _) $$ Hu
    icases H with ⟨HP, HR⟩
    imod (Pipeline.fund_ghost cfgs EPr cellOf_inj) $$ HR with ⟨Hg, Ht⟩
    imodintro
    isplitl [HP]; · iexact HP
    iapply (show iprop((bigSep Finset.univ fun c : Dev nD => bigSep Finset.univ fun p => Pipeline.cellsGhost cfgs EPr p c)
        ∗ (bigSep Finset.univ fun c : Dev nD => bigSep Finset.univ fun p => (Pipeline.toksInit cfgs EPr p c : sProp 𝕄)))
        ⊢ bigSep Finset.univ (fun c : Dev nD => iprop(ghost 0 c ∗ ghost 1 c)) from ghosts_listed)
    isplitl [Hg]; · iexact Hg
    iexact Ht
  · refine Pipeline.initEach L lv fun c => ?_
    iintro ⟨⟨Hh, -, HO, -, -, HG⟩, -⟩
    imodintro
    isplitr [HG]
    · isplitl [Hh]; · iexact Hh
      iexists ∅; iexact HO
    · iexact HG
  · iintro ⟨⟨%f, %g, %hfg, Hub⟩, HSI⟩
    ihave Hh := (Entails.of_eq (Pipeline.unscopedBufs_held c (withRes (withSums (Vl m c) f) g))) $$ Hub
    unfold StableHlo.held
    ihave Hr := (pointsTo_read_all (Pipeline.ucRefs τ sig) (fun b => ((c : Thread nD τ).1, b)) (withRes (withSums (Vl m c) f) g) s') $$ [Hh HSI]
    · isplitl [Hh] <;> iassumption
    icases Hr with ⟨%h, HSI⟩
    imodintro
    isplitr
    · ipureintro
      have hb : ∀ b : Ref sig .tc, (Proc.devRef .tc b) ∈ Pipeline.ucRefs τ sig →
          s'.mem.mem ((c : Thread nD τ).loc b) = withRes (withSums (Vl m c) f) g b := fun b hb => h _ hb
      have r0 := hb main_arg0 (Finset.mem_filter.mpr ⟨StableHlo.devRef_mem_tcRefs main_arg0, by decide⟩)
      have r1 := hb main_arg1 (Finset.mem_filter.mpr ⟨StableHlo.devRef_mem_tcRefs main_arg1, by decide⟩)
      have r2 := hb main_v1 (Finset.mem_filter.mpr ⟨StableHlo.devRef_mem_tcRefs main_v1, by decide⟩)
      refine ⟨⟨f, hfg.1, ?_⟩, ?_, ?_⟩
      · rw [r2, show withRes (withSums (Vl m c) f) g main_v1 = g from Function.update_self _ _ _]; exact hfg.2
      · rw [r0]; exact (Function.update_of_ne (by decide) _ _).trans (Function.update_of_ne (by decide) _ _)
      · rw [r1]; exact (Function.update_of_ne (by decide) _ _).trans (Function.update_of_ne (by decide) _ _)
    · iexact HSI

end Cert.KernelIdeal.Vocab

end
-- ==== Proof.KVal.lean ====
/-
  What the vocabulary kernels' arrays hold at the ideal values: the sums window ends at the exponentials' sums over the whole
  vocabulary, and the result's window at each exponential times the reciprocal of its row's sum.
-/
module

public import proofs.«01_k».proof.Proof.KIRun
public import proofs.«01_k».proof.Proof.Algebra
public import Idealize.ShloMosaic.Lib.Pointwise
public import Idealize.ShloMosaic.Lib.IdealHost
public import Idealize.ShloMosaic.Lib.WordCmp
public import Idealize.ShloMosaic.Lib.Pipeline.ValueKit
public import Idealize.ShloMosaic.Lib.Pipeline.ArrRel

@[expose] public section

set_option maxRecDepth 16384

noncomputable section

namespace Cert.KernelIdeal.Vocab

open Cert.KernelIdeal Cert.KernelIdeal.Gen

open Idealize.ShloMosaic
open Idealize.ShloMosaic.TcCoe
open Idealize.ShloMosaic.WordCmp
open Idealize.ShloMosaic.Pipeline (Dat RDat Cfg Window cellOf)

/-- The dot product of row `r` of one array with row `v` of another. -/
def dotRows {s₁ s₂ : ℕ} (X : (⟨2, ![s₁, 1024]⟩ : Shape).Idx → EReal) (W : (⟨2, ![s₂, 1024]⟩ : Shape).Idx → EReal) (r : Fin s₁) (v : Fin s₂) : EReal :=
  ∑ k : Fin 1024, X (ix2 r k) * W (ix2 v k)

theorem pay1_at (X : Vec Ideal S2048x1024 .f32) (W : Vec Ideal S1024x1024 .f32) (r : Fin 2048) (q : Fin 1024) :
    k0_pay1 X W (ix2 r q) = Ideal.exp (dotRows X W r q) := by
  unfold dotRows
  pointwise [k0_pay1]

theorem pay3_at (X : Vec Ideal S2048x1024 .f32) (W : Vec Ideal S1024x1024 .f32) (r : Fin 2048) :
    k0_pay3 X W (ix2 r 0) = ∑ q : Fin 1024, Ideal.exp (dotRows X W r q) := by
  pointwise [k0_pay3]
  exact Finset.sum_congr rfl fun q _ => pay1_at X W r q

theorem pay2_at (i : grid0.Coords) (X : Vec Ideal S2048x1024 .f32) (W : Vec Ideal S1024x1024 .f32) (r : Fin 2048) :
    k0_pay2 i X W (ix2 r 0) = ∑ q : Fin 1024, if 1024 * (i 0).val + q.val < 50000 then Ideal.exp (dotRows X W r q) else 0 := by
  pointwise [k0_pay2]
  refine Finset.sum_congr rfl fun q _ => ?_
  have hi : (i 0).val < 49 := (i 0).isLt
  have e : IntOp.addi (BitVec.ofNat 32 q.val) (Scalar.muli (BitVec.ofNat 32 (i 0).val) 1024#32) = BitVec.ofNat 32 (q.val + (i 0).val * 1024) := by
    simp only [IntOp.addi, Scalar.muli, IntOp.muli, BitVec.ofNat_add, BitVec.ofNat_mul]
  rw [e, cmpi_slt_ofNat (by omega) (by omega), select_ofBool, pay1_at]
  simp only [decide_eq_true_eq, Nat.add_comm, Nat.mul_comm]

theorem pay4_at (r : Fin 2048) : (k0_pay4 : FVec Ideal S2048x1 .f32) (ix2 r 0) = 0 := by
  pointwise [k0_pay4]

theorem pay5_at (a b : Vec Ideal S2048x1 .f32) (r : Fin 2048) : k0_pay5 a b (ix2 r 0) = b (ix2 r 0) + a (ix2 r 0) := by
  pointwise [k0_pay5]

theorem k1_pay1_at (s : Vec Ideal S2048x1 .f32) (r : Fin 2048) : k1_pay1 s (ix2 r 0) = Ideal.div 1 (s (ix2 r 0)) := by
  pointwise [k1_pay1]

theorem k1_pay2_at (X : Vec Ideal S2048x1024 .f32) (W : Vec Ideal S1024x1024 .f32) (s : Vec Ideal S2048x1 .f32) (b : Fin 32) (t : Fin 59) (q : Fin 1024) :
    k1_pay2 X W s (ix3 b t q) = Ideal.exp (dotRows X W ⟨b.val * 64 + t.val, by omega⟩ q) * s (ix2 ⟨b.val * 64 + t.val, by omega⟩ 0) := by
  unfold dotRows
  pointwise [k1_pay2]

/-! ## The weight blocks inside the array -/

theorem index0 : ∀ t : Fin cfg0.N, win0_1.index t 0 = t.val ∧ win0_1.index t 1 = 0 := by decide +kernel
theorem index1 : ∀ t : Fin cfg1.N, win1_1.index t 0 = t.val ∧ win1_1.index t 1 = 0 := by decide +kernel
theorem xsize0 : ∀ t : Fin cfg0.N, win0_1.xsize (grid0.coords t) 0 = min 1024 (50000 - 1024 * t.val) ∧ win0_1.xsize (grid0.coords t) 1 = 1024 := by
  decide +kernel
theorem xsize1 : ∀ t : Fin cfg1.N, win1_1.xsize (grid1.coords t) 0 = min 1024 (50000 - 1024 * t.val) ∧ win1_1.xsize (grid1.coords t) 1 = 1024 := by
  decide +kernel

theorem wblk0_at (V : Valuation τ sig (Elt Ideal)) (t : Fin cfg0.N) (d : S1024x1024.Idx → Elt Ideal .f32) (q k : Fin 1024)
    (h : 1024 * t.val + q.val < 50000) : wblk0 V t d (ix2 q k) = V main_arg1 (ix2 ⟨1024 * t.val + q.val, h⟩ k) := by
  have h0 := q.isLt
  have h1 := k.isLt
  have hm : win0_1.moved (grid0.coords t) (ix2 q k) = true := (win0_1.moved_iff _ _).mpr fun a => by
    fin_cases a
    · change q.val < win0_1.xsize (grid0.coords t) 0; rw [(xsize0 t).1]; omega
    · change k.val < win0_1.xsize (grid0.coords t) 1; rw [(xsize0 t).2]; omega
  unfold wblk0 Window.fill
  rw [dif_pos hm]
  blk_ext [(index0 t).1, (index0 t).2]

theorem wblk1_at (V : Valuation τ sig (Elt Ideal)) (t : Fin cfg1.N) (d : S1024x1024.Idx → Elt Ideal .f32) (q k : Fin 1024)
    (h : 1024 * t.val + q.val < 50000) : wblk1 V t d (ix2 q k) = V main_arg1 (ix2 ⟨1024 * t.val + q.val, h⟩ k) := by
  have h0 := q.isLt
  have h1 := k.isLt
  have hm : win1_1.moved (grid1.coords t) (ix2 q k) = true := (win1_1.moved_iff _ _).mpr fun a => by
    fin_cases a
    · change q.val < win1_1.xsize (grid1.coords t) 0; rw [(xsize1 t).1]; omega
    · change k.val < win1_1.xsize (grid1.coords t) 1; rw [(xsize1 t).2]; omega
  unfold wblk1 Window.fill
  rw [dif_pos hm]
  blk_ext [(index1 t).1, (index1 t).2]

/-! ## The sums -/

/-- The exponential of a logit. -/
def expo (V : Valuation τ sig (Elt Ideal)) (r : Fin 2048) (v : Fin 50000) : EReal := Ideal.exp (dotRows (V main_arg0) (V main_arg1) r v)

theorem dot_wblk0 (V : Valuation τ sig (Elt Ideal)) (t : Fin cfg0.N) (d : S1024x1024.Idx → Elt Ideal .f32) (r : Fin 2048) (q : Fin 1024)
    (h : 1024 * t.val + q.val < 50000) : Ideal.exp (dotRows (V main_arg0) (wblk0 V t d) r q) = expo V r ⟨1024 * t.val + q.val, h⟩ := by
  unfold expo dotRows
  exact congrArg _ (Finset.sum_congr rfl fun k _ => by rw [wblk0_at V t d q k h])

theorem dot_wblk1 (V : Valuation τ sig (Elt Ideal)) (t : Fin cfg1.N) (d : S1024x1024.Idx → Elt Ideal .f32) (r : Fin 2048) (q : Fin 1024)
    (h : 1024 * t.val + q.val < 50000) : Ideal.exp (dotRows (V main_arg0) (wblk1 V t d) r q) = expo V r ⟨1024 * t.val + q.val, h⟩ := by
  unfold expo dotRows
  exact congrArg _ (Finset.sum_congr rfl fun k _ => by rw [wblk1_at V t d q k h])

/-- One block's contribution, masked or not. -/
theorem addend_at (V : Valuation τ sig (Elt Ideal)) (t : Fin cfg0.N) (d : S1024x1024.Idx → Elt Ideal .f32) (r : Fin 2048) :
    addend (grid0.coords t) (V main_arg0) (wblk0 V t d) (ix2 r 0)
      = ∑ q : Fin 1024, if h : 1024 * t.val + q.val < 50000 then expo V r ⟨1024 * t.val + q.val, h⟩ else 0 := by
  have ht : t.val < 49 := t.isLt
  unfold addend
  split
  · rw [pay2_at, grid0_val]
    refine Finset.sum_congr rfl fun q _ => ?_
    by_cases h : 1024 * t.val + q.val < 50000
    · rw [if_pos h, dif_pos h, dot_wblk0 V t d r q h]
    · rw [if_neg h, dif_neg h]
  · next h48 =>
    rw [grid0_val] at h48
    rw [pay3_at]
    refine Finset.sum_congr rfl fun q _ => ?_
    have hq := q.isLt
    have h : 1024 * t.val + q.val < 50000 := by omega
    rw [dif_pos h, dot_wblk0 V t d r q h]

theorem accum_at (V : Valuation τ sig (Elt Ideal)) (t : Fin cfg0.N) (d : S1024x1024.Idx → Elt Ideal .f32) (Y : Vec Ideal S2048x1 .f32) (r : Fin 2048)
    (hY : t.val ≠ 0 → Y (ix2 r 0) = ∑ v : Fin 50000, if v.val < 1024 * t.val then expo V r v else 0) :
    accum (grid0.coords t) (V main_arg0) (wblk0 V t d) Y (ix2 r 0) = ∑ v : Fin 50000, if v.val < 1024 * (t.val + 1) then expo V r v else 0 := by
  rw [Cert.Vocab.sum_block]
  unfold accum
  rw [pay5_at, addend_at, grid0_val]
  refine congrArg (· + _) ?_
  split
  · next h => rw [pay4_at, h]; simp
  · next h => exact hY h

/-- What the sums' buffer holds after a point: the exponentials' sums over the vocabulary up to the point's block. -/
theorem leaves_sums (V : Valuation τ sig (Elt Ideal)) (c : Dev nD) :
    ∀ (n : ℕ) (h : n < cfg0.N) (X : (cfg0.win 2).block.Idx → Elt Ideal (cfg0.win 2).elt), (rdat0 V c).Leaves 2 ⟨n, h⟩ X → ∀ r : Fin 2048,
      (X : Vec Ideal S2048x1 .f32) (ix2 r 0) = ∑ v : Fin 50000, if v.val < 1024 * (n + 1) then expo V r v else 0 := by
  intro n
  induction n with
  | zero =>
    rintro h X ⟨Y, -, d, rfl⟩ r
    exact accum_at V ⟨0, h⟩ d Y r fun h => absurd rfl h
  | succ n ih =>
    rintro h X ⟨Y, hY, d, rfl⟩ r
    refine accum_at V ⟨n + 1, h⟩ d Y r fun _ => ?_
    have hf : (cfg0.win 2).fetch ⟨n + 1, h⟩ = false := (by decide +kernel : ∀ t : Fin cfg0.N, t.val ≠ 0 → (cfg0.win 2).fetch t = false) ⟨n + 1, h⟩ (Nat.succ_ne_zero n)
    rcases ((rdat0 V c).finds_of_pos hf (Nat.succ_ne_zero n) Y).mp hY with h' | h'
    · have := (by decide +kernel : ∀ t : Fin cfg0.N, t.val < 48 → (cfg0.win 2).flush t = false) ⟨n + 1 - 1, by omega⟩ (by have : n + 1 < 49 := h; show n + 1 - 1 < 48; omega)
      rw [this] at h'; exact absurd h' Bool.false_ne_true
    · exact ih _ Y h' r

/-- The last point of the summing grid. -/
def last0 : Fin cfg0.N := ⟨48, by decide⟩

theorem sums_at (V : Valuation τ sig (Elt Ideal)) (c : Dev nD) (f : Vec Ideal S2048x1 .f32) (hf : (rdat0 V c).ArrAt 2 cfg0.N f) (r : Fin 2048) :
    f (ix2 r 0) = ∑ v : Fin 50000, expo V r v := by
  obtain ⟨X, hX, hA⟩ := hf.emb_eq_of_wholeAt (t₀ := last0) (by decide +kernel)
  have h1 := hA (ix2 r 0)
  have h2 := leaves_sums V c 48 last0.isLt X hX r
  have h3 : (∑ v : Fin 50000, if v.val < 1024 * (48 + 1) then expo V r v else 0) = ∑ v : Fin 50000, expo V r v :=
    Finset.sum_congr rfl fun v _ => if_pos (by have := v.isLt; omega)
  exact h1.trans (h2.trans h3)

/-! ## The result -/

theorem index3 : ∀ t : Fin cfg1.N, win1_3.index t 0 = 0 ∧ win1_3.index t 1 = 0 ∧ win1_3.index t 2 = t.val := by decide +kernel
theorem xsize3 : ∀ t : Fin cfg1.N, win1_3.xsize (grid1.coords t) 0 = 32 ∧ win1_3.xsize (grid1.coords t) 1 = 59
    ∧ win1_3.xsize (grid1.coords t) 2 = min 1024 (50000 - 1024 * t.val) := by
  decide +kernel

/-- The row of the padded rows that a sentence and a time step have. -/
def row (b : Fin 32) (t : Fin 59) : Fin 2048 := ⟨b.val * 64 + t.val, by omega⟩

/-- What the result holds at an index. -/
def prob (V : Valuation τ sig (Elt Ideal)) (b : Fin 32) (t : Fin 59) (v : Fin 50000) : EReal :=
  expo V (row b t) v * Ideal.div 1 ((V main_v0 : Vec Ideal S2048x1 .f32) (ix2 (row b t) 0))

theorem tile_at (V : Valuation τ sig (Elt Ideal)) (t : Fin cfg1.N) (d : S1024x1024.Idx → Elt Ideal .f32) (b : Fin 32) (u : Fin 59) (q : Fin 1024)
    (h : 1024 * t.val + q.val < 50000) :
    k1_pay2 (V main_arg0) (wblk1 V t d) (k1_pay1 (V main_v0)) (ix3 b u q) = prob V b u ⟨1024 * t.val + q.val, h⟩ := by
  rw [k1_pay2_at, k1_pay1_at, dot_wblk1 V t d _ q h]
  rfl

theorem out_at (V : Valuation τ sig (Elt Ideal)) (c : Dev nD) (g : Vec Ideal S32x59x50000 .f32) (hg : (rdat1 V c).ArrAt 3 cfg1.N g)
    (b : Fin 32) (t : Fin 59) (v : Fin 50000) : g (ix3 b t v) = prob V b t v := by
  obtain ⟨X, hX, hA⟩ := hg.exists_exact
  rw [hA (Function.update (fun _ _ _ => Classical.arbitrary _) 3 X) fun u _ _ => by rw [Function.update_self]]
  refine ((rdat1 V c).withAfter (Function.update (fun _ _ _ => Classical.arbitrary _) 3 X)).arrAt_forall_of_covers 3
    (fun (i : S32x59x50000.Idx) (x : EReal) => x = prob V (i 0) (i 1) (i 2)) (by decide +kernel) (fun t hf y => ?_) (ix3 b t v)
  obtain ⟨Y, -, d, hd⟩ := hX t t.isLt hf
  rw [RDat.withAfter_after, Function.update_self, hd]
  have b0 : (y 0).val < 32 := (xsize3 t).1 ▸ (y 0).isLt
  have b1 : (y 1).val < 59 := (xsize3 t).2.1 ▸ (y 1).isLt
  have b2 : (y 2).val < min 1024 (50000 - 1024 * t.val) := (xsize3 t).2.2 ▸ (y 2).isLt
  have h2 : 1024 * t.val + (y 2).val < 50000 := by omega
  have e := tile_at V t d ⟨(y 0).val, b0⟩ ⟨(y 1).val, b1⟩ ⟨(y 2).val, by omega⟩ h2
  have hx : (cfg1.win 3).xinj (cfg1.grid.coords t) y = ix3 (⟨(y 0).val, b0⟩ : Fin 32) (⟨(y 1).val, b1⟩ : Fin 59) (⟨(y 2).val, by omega⟩ : Fin 1024) := by
    funext a; fin_cases a <;> rfl
  rw [hx]
  refine Eq.trans e ?_
  congr 1
  · apply Fin.ext; blk_simp [(index3 t).1]
  · apply Fin.ext; blk_simp [(index3 t).2.1]
  · apply Fin.ext; show 1024 * t.val + (y 2).val = _; blk_simp [(index3 t).2.2]; omega

end Cert.KernelIdeal.Vocab

end
-- ==== Proof.Bridge.lean ====
/-
  The reference's expression at an index, and the two programs' results equal at arguments whose entries are real numbers.
-/
module

public import proofs.«01_k».proof.Proof.KVal
public import proofs.«01_k».proof.Proof.Gen.ReferenceIdeal.Run
public import proofs.«01_k».proof.Proof.Gen.Pre_finite
public import Idealize.ShloMosaic.Lib.ReduceAll

@[expose] public section

set_option maxRecDepth 16384

noncomputable section

namespace Cert.Vocab

open Idealize.ShloMosaic Idealize.ShloMosaic.TcCoe
open Cert.KernelIdeal.Vocab (dotRows row)

section
open Cert.ReferenceIdeal Cert.ReferenceIdeal.Gen

/-- The reference's logits. -/
def logits (X : FVec Ideal S2048x1024 .f32) (W : FVec Ideal S50000x1024 .f32) : FVec Ideal S32x59x50000 .f32 :=
  Host.dotGeneral dot_S32x59x1024_S1024x50000_S32x59x50000_2_0_01_1_n_n none (extractStridedSlice S32x59x1024 ![0, 0, 0] (shapeCast _ X shapeCasts_S2048x1024_S32x64x1024) slices_S32x64x1024_S32x59x1024_0_0_0) (transpose S1024x50000 [1, 0] W transposes_S50000x1024_S1024x50000_1_0)

/-- Each row's greatest element. -/
def rowMax (L : FVec Ideal S32x59x50000 .f32) : FVec Ideal S32x59 .f32 :=
  maximumf (broadcastInDim S32x59 ![] bcast_S_S32x59 (constant S_ .f32 0xFF800000#32)) (Host.reduce FloatOps.maximumf L (constant S_ .f32 0xFF800000#32) reducesTo_S32x59x50000_S32x59_d2 h_S_)

/-- The logits less a number for their row, to the exponential. -/
def shiftedExp (L : FVec Ideal S32x59x50000 .f32) (M : FVec Ideal S32x59 .f32) : FVec Ideal S32x59x50000 .f32 :=
  Host.exp (subf L (broadcastInDim S32x59x50000 ![0, 1, 2] bcast_S32x59x1_S32x59x50000_0_1_2 (broadcastInDim S32x59x1 ![0, 1] bcast_S32x59_S32x59x1_0_1 M)))

/-- Each over its row's sum. -/
def normed (E : FVec Ideal S32x59x50000 .f32) : FVec Ideal S32x59x50000 .f32 :=
  Host.divf E (broadcastInDim S32x59x50000 ![0, 1, 2] bcast_S32x59x1_S32x59x50000_0_1_2 (broadcastInDim S32x59x1 ![0, 1] bcast_S32x59_S32x59x1_0_1 (Host.reduceAdd E (constant S_ .f32 0x00000000#32) reducesTo_S32x59x50000_S32x59_d2 h_S_)))

theorem logits_at (X : FVec Ideal S2048x1024 .f32) (W : FVec Ideal S50000x1024 .f32) (b : Fin 32) (t : Fin 59) (v : Fin 50000) :
    logits X W (ix3 b t v) = dotRows X W (row b t) v := by
  unfold dotRows row
  pointwise [logits]

/-- A host reduction by the maximum along the last of three axes, at an index. -/
theorem reduceMax_at {n0 n1 n2 : ℕ} {u : Shape} (L : FVec Ideal ⟨3, ![n0, n1, n2]⟩ .f32) (init : u.Idx → Ideal .f32)
    (h : (⟨3, ![n0, n1, n2]⟩ : Shape).ReducesTo [2] ⟨2, ![n0, n1]⟩) (hu : 0 < u.numel) (b : Fin n0) (t : Fin n1) :
    Host.reduce FloatOps.maximumf L init h hu (ix2 b t)
      = Finset.univ.fold (max : EReal → EReal → EReal) (init (Shape.Idx.first hu)) fun w : Fin n2 => L (ix3 b t w) := by
  rw [Host.reduce_eq_fold, Shape.ReducesTo.fold_fiber_r3_a2]
  rfl

theorem negInf : Ideal.ofBits .f32 0xFF800000#32 = ⊥ := by simp [Ideal.ofBits, Ideal.ieee]

theorem maximumf_at {s : Shape} (A B : FVec Ideal s .f32) (j : s.Idx) : maximumf A B j = max (A j : EReal) (B j) := rfl

theorem bot_max (x : EReal) : max ⊥ x = x := max_eq_right bot_le

theorem rowMax_at (L : FVec Ideal S32x59x50000 .f32) (b : Fin 32) (t : Fin 59) :
    rowMax L (ix2 b t) = Finset.univ.fold (max : EReal → EReal → EReal) ⊥ fun w : Fin 50000 => L (ix3 b t w) := by
  have hA : broadcastInDim S32x59 ![] bcast_S_S32x59 (constant (F := Ideal) S_ .f32 0xFF800000#32) (ix2 b t) = (⊥ : EReal) := negInf
  have hI : constant (F := Ideal) S_ .f32 0xFF800000#32 (Shape.Idx.first h_S_) = (⊥ : EReal) := negInf
  unfold rowMax
  rw [maximumf_at, hA, reduceMax_at, hI]
  exact bot_max _

theorem shiftedExp_at (L : FVec Ideal S32x59x50000 .f32) (M : FVec Ideal S32x59 .f32) (b : Fin 32) (t : Fin 59) (v : Fin 50000) :
    shiftedExp L M (ix3 b t v) = Ideal.exp (L (ix3 b t v) - M (ix2 b t)) := by
  pointwise [shiftedExp]

theorem normed_at (E : FVec Ideal S32x59x50000 .f32) (b : Fin 32) (t : Fin 59) (v : Fin 50000) :
    normed E (ix3 b t v) = Ideal.div (E (ix3 b t v)) (∑ w : Fin 50000, E (ix3 b t w)) := by
  pointwise [normed]

end

/-- An extended real whose absolute value is below infinity is a real number. -/
theorem real_of_lt (x : EReal) (h : max x (-x) < ⊤) : ∃ y : ℝ, x = (y : EReal) := by
  obtain ⟨h1, h2⟩ := max_lt_iff.mp h
  refine ⟨x.toReal, (EReal.coe_toReal h1.ne fun e => ?_).symm⟩
  rw [e] at h2
  exact absurd h2 (by simp)

theorem posInf : Ideal.ofBits .f32 0x7F800000#32 = ⊤ := by simp [Ideal.ofBits, Ideal.ieee]

theorem real_of_cmp (x : EReal) (h : Ideal.cmp .olt (max x (-x)) (Ideal.ofBits .f32 0x7F800000#32) = 1#1) : ∃ y : ℝ, x = (y : EReal) := by
  rw [posInf] at h
  refine real_of_lt x ?_
  by_contra hc
  simp [Ideal.cmp, hc] at h

open Cert.Pre_finite in
theorem finite_args (X : FVec Ideal S2048x1024 .f32) (W : FVec Ideal S50000x1024 .f32) (h : Cert.Pre_finite.fn (F := Ideal) X W = fun _ => 1#1) :
    (∀ i, ∃ x : ℝ, X i = (x : EReal)) ∧ (∀ i, ∃ x : ℝ, W i = (x : EReal)) := by
  have h0 := congrFun h (fun a => a.elim0)
  dsimp only [fn] at h0
  obtain ⟨h1, h2⟩ := IntOp.andi_eq_one.mp h0
  exact ⟨fun i => real_of_cmp _ (Host.reduce_andi_all _ _ _ _ _ h1 i), fun i => real_of_cmp _ (Host.reduce_andi_all _ _ _ _ _ h2 i)⟩

/-- A dot product of real rows is a real number. -/
theorem real_dot {s₁ s₂ : ℕ} (X : (⟨2, ![s₁, 1024]⟩ : Shape).Idx → EReal) (W : (⟨2, ![s₂, 1024]⟩ : Shape).Idx → EReal)
    (hX : ∀ i, ∃ x : ℝ, X i = (x : EReal)) (hW : ∀ i, ∃ x : ℝ, W i = (x : EReal)) (r : Fin s₁) (v : Fin s₂) :
    ∃ y : ℝ, dotRows X W r v = (y : EReal) := by
  choose x hx using hX
  choose w hw using hW
  refine ⟨∑ k : Fin 1024, x (ix2 r k) * w (ix2 v k), ?_⟩
  unfold dotRows
  rw [← coe_sum]
  exact Finset.sum_congr rfl fun k _ => by rw [hx, hw, EReal.coe_mul]

/-- The two programs' results at an index, at real arguments. -/
theorem agree (X : FVec Ideal Cert.ReferenceIdeal.S2048x1024 .f32) (W : FVec Ideal Cert.ReferenceIdeal.S50000x1024 .f32)
    (hX : ∀ i, ∃ x : ℝ, X i = (x : EReal)) (hW : ∀ i, ∃ x : ℝ, W i = (x : EReal)) (b : Fin 32) (t : Fin 59) (v : Fin 50000) :
    Ideal.exp (dotRows X W (row b t) v) * Ideal.div 1 (∑ w : Fin 50000, Ideal.exp (dotRows X W (row b t) w))
      = normed (shiftedExp (logits X W) (rowMax (logits X W))) (ix3 b t v) := by
  rw [normed_at]
  simp only [shiftedExp_at, rowMax_at, logits_at]
  choose l hl using fun w => real_dot X W hX hW (row b t) w
  simp only [hl]
  exact shifted l _ rfl v

end Cert.Vocab

end
-- ==== Proof.DRef.lean ====
/-
  The decoder's reference: the states its loop carries are the recurrence's with the attention, so its outputs are the sentences' rows of them.
-/
module

public import proofs.«01_k».proof.Proof.DSent
public import proofs.«01_k».proof.Proof.ERef
public import proofs.«01_k».proof.Proof.Bridge
public import proofs.«01_k».proof.Proof.Gen.Reference4Ideal.Run

@[expose] public section

set_option maxRecDepth 16384

noncomputable section

namespace Cert.Dec

open Idealize.ShloMosaic Idealize.ShloMosaic.TcCoe Idealize.SL.Sem
open Cert.Enc (cell lin)
open Cert.Reference4Ideal Cert.Reference4Ideal.Gen Cert.Reference4Ideal.Value

/-- The step number as a word. -/
abbrev ctr (k : ℕ) : (⟨S_, .i32⟩ : BufTy).Contents (Elt Ideal) := fun _ => Scf.iv 0#32 1#32 k

theorem ctr_int : ∀ k : Fin 59, (Scf.iv 0#32 1#32 k.val).toInt = (k.val : Int) := by decide +kernel

/-- The step's row of embeddings. -/
def refRow (X : FVec Ideal S59x32x300 .f32) (n : (⟨S_, .i32⟩ : BufTy).Contents (Elt Ideal)) : FVec Ideal S32x300 .f32 :=
  shapeCast S32x300 (Host.dynamicSlice S1x32x300 X (fun k' => (((![n, constantI S_ 32 0#32, constantI S_ 32 0#32] : Fin 3 → (⟨S_, .i32⟩ : BufTy).Contents (Elt Ideal))) k' (Shape.Idx.first h_S_)).toInt) sliceFits_S59x32x300_S1x32x300) shapeCasts_S1x32x300_S32x300

theorem refRow_at (X : FVec Ideal S59x32x300 .f32) (k : ℕ) (hk : k < 59) (u : Fin 32) (e : Fin 300) :
    refRow X (ctr k) (ix2 u e) = X (ix3 (⟨k, hk⟩ : Fin 59) u e) := by
  have hd : Host.dynamicSlice S1x32x300 X (fun k' => (((![ctr k, constantI S_ 32 0#32, constantI S_ 32 0#32] : Fin 3 → (⟨S_, .i32⟩ : BufTy).Contents (Elt Ideal))) k' (Shape.Idx.first h_S_)).toInt) sliceFits_S59x32x300_S1x32x300 (ix3 0 u e)
      = X (ix3 (⟨k, hk⟩ : Fin 59) u e) := by
    rw [Host.dynamicSlice_apply]
    congr 1
    funext a
    apply Fin.ext
    have h0 := ctr_int ⟨k, hk⟩
    fin_cases a
    · show Host.clampedStart _ _ _ _ _ + _ = k
      rw [Host.clampedStart_of_le _ _ _ k h0 (by show k + 1 ≤ 59; omega)]
      rfl
    · show Host.clampedStart _ _ _ _ _ + _ = u.val
      rw [Host.clampedStart_of_le _ _ _ 0 rfl (by decide)]
      exact Nat.zero_add _
    · show Host.clampedStart _ _ _ _ _ + _ = e.val
      rw [Host.clampedStart_of_le _ _ _ 0 rfl (by decide)]
      exact Nat.zero_add _
  unfold refRow
  rw [← hd]
  generalize Host.dynamicSlice S1x32x300 X _ _ = Y
  pointwise

/-- The joined row, its linear layer and the input's products. -/
def refJoin (R : FVec Ideal S32x300 .f32) (C A : FVec Ideal S32x512 .f32) : FVec Ideal S32x1324 .f32 :=
  concatenate S32x1324 1 [⟨S32x300, R⟩, ⟨S32x512, C⟩, ⟨S32x512, A⟩] concatenates_S32x300_S32x512_S32x512_S32x1324_d1

def refX (J : FVec Ideal S32x1324 .f32) (W : FVec Ideal S512x1324 .f32) (b : FVec Ideal S512 .f32) : FVec Ideal S32x512 .f32 :=
  addf (Host.dotGeneral dot_S32x1324_S1324x512_S32x512_1_0_0_1_n_n none J (transpose S1324x512 [1, 0] W transposes_S512x1324_S1324x512_1_0)) (broadcastInDim S32x512 ![0, 1] bcast_S1x512_S32x512_0_1 (broadcastInDim S1x512 ![1] bcast_S512_S1x512_1 b))

def refRec (H : FVec Ideal S32x512 .f32) (W : FVec Ideal S1536x512 .f32) (b : FVec Ideal S1536 .f32) : FVec Ideal S32x1536 .f32 :=
  addf (Host.dotGeneral dot_S32x512_S512x1536_S32x1536_1_0_0_1_n_n none H (transpose S512x1536 [1, 0] W transposes_S1536x512_S512x1536_1_0)) (broadcastInDim S32x1536 ![0, 1] bcast_S1x1536_S32x1536_0_1 (broadcastInDim S1x1536 ![1] bcast_S1536_S1x1536_1 b))

def refZ (A B : FVec Ideal S32x1536 .f32) : FVec Ideal S32x512 .f32 :=
  Host.divf (broadcastInDim S32x512 ![] bcast_S_S32x512 (constant S_ .f32 0x3F800000#32)) (addf (broadcastInDim S32x512 ![] bcast_S_S32x512 (constant S_ .f32 0x3F800000#32)) (Host.exp (Host.negf (addf (extractStridedSlice S32x512 ![0, 512] A slices_S32x1536_S32x512_0_512) (extractStridedSlice S32x512 ![0, 512] B slices_S32x1536_S32x512_0_512)))))

def refNew (A B : FVec Ideal S32x1536 .f32) (Z H : FVec Ideal S32x512 .f32) : FVec Ideal S32x512 .f32 :=
  addf (mulf (subf (broadcastInDim S32x512 ![] bcast_S_S32x512 (constant S_ .f32 0x3F800000#32)) Z) (Host.tanh (addf (extractStridedSlice S32x512 ![0, 1024] A slices_S32x1536_S32x512_0_1024) (mulf (Host.divf (broadcastInDim S32x512 ![] bcast_S_S32x512 (constant S_ .f32 0x3F800000#32)) (addf (broadcastInDim S32x512 ![] bcast_S_S32x512 (constant S_ .f32 0x3F800000#32)) (Host.exp (Host.negf (addf (extractStridedSlice S32x512 ![0, 0] A slices_S32x1536_S32x512_0_0) (extractStridedSlice S32x512 ![0, 0] B slices_S32x1536_S32x512_0_0)))))) (extractStridedSlice S32x512 ![0, 1024] B slices_S32x1536_S32x512_0_1024))))) (mulf Z H)

/-- The attention's scores, weights before they are divided, and result. -/
def refScore (H : FVec Ideal S32x512 .f32) (W : FVec Ideal S512x512 .f32) (K : FVec Ideal S32x60x512 .f32) : FVec Ideal S32x60 .f32 :=
  Host.dotGeneral dot_S32x512_S32x60x512_S32x60_1_2_n_1_0_0 none (Host.dotGeneral dot_S32x512_S512x512_S32x512_1_0_0_1_n_n none H W) K

def refTop (L : FVec Ideal S32x60 .f32) : FVec Ideal S32 .f32 :=
  maximumf (broadcastInDim S32 ![] bcast_S_S32 (constant S_ .f32 0xFF800000#32)) (Host.reduce FloatOps.maximumf L (constant S_ .f32 0xFF800000#32) reducesTo_S32x60_S32_d1 h_S_)

def refExp (L : FVec Ideal S32x60 .f32) (M : FVec Ideal S32 .f32) : FVec Ideal S32x60 .f32 :=
  Host.exp (subf L (broadcastInDim S32x60 ![0, 1] bcast_S32x1_S32x60_0_1 (broadcastInDim S32x1 ![0] bcast_S32_S32x1_0 M)))

def refDiv (E : FVec Ideal S32x60 .f32) : FVec Ideal S32x60 .f32 :=
  Host.divf E (broadcastInDim S32x60 ![0, 1] bcast_S32x1_S32x60_0_1 (broadcastInDim S32x1 ![0] bcast_S32_S32x1_0 (Host.reduceAdd E (constant S_ .f32 0x00000000#32) reducesTo_S32x60_S32_d1 h_S_)))

def refMix (D : FVec Ideal S32x60 .f32) (K : FVec Ideal S32x60x512 .f32) : FVec Ideal S32x512 .f32 :=
  Host.dotGeneral dot_S32x60_S32x60x512_S32x512_1_1_n_2_0_0 none D K

def refAttn (M : FVec Ideal S32x512 .f32) (W : FVec Ideal S512x512 .f32) (b : FVec Ideal S512 .f32) : FVec Ideal S32x512 .f32 :=
  Host.tanh (addf (Host.dotGeneral dot_S32x512_S512x512_S32x512_1_0_0_1_n_n none M (transpose S512x512 [1, 0] W transposes_S512x512_S512x512_1_0)) (broadcastInDim S32x512 ![0, 1] bcast_S1x512_S32x512_0_1 (broadcastInDim S1x512 ![1] bcast_S512_S1x512_1 b)))

theorem join0_at (R : FVec Ideal S32x300 .f32) (C A : FVec Ideal S32x512 .f32) (s : Fin 32) (e : Fin 300) : refJoin R C A (ix2 s (p0 e)) = R (ix2 s e) := by
  pointwise [refJoin]

theorem join1_at (R : FVec Ideal S32x300 .f32) (C A : FVec Ideal S32x512 .f32) (s : Fin 32) (k : Fin 512) : refJoin R C A (ix2 s (p1 k)) = C (ix2 s k) := by
  pointwise [refJoin]

theorem join2_at (R : FVec Ideal S32x300 .f32) (C A : FVec Ideal S32x512 .f32) (s : Fin 32) (k : Fin 512) : refJoin R C A (ix2 s (p2 k)) = A (ix2 s k) := by
  pointwise [refJoin]
  rw [dif_neg (by omega), dif_neg (by omega)]
  congr 2
  exact Fin.ext (show 812 + k.val - 300 - 512 = k.val by omega)

theorem refX_at (J : FVec Ideal S32x1324 .f32) (W : FVec Ideal S512x1324 .f32) (b : FVec Ideal S512 .f32) (s : Fin 32) (o : Fin 512) :
    refX J W b (ix2 s o) = (∑ i : Fin 1324, J (ix2 s i) * W (ix2 o i)) + b (ix1 o) := by
  pointwise [refX]

theorem refRec_at (H : FVec Ideal S32x512 .f32) (W : FVec Ideal S1536x512 .f32) (b : FVec Ideal S1536 .f32) (s : Fin 32) (g : Fin 1536) :
    refRec H W b (ix2 s g) = lin (fun d => H (ix2 s d)) (fun d g => W (ix2 g d)) (fun g => b (ix1 g)) g := by
  unfold lin
  pointwise [refRec]

theorem refNew_at (A B : FVec Ideal S32x1536 .f32) (H : FVec Ideal S32x512 .f32) (s : Fin 32) (j : Fin 512) :
    refNew A B (refZ A B) H (ix2 s j) = cell (fun g => A (ix2 s g)) (fun g => B (ix2 s g)) (H (ix2 s j)) j := by
  unfold cell
  simp only [Cert.Enc.logistic_eq]
  pointwise [refNew, refZ]

theorem refScore_at (H : FVec Ideal S32x512 .f32) (W : FVec Ideal S512x512 .f32) (K : FVec Ideal S32x60x512 .f32) (b : Fin 32) (s : Fin 60) :
    refScore H W K (ix2 b s) = ∑ e : Fin 512, (∑ d : Fin 512, H (ix2 b d) * W (ix2 d e)) * K (ix3 b s e) := by
  pointwise [refScore]

theorem refExp_at (L : FVec Ideal S32x60 .f32) (M : FVec Ideal S32 .f32) (b : Fin 32) (s : Fin 60) :
    refExp L M (ix2 b s) = Ideal.exp (L (ix2 b s) - M (ix1 b)) := by
  pointwise [refExp]

theorem refDiv_at (E : FVec Ideal S32x60 .f32) (b : Fin 32) (s : Fin 60) :
    refDiv E (ix2 b s) = Ideal.div (E (ix2 b s)) (∑ w : Fin 60, E (ix2 b w)) := by
  pointwise [refDiv]

theorem refMix_at (D : FVec Ideal S32x60 .f32) (K : FVec Ideal S32x60x512 .f32) (b : Fin 32) (e : Fin 512) :
    refMix D K (ix2 b e) = ∑ s : Fin 60, D (ix2 b s) * K (ix3 b s e) := by
  pointwise [refMix]

theorem refAttn_at (M : FVec Ideal S32x512 .f32) (W : FVec Ideal S512x512 .f32) (c : FVec Ideal S512 .f32) (b : Fin 32) (j : Fin 512) :
    refAttn M W c (ix2 b j) = Ideal.tanh ((∑ e : Fin 512, M (ix2 b e) * W (ix2 j e)) + c (ix1 j)) := by
  pointwise [refAttn]

theorem refTop_at (L : FVec Ideal S32x60 .f32) (b : Fin 32) : refTop L (ix1 b) = top fun s => L (ix2 b s) := by
  have hA : broadcastInDim S32 ![] bcast_S_S32 (constant (F := Ideal) S_ .f32 0xFF800000#32) (ix1 b) = (⊥ : EReal) := Cert.Vocab.negInf
  have hI : constant (F := Ideal) S_ .f32 0xFF800000#32 (Shape.Idx.first h_S_) = (⊥ : EReal) := Cert.Vocab.negInf
  unfold refTop
  rw [Cert.Vocab.maximumf_at, hA, Host.reduce_eq_fold, Shape.ReducesTo.fold_fiber_r2_a1, hI]
  exact Cert.Vocab.bot_max _

/-- One step's new states and attention, from the arrays it reads. -/
def refGi (X : FVec Ideal S59x32x300 .f32) (n : (⟨S_, .i32⟩ : BufTy).Contents (Elt Ideal)) (C A : FVec Ideal S32x512 .f32) (Wl : FVec Ideal S512x1324 .f32) (bl : FVec Ideal S512 .f32)
    (Wi : FVec Ideal S1536x512 .f32) (bi : FVec Ideal S1536 .f32) : FVec Ideal S32x1536 .f32 :=
  refRec (refX (refJoin (refRow X n) C A) Wl bl) Wi bi

def refAtt (H : FVec Ideal S32x512 .f32) (Wa : FVec Ideal S512x512 .f32) (K : FVec Ideal S32x60x512 .f32) (Wc : FVec Ideal S512x512 .f32) (bc : FVec Ideal S512 .f32) : FVec Ideal S32x512 .f32 :=
  refAttn (refMix (refDiv (refExp (refScore H Wa K) (refTop (refScore H Wa K)))) K) Wc bc

/-- A step's outputs, and what they are stored into. -/
def refBoth (H A : FVec Ideal S32x512 .f32) : FVec Ideal S32x1024 .f32 :=
  concatenate S32x1024 1 [⟨S32x512, H⟩, ⟨S32x512, A⟩] concatenates_S32x512_S32x512_S32x1024_d1

theorem refBoth_at (H A : FVec Ideal S32x512 .f32) (b : Fin 32) (j : Fin 1024) :
    refBoth H A (ix2 b j) = side (fun j => H (ix2 b j)) (fun j => A (ix2 b j)) j := by
  unfold side
  pointwise [refBoth]

/-- What the states after a step are stored into. -/
def refPut (Y : FVec Ideal S59x32x1024 .f32) (H : FVec Ideal S32x1024 .f32) (n : (⟨S_, .i32⟩ : BufTy).Contents (Elt Ideal)) : FVec Ideal S59x32x1024 .f32 :=
  Host.dynamicUpdateSlice Y (broadcastInDim S1x32x1024 ![1, 2] bcast_S32x1024_S1x32x1024_1_2 H) (fun k => (((![n, constantI S_ 32 0#32, constantI S_ 32 0#32] : Fin 3 → (⟨S_, .i32⟩ : BufTy).Contents (Elt Ideal))) k (Shape.Idx.first h_S_)).toInt) updateFits_S59x32x1024_S1x32x1024

theorem refPut_at (Y : FVec Ideal S59x32x1024 .f32) (H : FVec Ideal S32x1024 .f32) (k : ℕ) (hk : k < 59) (u : Fin 59) (b : Fin 32) (j : Fin 1024) :
    refPut Y H (ctr k) (ix3 u b j) = if u.val = k then H (ix2 b j) else Y (ix3 u b j) := by
  have h0 := ctr_int ⟨k, hk⟩
  have c0 : Host.clampedStart S59x32x1024 S1x32x1024 updateFits_S59x32x1024_S1x32x1024.1 (fun k' => (((![ctr k, constantI S_ 32 0#32, constantI S_ 32 0#32] : Fin 3 → (⟨S_, .i32⟩ : BufTy).Contents (Elt Ideal))) k' (Shape.Idx.first h_S_)).toInt) 0 = k :=
    Host.clampedStart_of_le _ _ _ k h0 (by show k + 1 ≤ 59; omega)
  have c1 : Host.clampedStart S59x32x1024 S1x32x1024 updateFits_S59x32x1024_S1x32x1024.1 (fun k' => (((![ctr k, constantI S_ 32 0#32, constantI S_ 32 0#32] : Fin 3 → (⟨S_, .i32⟩ : BufTy).Contents (Elt Ideal))) k' (Shape.Idx.first h_S_)).toInt) 1 = 0 :=
    Host.clampedStart_of_le _ _ _ 0 rfl (by decide)
  have c2 : Host.clampedStart S59x32x1024 S1x32x1024 updateFits_S59x32x1024_S1x32x1024.1 (fun k' => (((![ctr k, constantI S_ 32 0#32, constantI S_ 32 0#32] : Fin 3 → (⟨S_, .i32⟩ : BufTy).Contents (Elt Ideal))) k' (Shape.Idx.first h_S_)).toInt) 2 = 0 :=
    Host.clampedStart_of_le _ _ _ 0 rfl (by decide)
  unfold refPut
  rw [Host.dynamicUpdateSlice_apply]
  by_cases h : u.val = k
  · rw [if_pos h, dif_pos]
    · have e : ∀ x : S1x32x1024.Idx, (x 1).val = b.val → (x 2).val = j.val → broadcastInDim S1x32x1024 ![1, 2] bcast_S32x1024_S1x32x1024_1_2 H x = H (ix2 b j) := by
        intro x h1 h2
        obtain rfl : x = ix3 0 b j := by
          funext a; fin_cases a
          · exact Subsingleton.elim (α := Fin 1) _ _
          · exact Fin.ext h1
          · exact Fin.ext h2
        pointwise
      refine e _ ?_ ?_
      · show b.val - Host.clampedStart S59x32x1024 S1x32x1024 _ _ 1 = b.val
        rw [c1]; rfl
      · show j.val - Host.clampedStart S59x32x1024 S1x32x1024 _ _ 2 = j.val
        rw [c2]; rfl
    · intro a
      fin_cases a
      · show Host.clampedStart S59x32x1024 S1x32x1024 _ _ 0 ≤ u.val ∧ u.val < Host.clampedStart S59x32x1024 S1x32x1024 _ _ 0 + 1
        rw [c0]; omega
      · show Host.clampedStart S59x32x1024 S1x32x1024 _ _ 1 ≤ b.val ∧ b.val < Host.clampedStart S59x32x1024 S1x32x1024 _ _ 1 + 32
        rw [c1]; omega
      · show Host.clampedStart S59x32x1024 S1x32x1024 _ _ 2 ≤ j.val ∧ j.val < Host.clampedStart S59x32x1024 S1x32x1024 _ _ 2 + 1024
        rw [c2]; omega
  · rw [if_neg h, dif_neg]
    intro hin
    have ha := hin 0
    have hb : Host.clampedStart S59x32x1024 S1x32x1024 _ _ 0 ≤ u.val ∧ u.val < Host.clampedStart S59x32x1024 S1x32x1024 _ _ 0 + 1 := ha
    rw [c0] at hb
    omega

/-- What the loop carries before its `k`-th trip, at the sixteen arguments: the arguments, the step number, the states and attentions
    and the outputs stored so far. -/
structure Carried (V : Valuation τ sig (Elt Ideal)) (A0 : FVec Ideal S59x32x300 .f32) (A1 : FVec Ideal S60x32x512 .f32) (A2 A3 A4 : FVec Ideal S32x512 .f32) (A5 : FVec Ideal S512x1024 .f32) (A6 : FVec Ideal S512 .f32)
  (A7 : FVec Ideal S512x1324 .f32) (A8 : FVec Ideal S512 .f32) (A9 A10 : FVec Ideal S1536x512 .f32) (A11 A12 : FVec Ideal S1536 .f32) (A13 A14 : FVec Ideal S512x512 .f32) (A15 : FVec Ideal S512 .f32) (k : ℕ) : Prop where
  c0 : V (Proc.devRef .tc main_v10_0) = A0
  c1 : V (Proc.devRef .tc main_v10_1) = A2
  c2 : V (Proc.devRef .tc main_v10_2) = A7
  c3 : V (Proc.devRef .tc main_v10_3) = A8
  c4 : V (Proc.devRef .tc main_v10_4) = A9
  c5 : V (Proc.devRef .tc main_v10_5) = A11
  c6 : V (Proc.devRef .tc main_v10_6) = A10
  c7 : V (Proc.devRef .tc main_v10_7) = A12
  c8 : V (Proc.devRef .tc main_v10_8) = A13
  c9 : ∀ b s e, (V (Proc.devRef .tc main_v10_9) : FVec Ideal S32x60x512 .f32) (ix3 b s e) = A1 (ix3 s b e)
  c10 : V (Proc.devRef .tc main_v10_10) = A14
  c11 : V (Proc.devRef .tc main_v10_11) = A15
  n : V (Proc.devRef .tc main_v10_12) = ctr k
  h : ∀ b j, (V (Proc.devRef .tc main_v10_13) : FVec Ideal S32x512 .f32) (ix2 b j) = (rState (sentOf A0 A1 A2 A3 A4 A5 A6 A7 A8 A9 A10 A11 A12 A13 A14 A15 b) k).1 j
  a : ∀ b j, (V (Proc.devRef .tc main_v10_14) : FVec Ideal S32x512 .f32) (ix2 b j) = (rState (sentOf A0 A1 A2 A3 A4 A5 A6 A7 A8 A9 A10 A11 A12 A13 A14 A15 b) k).2 j
  o : ∀ (u : Fin 59) b j, u.val < k → (V (Proc.devRef .tc main_v10_15) : FVec Ideal S59x32x1024 .f32) (ix3 u b j) = side (rState (sentOf A0 A1 A2 A3 A4 A5 A6 A7 A8 A9 A10 A11 A12 A13 A14 A15 b) (u.val + 1)).1 (rState (sentOf A0 A1 A2 A3 A4 A5 A6 A7 A8 A9 A10 A11 A12 A13 A14 A15 b) (u.val + 1)).2 j

section Step

variable {A0 : FVec Ideal S59x32x300 .f32} {A1 : FVec Ideal S60x32x512 .f32} {A2 A3 A4 : FVec Ideal S32x512 .f32} {A5 : FVec Ideal S512x1024 .f32} {A6 : FVec Ideal S512 .f32}
  {A7 : FVec Ideal S512x1324 .f32} {A8 : FVec Ideal S512 .f32} {A9 A10 : FVec Ideal S1536x512 .f32} {A11 A12 : FVec Ideal S1536 .f32} {A13 A14 : FVec Ideal S512x512 .f32} {A15 : FVec Ideal S512 .f32}

theorem refGi_at (k : ℕ) (hk : k < 59) (A : FVec Ideal S32x512 .f32) (a : Fin 512 → EReal) (b : Fin 32) (hA : ∀ j, A (ix2 b j) = a j) (g : Fin 1536) :
    refGi A0 (ctr k) A2 A A7 A8 A9 A11 (ix2 b g) = rGi (sentOf A0 A1 A2 A3 A4 A5 A6 A7 A8 A9 A10 A11 A12 A13 A14 A15 b) ⟨k, hk⟩ a g := by
  unfold refGi
  rw [refRec_at]
  unfold lin rGi rX
  congr 1
  refine Finset.sum_congr rfl fun o _ => ?_
  congr 1
  show refX (refJoin (refRow A0 (ctr k)) A2 A) A7 A8 (ix2 b o) = _
  rw [refX_at, sum_three]
  simp only [join0_at, join1_at, join2_at, refRow_at A0 k hk, hA]
  rfl

theorem refH_at (k : ℕ) (hk : k < 59) (H A : FVec Ideal S32x512 .f32) (b : Fin 32) (hH : ∀ j, H (ix2 b j) = (rState (sentOf A0 A1 A2 A3 A4 A5 A6 A7 A8 A9 A10 A11 A12 A13 A14 A15 b) k).1 j) (hA : ∀ j, A (ix2 b j) = (rState (sentOf A0 A1 A2 A3 A4 A5 A6 A7 A8 A9 A10 A11 A12 A13 A14 A15 b) k).2 j) (j : Fin 512) :
    refNew (refGi A0 (ctr k) A2 A A7 A8 A9 A11) (refRec H A10 A12) (refZ (refGi A0 (ctr k) A2 A A7 A8 A9 A11) (refRec H A10 A12)) H (ix2 b j) = (rState (sentOf A0 A1 A2 A3 A4 A5 A6 A7 A8 A9 A10 A11 A12 A13 A14 A15 b) (k + 1)).1 j := by
  rw [refNew_at, rState_succ _ _ hk]
  show _ = hNew (sentOf A0 A1 A2 A3 A4 A5 A6 A7 A8 A9 A10 A11 A12 A13 A14 A15 b) (rGi (sentOf A0 A1 A2 A3 A4 A5 A6 A7 A8 A9 A10 A11 A12 A13 A14 A15 b) ⟨k, hk⟩ (rState (sentOf A0 A1 A2 A3 A4 A5 A6 A7 A8 A9 A10 A11 A12 A13 A14 A15 b) k).2) (rState (sentOf A0 A1 A2 A3 A4 A5 A6 A7 A8 A9 A10 A11 A12 A13 A14 A15 b) k).1 j
  unfold hNew
  congr 1
  · funext g; exact refGi_at k hk A _ b hA g
  · funext g
    rw [refRec_at]
    congr 1
    funext d; exact hH d
  · exact hH j

theorem refA_at (k : ℕ) (hk : k < 59) (H : FVec Ideal S32x512 .f32) (K : FVec Ideal S32x60x512 .f32) (hK : ∀ b s e, K (ix3 b s e) = A1 (ix3 s b e)) (b : Fin 32)
    (hH : ∀ j, H (ix2 b j) = (rState (sentOf A0 A1 A2 A3 A4 A5 A6 A7 A8 A9 A10 A11 A12 A13 A14 A15 b) (k + 1)).1 j) (j : Fin 512) :
    refAtt H A13 K A14 A15 (ix2 b j) = (rState (sentOf A0 A1 A2 A3 A4 A5 A6 A7 A8 A9 A10 A11 A12 A13 A14 A15 b) (k + 1)).2 j := by
  have e2 : (rState (sentOf A0 A1 A2 A3 A4 A5 A6 A7 A8 A9 A10 A11 A12 A13 A14 A15 b) (k + 1)).2 = rAttn (sentOf A0 A1 A2 A3 A4 A5 A6 A7 A8 A9 A10 A11 A12 A13 A14 A15 b) (rState (sentOf A0 A1 A2 A3 A4 A5 A6 A7 A8 A9 A10 A11 A12 A13 A14 A15 b) (k + 1)).1 := by rw [rState_succ _ _ hk]
  have hs : ∀ s, refScore H A13 K (ix2 b s) = rScore (sentOf A0 A1 A2 A3 A4 A5 A6 A7 A8 A9 A10 A11 A12 A13 A14 A15 b) (rState (sentOf A0 A1 A2 A3 A4 A5 A6 A7 A8 A9 A10 A11 A12 A13 A14 A15 b) (k + 1)).1 s := fun s => by
    rw [refScore_at]
    unfold rScore
    simp only [hH, hK]
    rfl
  rw [e2]
  unfold refAtt
  rw [refAttn_at]
  unfold rAttn rWt
  simp only [refMix_at, refDiv_at, refExp_at, refTop_at, hs, hK]
  rfl

variable {V : Valuation τ sig (Elt Ideal)} {k : ℕ}

theorem v59_at (hk : k < 59) (h : Carried V A0 A1 A2 A3 A4 A5 A6 A7 A8 A9 A10 A11 A12 A13 A14 A15 k) (b : Fin 32) (j : Fin 512) :
    (res_main_while0b_v59 V : FVec Ideal S32x512 .f32) (ix2 b j) = (rState (sentOf A0 A1 A2 A3 A4 A5 A6 A7 A8 A9 A10 A11 A12 A13 A14 A15 b) (k + 1)).1 j := by
  have e : (res_main_while0b_v59 V : FVec Ideal S32x512 .f32)
      = refNew (refGi A0 (ctr k) A2 (V (Proc.devRef .tc main_v10_14)) A7 A8 A9 A11) (refRec (V (Proc.devRef .tc main_v10_13)) A10 A12)
          (refZ (refGi A0 (ctr k) A2 (V (Proc.devRef .tc main_v10_14)) A7 A8 A9 A11) (refRec (V (Proc.devRef .tc main_v10_13)) A10 A12)) (V (Proc.devRef .tc main_v10_13)) := by
    unfold res_main_while0b_v59 res_main_while0b_v51 res_main_while0b_v26 res_main_while0b_v31
    rw [h.c0, h.c1, h.c2, h.c3, h.c4, h.c5, h.c6, h.c7, h.n]
    rfl
  rw [e]
  exact refH_at k hk _ _ b (h.h b) (h.a b) j

theorem v79_at (hk : k < 59) (h : Carried V A0 A1 A2 A3 A4 A5 A6 A7 A8 A9 A10 A11 A12 A13 A14 A15 k) (b : Fin 32) (j : Fin 512) :
    (res_main_while0b_v79 V : FVec Ideal S32x512 .f32) (ix2 b j) = (rState (sentOf A0 A1 A2 A3 A4 A5 A6 A7 A8 A9 A10 A11 A12 A13 A14 A15 b) (k + 1)).2 j := by
  have e : (res_main_while0b_v79 V : FVec Ideal S32x512 .f32) = refAtt (res_main_while0b_v59 V) A13 (V (Proc.devRef .tc main_v10_9)) A14 A15 := by
    unfold res_main_while0b_v79 res_main_while0b_v68 res_main_while0b_v61
    rw [h.c8, h.c10, h.c11]
    rfl
  rw [e]
  exact refA_at k hk _ _ h.c9 b (v59_at hk h b) j

theorem carried_step (hk : k < 59) (h : Carried V A0 A1 A2 A3 A4 A5 A6 A7 A8 A9 A10 A11 A12 A13 A14 A15 k) : Carried (STEP V) A0 A1 A2 A3 A4 A5 A6 A7 A8 A9 A10 A11 A12 A13 A14 A15 (k + 1) where
  c0 := (STEP_main_v10_0 V).trans h.c0
  c1 := (STEP_main_v10_1 V).trans h.c1
  c2 := (STEP_main_v10_2 V).trans h.c2
  c3 := (STEP_main_v10_3 V).trans h.c3
  c4 := (STEP_main_v10_4 V).trans h.c4
  c5 := (STEP_main_v10_5 V).trans h.c5
  c6 := (STEP_main_v10_6 V).trans h.c6
  c7 := (STEP_main_v10_7 V).trans h.c7
  c8 := (STEP_main_v10_8 V).trans h.c8
  c9 := fun b s e => by
    rw [STEP_main_v10_9]
    exact h.c9 b s e
  c10 := (STEP_main_v10_10 V).trans h.c10
  c11 := (STEP_main_v10_11 V).trans h.c11
  n := by
    rw [STEP_main_v10_12]
    unfold step_main_v10_12
    rw [h.n]
    funext i
    show Scf.iv 0#32 1#32 k + 1#32 = Scf.iv 0#32 1#32 (k + 1)
    rw [Scf.iv_succ]
  h := fun b j => by
    rw [STEP_main_v10_13]
    exact v59_at hk h b j
  a := fun b j => by
    rw [STEP_main_v10_14]
    exact v79_at hk h b j
  o := fun u b j hu => by
    rw [STEP_main_v10_15]
    unfold step_main_v10_15
    rw [h.n]
    show refPut (V (Proc.devRef .tc main_v10_15)) (refBoth (res_main_while0b_v59 V) (res_main_while0b_v79 V)) (ctr k) (ix3 u b j) = _
    rw [refPut_at _ _ _ hk]
    by_cases hq : u.val = k
    · rw [if_pos hq, refBoth_at, hq]
      congr 1
      · funext j; exact v59_at hk h b j
      · funext j; exact v79_at hk h b j
    · rw [if_neg hq]
      exact h.o u b j (by omega)

end Step

/-- The state the loop starts from, as the reference writes it. -/
def refStart (s a : FVec Ideal S32x512 .f32) (W : FVec Ideal S512x1024 .f32) (b : FVec Ideal S512 .f32) : FVec Ideal S32x512 .f32 :=
  Host.tanh (addf (Host.dotGeneral dot_S32x1024_S1024x512_S32x512_1_0_0_1_n_n none (concatenate S32x1024 1 [⟨S32x512, s⟩, ⟨S32x512, a⟩] concatenates_S32x512_S32x512_S32x1024_d1)
    (transpose S1024x512 [1, 0] W transposes_S512x1024_S1024x512_1_0)) (broadcastInDim S32x512 ![0, 1] bcast_S1x512_S32x512_0_1 (broadcastInDim S1x512 ![1] bcast_S512_S1x512_1 b)))

theorem both0_at (s a : FVec Ideal S32x512 .f32) (b : Fin 32) (k : Fin 512) : refBoth s a (ix2 b (q0 k)) = s (ix2 b k) := by
  pointwise [refBoth]

theorem both1_at (s a : FVec Ideal S32x512 .f32) (b : Fin 32) (k : Fin 512) : refBoth s a (ix2 b (q1 k)) = a (ix2 b k) := by
  pointwise [refBoth]

theorem refStart_at (s a : FVec Ideal S32x512 .f32) (W : FVec Ideal S512x1024 .f32) (c : FVec Ideal S512 .f32) (b : Fin 32) (j : Fin 512) :
    refStart s a W c (ix2 b j) = Ideal.tanh (((∑ k : Fin 512, s (ix2 b k) * W (ix2 j (q0 k))) + ∑ k : Fin 512, a (ix2 b k) * W (ix2 j (q1 k))) + c (ix1 j)) := by
  have e : refStart s a W c (ix2 b j) = Ideal.tanh ((∑ i : Fin 1024, refBoth s a (ix2 b i) * W (ix2 j i)) + c (ix1 j)) := by
    unfold refStart
    rw [show (concatenate S32x1024 1 [⟨S32x512, s⟩, ⟨S32x512, a⟩] concatenates_S32x512_S32x512_S32x1024_d1 : FVec Ideal S32x1024 .f32) = refBoth s a from rfl]
    generalize refBoth s a = B
    pointwise
  rw [e, sum_two]
  simp only [both0_at, both1_at]

section Runs

variable (m : (ℓ : Loc nD τ sig) → Buf (Elt Ideal) ℓ)

theorem carried_zero (c : Dev nD) : Carried (StableHlo.entryContents preI m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) 0 where
  c0 := by
    simp only [StableHlo.entryContents, StableHlo.afterL_cons, StableHlo.afterL_nil]
    after_reads_simp
    rfl
  c1 := by
    simp only [StableHlo.entryContents, StableHlo.afterL_cons, StableHlo.afterL_nil]
    after_reads_simp
    rfl
  c2 := by
    simp only [StableHlo.entryContents, StableHlo.afterL_cons, StableHlo.afterL_nil]
    after_reads_simp
    rfl
  c3 := by
    simp only [StableHlo.entryContents, StableHlo.afterL_cons, StableHlo.afterL_nil]
    after_reads_simp
    rfl
  c4 := by
    simp only [StableHlo.entryContents, StableHlo.afterL_cons, StableHlo.afterL_nil]
    after_reads_simp
    rfl
  c5 := by
    simp only [StableHlo.entryContents, StableHlo.afterL_cons, StableHlo.afterL_nil]
    after_reads_simp
    rfl
  c6 := by
    simp only [StableHlo.entryContents, StableHlo.afterL_cons, StableHlo.afterL_nil]
    after_reads_simp
    rfl
  c7 := by
    simp only [StableHlo.entryContents, StableHlo.afterL_cons, StableHlo.afterL_nil]
    after_reads_simp
    rfl
  c8 := by
    simp only [StableHlo.entryContents, StableHlo.afterL_cons, StableHlo.afterL_nil]
    after_reads_simp
    rfl
  c9 := fun b s e => by
    have e1 : (StableHlo.entryContents preI m c (Proc.devRef .tc main_v10_9) : FVec Ideal S32x60x512 .f32)
        = transpose S32x60x512 [1, 0, 2] (m ((c.tc : Thread nD τ).loc main_arg1) : FVec Ideal S60x32x512 .f32) transposes_S60x32x512_S32x60x512_1_0_2 := by
      simp only [StableHlo.entryContents, StableHlo.afterL_cons, StableHlo.afterL_nil]
      after_reads_simp
      rfl
    rw [e1]
    pointwise
  c10 := by
    simp only [StableHlo.entryContents, StableHlo.afterL_cons, StableHlo.afterL_nil]
    after_reads_simp
    rfl
  c11 := by
    simp only [StableHlo.entryContents, StableHlo.afterL_cons, StableHlo.afterL_nil]
    after_reads_simp
    rfl
  n := ctr_entry m c
  h := fun b j => by
    have e1 : (StableHlo.entryContents preI m c (Proc.devRef .tc main_v10_13) : FVec Ideal S32x512 .f32)
        = refStart (m ((c.tc : Thread nD τ).loc main_arg3)) (m ((c.tc : Thread nD τ).loc main_arg4)) (m ((c.tc : Thread nD τ).loc main_arg5)) (m ((c.tc : Thread nD τ).loc main_arg6)) := by
      simp only [StableHlo.entryContents, StableHlo.afterL_cons, StableHlo.afterL_nil]
      after_reads_simp
      rfl
    rw [e1, refStart_at]
    rfl
  a := fun b j => by
    have e1 : (StableHlo.entryContents preI m c (Proc.devRef .tc main_v10_14) : FVec Ideal S32x512 .f32) = broadcastInDim S32x512 ![] bcast_S_S32x512 (constant (F := Ideal) S_ .f32 0x00000000#32) := by
      simp only [StableHlo.entryContents, StableHlo.afterL_cons, StableHlo.afterL_nil]
      after_reads_simp
      rfl
    rw [e1]
    show _ = (0 : EReal)
    pointwise
  o := fun u b j hu => absurd hu (Nat.not_lt_zero _)

theorem carried (c : Dev nD) : ∀ k : ℕ, k ≤ 59 → Carried (STEP^[k] (StableHlo.entryContents preI m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) k
  | 0 => fun _ => carried_zero m c
  | k + 1 => fun hk => by
    rw [Function.iterate_succ_apply']
    exact carried_step (by omega) (carried c k (by omega))

end Runs

/-- All outputs, ordered in halves after the padding. -/
theorem order_at (Y : FVec Ideal S59x32x1024 .f32) (s : Fin 2) (u : Fin 64) (b : Fin 16) (j : Fin 1024) :
    transpose S2x64x16x1024 [1, 0, 2, 3] (shapeCast S64x2x16x1024 (concatenate S64x32x1024 0 [⟨S59x32x1024, Y⟩, ⟨S5x32x1024, (broadcastInDim S5x32x1024 ![] bcast_S_S5x32x1024 (constant (F := Ideal) S_ .f32 0x00000000#32))⟩] concatenates_S59x32x1024_S5x32x1024_S64x32x1024_d0) shapeCasts_S64x32x1024_S64x2x16x1024) transposes_S64x2x16x1024_S2x64x16x1024_1_0_2_3 (ix4 s u b j)
      = if h : u.val < 59 then Y (ix3 (⟨u.val, h⟩ : Fin 59) (srow s b) j) else 0 := by
  have e : ∀ v : Fin 32, (concatenate S64x32x1024 0 [⟨S59x32x1024, Y⟩, ⟨S5x32x1024, (broadcastInDim S5x32x1024 ![] bcast_S_S5x32x1024 (constant (F := Ideal) S_ .f32 0x00000000#32))⟩] concatenates_S59x32x1024_S5x32x1024_S64x32x1024_d0 : FVec Ideal S64x32x1024 .f32) (ix3 u v j)
      = if h : u.val < 59 then Y (ix3 (⟨u.val, h⟩ : Fin 59) v j) else 0 := by
    intro v
    pointwise
  rw [← e (srow s b)]
  generalize (concatenate S64x32x1024 0 _ _ : FVec Ideal S64x32x1024 .f32) = Z
  pointwise
  congr 2
  exact Fin.ext (show s.val * 16 + b.val = 16 * s.val + b.val by omega)

end Cert.Dec

end
-- ==== Proof.DRun.lean ====
/-
  The decoder's reference run, and the two programs' outputs equal at arguments whose entries are real numbers.
-/
module

public import proofs.«01_k».proof.Proof.DKer
public import proofs.«01_k».proof.Proof.DRef
public import proofs.«01_k».proof.Proof.Gen.Pre_finite4

@[expose] public section

set_option maxRecDepth 16384

noncomputable section

namespace Cert.Dec

open Idealize.ShloMosaic Idealize.ShloMosaic.TcCoe Idealize.SL.Sem

section Same

variable (A0 : (⟨3, ![59, 32, 300]⟩ : Shape).Idx → EReal) (A1 : (⟨3, ![60, 32, 512]⟩ : Shape).Idx → EReal) (A2 A3 A4 : (⟨2, ![32, 512]⟩ : Shape).Idx → EReal)
  (A5 : (⟨2, ![512, 1024]⟩ : Shape).Idx → EReal) (A6 : (⟨1, ![512]⟩ : Shape).Idx → EReal) (A7 : (⟨2, ![512, 1324]⟩ : Shape).Idx → EReal) (A8 : (⟨1, ![512]⟩ : Shape).Idx → EReal)
  (A9 A10 : (⟨2, ![1536, 512]⟩ : Shape).Idx → EReal) (A11 A12 : (⟨1, ![1536]⟩ : Shape).Idx → EReal) (A13 A14 : (⟨2, ![512, 512]⟩ : Shape).Idx → EReal) (A15 : (⟨1, ![512]⟩ : Shape).Idx → EReal)

/-- A sentence's row of outputs by the reference's step. -/
def refOutRow (S : Sent) (t : ℕ) (j : Fin 1024) : EReal :=
  if t < 59 then side (rState S (t + 1)).1 (rState S (t + 1)).2 j else 0

/-- The reference's outputs of all sentences, ordered in halves. -/
def decodedRef : (⟨4, ![2, 64, 16, 1024]⟩ : Shape).Idx → EReal :=
  fun i => refOutRow (sentOf A0 A1 A2 A3 A4 A5 A6 A7 A8 A9 A10 A11 A12 A13 A14 A15 (srow (i 0) (i 2))) (i 1).val (i 3)

theorem decoded_eq (h : ∀ b, (sentOf A0 A1 A2 A3 A4 A5 A6 A7 A8 A9 A10 A11 A12 A13 A14 A15 b).Real) : decoded A0 A1 A2 A3 A4 A5 A6 A7 A8 A9 A10 A11 A12 A13 A14 A15 = decodedRef A0 A1 A2 A3 A4 A5 A6 A7 A8 A9 A10 A11 A12 A13 A14 A15 := by
  funext i
  unfold decoded decodedRef outRow refOutRow
  rw [(state_eq (h _) _).1]

end Same

section Finite
open Cert.Pre_finite4 Cert.Pre_finite4.Gen

/-- The precondition makes every sentence's embeddings, keys and weights real. -/
theorem finite_args (A0 : FVec Ideal S59x32x300 .f32) (A1 : FVec Ideal S60x32x512 .f32) (A2 A3 A4 : FVec Ideal S32x512 .f32) (A5 : FVec Ideal S512x1024 .f32) (A6 : FVec Ideal S512 .f32)
  (A7 : FVec Ideal S512x1324 .f32) (A8 : FVec Ideal S512 .f32) (A9 A10 : FVec Ideal S1536x512 .f32) (A11 A12 : FVec Ideal S1536 .f32) (A13 A14 : FVec Ideal S512x512 .f32) (A15 : FVec Ideal S512 .f32)
    (h : Cert.Pre_finite4.fn (F := Ideal) A0 A1 A2 A3 A4 A5 A6 A7 A8 A9 A10 A11 A12 A13 A14 A15 = fun _ => 1#1) (b : Fin 32) : (sentOf A0 A1 A2 A3 A4 A5 A6 A7 A8 A9 A10 A11 A12 A13 A14 A15 b).Real := by
  have h0 := congrFun h (fun a => a.elim0)
  dsimp only [fn, fn_part1, fn_part2] at h0
  obtain ⟨h0, r14⟩ := IntOp.andi_eq_one.mp h0
  obtain ⟨h0, r13⟩ := IntOp.andi_eq_one.mp h0
  obtain ⟨h0, r9⟩ := IntOp.andi_eq_one.mp h0
  obtain ⟨h0, r8⟩ := IntOp.andi_eq_one.mp h0
  obtain ⟨h0, r7⟩ := IntOp.andi_eq_one.mp h0
  obtain ⟨h0, r2⟩ := IntOp.andi_eq_one.mp h0
  obtain ⟨r0, r1⟩ := IntOp.andi_eq_one.mp h0
  have q0 : ∀ i, ∃ x : ℝ, A0 i = (x : EReal) := fun i => Cert.Vocab.real_of_cmp _ (Host.reduce_andi_all _ _ _ _ _ r0 i)
  have q1 : ∀ i, ∃ x : ℝ, A1 i = (x : EReal) := fun i => Cert.Vocab.real_of_cmp _ (Host.reduce_andi_all _ _ _ _ _ r1 i)
  have q2 : ∀ i, ∃ x : ℝ, A2 i = (x : EReal) := fun i => Cert.Vocab.real_of_cmp _ (Host.reduce_andi_all _ _ _ _ _ r2 i)
  have q7 : ∀ i, ∃ x : ℝ, A7 i = (x : EReal) := fun i => Cert.Vocab.real_of_cmp _ (Host.reduce_andi_all _ _ _ _ _ r7 i)
  have q8 : ∀ i, ∃ x : ℝ, A8 i = (x : EReal) := fun i => Cert.Vocab.real_of_cmp _ (Host.reduce_andi_all _ _ _ _ _ r8 i)
  have q9 : ∀ i, ∃ x : ℝ, A9 i = (x : EReal) := fun i => Cert.Vocab.real_of_cmp _ (Host.reduce_andi_all _ _ _ _ _ r9 i)
  have q13 : ∀ i, ∃ x : ℝ, A13 i = (x : EReal) := fun i => Cert.Vocab.real_of_cmp _ (Host.reduce_andi_all _ _ _ _ _ r13 i)
  have q14 : ∀ i, ∃ x : ℝ, A14 i = (x : EReal) := fun i => Cert.Vocab.real_of_cmp _ (Host.reduce_andi_all _ _ _ _ _ r14 i)
  exact ⟨fun _ _ => q0 _, fun _ _ => q1 _, fun _ => q2 _, fun _ _ => q7 _, fun _ => q8 _, fun _ _ => q9 _, fun _ _ => q13 _, fun _ _ => q14 _⟩

end Finite

section Ref
open Cert.Reference4Ideal Cert.Reference4Ideal.Gen Cert.Reference4Ideal.Value

theorem out14_ref {A0 : FVec Ideal S59x32x300 .f32} {A1 : FVec Ideal S60x32x512 .f32} {A2 A3 A4 : FVec Ideal S32x512 .f32} {A5 : FVec Ideal S512x1024 .f32} {A6 : FVec Ideal S512 .f32}
  {A7 : FVec Ideal S512x1324 .f32} {A8 : FVec Ideal S512 .f32} {A9 A10 : FVec Ideal S1536x512 .f32} {A11 A12 : FVec Ideal S1536 .f32} {A13 A14 : FVec Ideal S512x512 .f32} {A15 : FVec Ideal S512 .f32}
    {V : Valuation τ sig (Elt Ideal)} (h : Carried V A0 A1 A2 A3 A4 A5 A6 A7 A8 A9 A10 A11 A12 A13 A14 A15 59) : (out_main_v14 V : FVec Ideal S2x64x16x1024 .f32) = decodedRef A0 A1 A2 A3 A4 A5 A6 A7 A8 A9 A10 A11 A12 A13 A14 A15 := by
  funext i
  obtain ⟨s, u, b, j, rfl⟩ : ∃ (s : Fin 2) (u : Fin 64) (b : Fin 16) (j : Fin 1024), i = ix4 s u b j := ⟨i 0, i 1, i 2, i 3, by
    funext a; fin_cases a <;> rfl⟩
  refine (order_at _ s u b j).trans ?_
  show _ = refOutRow (sentOf A0 A1 A2 A3 A4 A5 A6 A7 A8 A9 A10 A11 A12 A13 A14 A15 (srow s b)) u.val j
  unfold refOutRow
  by_cases hu : u.val < 59
  · rw [dif_pos hu, if_pos hu]
    exact h.o ⟨u.val, hu⟩ (srow s b) j hu
  · rw [dif_neg hu, if_neg hu]

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = decodedRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (out14_ref (carried m c 59 (le_refl _))), (h c).2⟩)
    (Cert.Reference4Ideal.Value.run m ρ)

theorem ref_sem (s : MemSt nD τ sig (Elt Ideal)) : s.sem = fun _ => 0 := sem_eq_zero_of_no_sems (by decide) s

end Ref

end Cert.Dec

end
-- ==== Proof.Ref.lean ====
/-
  The reference's run with its counters, and the idealized kernel's run with its result as the reference's expression.
-/
module

public import proofs.«01_k».proof.Proof.Bridge
public import Idealize.ShloMosaic.Lib.Quiescent

@[expose] public section

set_option maxRecDepth 16384

noncomputable section

namespace Cert.Vocab

open Idealize.ShloMosaic Idealize.ShloMosaic.TcCoe Idealize.SL.Sem
open Cert.KernelIdeal.Vocab (dotRows row)

section
open Cert.ReferenceIdeal Cert.ReferenceIdeal.Gen

/-- The reference's result. -/
def softmax (X : FVec Ideal S2048x1024 .f32) (W : FVec Ideal S50000x1024 .f32) : FVec Ideal S32x59x50000 .f32 :=
  normed (shiftedExp (logits X W) (rowMax (logits X W)))

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = softmax (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

theorem ref_sem (s : MemSt nD τ sig (Elt Ideal)) : s.sem = fun _ => 0 := sem_eq_zero_of_no_sems (by decide) s
end

section
open Cert.KernelIdeal Cert.KernelIdeal.Gen Cert.KernelIdeal.Vocab

/-- What the two regions leave is the reference's result, at real arguments. -/
theorem left_eq (m : (ℓ : Loc nD τ sig) → Buf (Elt Ideal) ℓ) (c : Dev nD) (s : MemSt nD τ sig (Elt Ideal)) (h : Left m c s)
    (hX : ∀ i, ∃ x : ℝ, (m ((c.tc : Thread nD τ).loc main_arg0) : FVec Ideal S2048x1024 .f32) i = (x : EReal))
    (hW : ∀ i, ∃ x : ℝ, (m ((c.tc : Thread nD τ).loc main_arg1) : FVec Ideal S50000x1024 .f32) i = (x : EReal)) :
    s.mem ((c.tc : Thread nD τ).loc main_v1) = softmax (m ((c.tc : Thread nD τ).loc main_arg0)) (m ((c.tc : Thread nD τ).loc main_arg1)) := by
  obtain ⟨⟨f, hf, hg⟩, -, -⟩ := h
  have e0 : withSums (Vl m c) f main_arg0 = m ((c.tc : Thread nD τ).loc main_arg0) := Function.update_of_ne (by decide) _ _
  have e1 : withSums (Vl m c) f main_arg1 = m ((c.tc : Thread nD τ).loc main_arg1) := Function.update_of_ne (by decide) _ _
  have e2 : withSums (Vl m c) f main_v0 = f := Function.update_self _ _ _
  refine funext fun (i : S32x59x50000.Idx) => ?_
  obtain ⟨b, t, v, rfl⟩ : ∃ (b : Fin 32) (t : Fin 59) (v : Fin 50000), i = ix3 b t v := ⟨i 0, i 1, i 2, by funext a; fin_cases a <;> rfl⟩
  refine (out_at (withSums (Vl m c) f) c _ hg b t v).trans ?_
  unfold prob expo
  rw [e0, e1, e2, sums_at (Vl m c) c f hf]
  exact agree _ _ hX hW b t v

theorem kernel_run (m : (ℓ : Loc nD τ sig) → Buf (Elt Ideal) ℓ) (ρ : Dev nD → PrngReg)
    (hX : ∀ (c : Dev nD) i, ∃ x : ℝ, (m ((c.tc : Thread nD τ).loc main_arg0) : FVec Ideal S2048x1024 .f32) i = (x : EReal))
    (hW : ∀ (c : Dev nD) i, ∃ x : ℝ, (m ((c.tc : Thread nD τ).loc main_arg1) : FVec Ideal S50000x1024 .f32) i = (x : EReal)) :
    θ_run (defs (F := Ideal)) (onTc (τ := τ) (main (F := Ideal))) ⟨m, fun _ => 0, ρ⟩ fun r => ∀ c : Dev nD,
      r.2.mem ((c.tc : Thread nD τ).loc main_v1) = softmax (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨left_eq m c r.2 (h.1 c) (hX c) (hW c), (h.1 c).2⟩) (run_main m ρ)
end

end Cert.Vocab

end
-- ==== Proof.AVal.lean ====
/-
  What the attention kernel's array holds at the ideal values: at a sentence, a time step and a source position, the exponential
  of the score less the row's greatest score, times the reciprocal of the row's sum of those exponentials.
-/
module

public import proofs.«01_k».proof.Proof.Gen.Kernel2Ideal.Value
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Attn

open Idealize.ShloMosaic Idealize.ShloMosaic.TcCoe

/-- The score of a hidden state against a key, through the attention matrix. -/
def score (h : Fin 512 → EReal) (W : (⟨2, ![512, 512]⟩ : Shape).Idx → EReal) (k : Fin 512 → EReal) : EReal :=
  ∑ e : Fin 512, (∑ d : Fin 512, h d * W (ix2 d e)) * k e

/-- The greatest of a row of scores. -/
def top (sc : Fin 60 → EReal) : EReal := Finset.univ.fold (max : EReal → EReal → EReal) ⊥ sc

/-- A weight as the kernel computes it. -/
def weight (sc : Fin 60 → EReal) (s : Fin 60) : EReal :=
  Ideal.exp (sc s - top sc) * Ideal.div 1 (∑ w : Fin 60, Ideal.exp (sc w - top sc))

theorem negInf : Ideal.ofBits .f32 0xFF800000#32 = ⊥ := by simp [Ideal.ofBits, Ideal.ieee]

open Cert.Kernel2Ideal Cert.Kernel2Ideal.Gen

/-- One sentence's weights, at a time step and a source position. -/
theorem pay_at (W : Vec Ideal S512x512 .f32) (x : Vec Ideal S1x64x1024 .f32) (k : Vec Ideal S60x1x1x512 .f32) (t : Fin 59) (s : Fin 60) :
    k0_pay2 W x k (ix3 0 t s)
      = weight (fun w => score (fun d => x (ix3 0 ⟨t.val, by omega⟩ ⟨d.val, by omega⟩)) W (fun e => k (ix4 w 0 0 e))) s := by
  unfold weight top score
  pointwise [k0_pay2]
  simp only [negInf]

/-- A block of sixteen sentences' weights, from the block of decoder rows, the block of keys and the attention matrix. -/
def block (X : Vec Ideal S16x64x1024 .f32) (K : Vec Ideal S60x16x1x512 .f32) (W : Vec Ideal S512x512 .f32) : Vec Ideal S16x59x60 .f32 := fun i =>
  weight (fun w => score (fun d => X (ix3 (i 0) ⟨(i 1).val, (i 1).isLt.trans (by decide)⟩ ⟨d.val, by omega⟩)) W (fun e => K (ix4 w (i 0) 0 e))) (i 2)

/-- What is stored for sentence `b` of a block is the block's part for it. -/
theorem piece_at (X : Vec Ideal S16x64x1024 .f32) (K : Vec Ideal S60x16x1x512 .f32) (W : Vec Ideal S512x512 .f32) (b : ℕ) (hb : b < 16)
    (h0 : ∀ a, (![0, 0] : Fin 2 → ℕ) a + S512x512.size a ≤ S512x512.size a)
    (h1 : ∀ a, (![b, 0, 0] : Fin 3 → ℕ) a + S1x64x1024.size a ≤ S16x64x1024.size a)
    (h2 : ∀ a, (![0, b, 0, 0] : Fin 4 → ℕ) a + S60x1x1x512.size a ≤ S60x16x1x512.size a)
    (h3 : ∀ a, (![b, 0, 0] : Fin 3 → ℕ) a + S1x59x60.size a ≤ S16x59x60.size a) (x : S1x59x60.Idx) :
    k0_pay2 (View.ld W (Rect.unit (s := S512x512) ![0, 0] S512x512.size h0)) (View.ld X (Rect.unit (s := S16x64x1024) ![b, 0, 0] S1x64x1024.size h1))
        (View.ld K (Rect.unit (s := S60x16x1x512) ![0, b, 0, 0] S60x1x1x512.size h2)) x
      = block X K W ((Rect.unit (s := S16x59x60) ![b, 0, 0] S1x59x60.size h3).emb x) := by
  obtain ⟨t, s, rfl⟩ : ∃ (t : Fin 59) (s : Fin 60), x = ix3 0 t s := ⟨x 1, x 2, by
    funext a; fin_cases a
    · exact Subsingleton.elim (α := Fin 1) _ _
    · rfl
    · rfl⟩
  rw [pay_at]
  have e : (Rect.unit (s := S16x59x60) ![b, 0, 0] S1x59x60.size h3).emb (ix3 0 t s) = ix3 (⟨b, hb⟩ : Fin 16) t s := by
    funext a; apply Fin.ext; refine (Rect.idx_unit_val ..).trans ?_; fin_cases a <;> simp
  rw [e]
  unfold block
  congr 1
  funext w
  unfold score
  refine Finset.sum_congr rfl fun e _ => ?_
  congr 1
  · refine Finset.sum_congr rfl fun d _ => ?_
    congr 1
    · refine View.ld_unit_apply_of _ _ _ _ _ _ fun a => ?_
      fin_cases a <;> simp
    · refine View.ld_unit_apply_of _ _ _ _ _ _ fun a => ?_
      fin_cases a <;> simp
  · refine View.ld_unit_apply_of _ _ _ _ _ _ fun a => ?_
    fin_cases a <;> simp

/-- What the body leaves in the result's buffer. -/
theorem out_eq (X : Vec Ideal S16x64x1024 .f32) (K : Vec Ideal S60x16x1x512 .f32) (W : Vec Ideal S512x512 .f32) : out0_3 X K W = block X K W := by
  funext y
  unfold out0_3
  refine View.canon_apply_of_pieces (block X K W) _ (View.PiecesOf.mem ?_) y (cover0_3 _ _ _ _ _ _ _ _ _ _ _ _ _ _ _ _ y)
  refine ⟨?_, ?_, ?_, ?_, ?_, ?_, ?_, ?_, ?_, ?_, ?_, ?_, ?_, ?_, ?_, ?_, trivial⟩
  · exact piece_at X K W 15 (by decide) _ _ _ inb_S16x59x60_S1x59x60_15_0_0
  · exact piece_at X K W 14 (by decide) _ _ _ inb_S16x59x60_S1x59x60_14_0_0
  · exact piece_at X K W 13 (by decide) _ _ _ inb_S16x59x60_S1x59x60_13_0_0
  · exact piece_at X K W 12 (by decide) _ _ _ inb_S16x59x60_S1x59x60_12_0_0
  · exact piece_at X K W 11 (by decide) _ _ _ inb_S16x59x60_S1x59x60_11_0_0
  · exact piece_at X K W 10 (by decide) _ _ _ inb_S16x59x60_S1x59x60_10_0_0
  · exact piece_at X K W 9 (by decide) _ _ _ inb_S16x59x60_S1x59x60_9_0_0
  · exact piece_at X K W 8 (by decide) _ _ _ inb_S16x59x60_S1x59x60_8_0_0
  · exact piece_at X K W 7 (by decide) _ _ _ inb_S16x59x60_S1x59x60_7_0_0
  · exact piece_at X K W 6 (by decide) _ _ _ inb_S16x59x60_S1x59x60_6_0_0
  · exact piece_at X K W 5 (by decide) _ _ _ inb_S16x59x60_S1x59x60_5_0_0
  · exact piece_at X K W 4 (by decide) _ _ _ inb_S16x59x60_S1x59x60_4_0_0
  · exact piece_at X K W 3 (by decide) _ _ _ inb_S16x59x60_S1x59x60_3_0_0
  · exact piece_at X K W 2 (by decide) _ _ _ inb_S16x59x60_S1x59x60_2_0_0
  · exact piece_at X K W 1 (by decide) _ _ _ inb_S16x59x60_S1x59x60_1_0_0
  · exact piece_at X K W 0 (by decide) _ _ _ inb_S16x59x60_S1x59x60_0_0_0

variable (m : (ℓ : Loc nD τ sig) → Buf (Elt Ideal) ℓ)

theorem index0 : ∀ t : Fin cfg0.N, win0_0.index t 0 = t.val ∧ win0_0.index t 1 = 0 ∧ win0_0.index t 2 = 0 := by decide +kernel
theorem index1 : ∀ t : Fin cfg0.N, win0_1.index t 0 = 0 ∧ win0_1.index t 1 = t.val ∧ win0_1.index t 2 = 0 ∧ win0_1.index t 3 = 0 := by decide +kernel
theorem index2 : ∀ t : Fin cfg0.N, win0_2.index t 0 = 0 ∧ win0_2.index t 1 = 0 := by decide +kernel
theorem index3 : ∀ t : Fin cfg0.N, win0_3.index t 0 = t.val ∧ win0_3.index t 1 = 0 ∧ win0_3.index t 2 = 0 := by decide +kernel

theorem rows_at (c : Dev nD) (t : Fin cfg0.N) (b : Fin 16) (u : Fin 64) (d : Fin 1024) (h : 16 * t.val + b.val < 32) :
    (iblk m c 0 t : Vec Ideal S16x64x1024 .f32) (ix3 b u d) = (m ((c : Thread nD τ).loc main_arg0) : Vec Ideal S32x64x1024 .f32) (ix3 ⟨16 * t.val + b.val, h⟩ u d) := by
  blk_ext [iblk, V, (index0 t).1, (index0 t).2.1, (index0 t).2.2]

theorem keys_at (c : Dev nD) (t : Fin cfg0.N) (w : Fin 60) (b : Fin 16) (e : Fin 512) (h : 16 * t.val + b.val < 32) :
    (iblk m c 1 t : Vec Ideal S60x16x1x512 .f32) (ix4 w b 0 e) = (m ((c : Thread nD τ).loc main_arg1) : Vec Ideal S60x32x512 .f32) (ix3 w ⟨16 * t.val + b.val, h⟩ e) := by
  have e1 : (V m c main_v0 : Vec Ideal S60x32x1x512 .f32) = shapeCast _ (m ((c : Thread nD τ).loc main_arg1) : Vec Ideal S60x32x512 .f32) shapeCasts_S60x32x512_S60x32x1x512 := by
    entry_read
    rfl
  have e2 : (iblk m c 1 t : Vec Ideal S60x16x1x512 .f32) (ix4 w b 0 e) = (V m c main_v0 : Vec Ideal S60x32x1x512 .f32) (ix4 w ⟨16 * t.val + b.val, h⟩ 0 e) := by
    unfold iblk
    blk_ext [(index1 t).1, (index1 t).2.1, (index1 t).2.2.1, (index1 t).2.2.2]
  rw [e2, e1]
  pointwise

theorem matrix_at (c : Dev nD) (t : Fin cfg0.N) (d e : Fin 512) :
    (iblk m c 2 t : Vec Ideal S512x512 .f32) (ix2 d e) = (m ((c : Thread nD τ).loc main_arg2) : Vec Ideal S512x512 .f32) (ix2 d e) := by
  blk_ext [iblk, V, (index2 t).1, (index2 t).2]

/-- A sentence's row of scores at a time step. -/
def scores (X : (⟨3, ![32, 64, 1024]⟩ : Shape).Idx → EReal) (K : (⟨3, ![60, 32, 512]⟩ : Shape).Idx → EReal) (W : (⟨2, ![512, 512]⟩ : Shape).Idx → EReal)
    (b : Fin 32) (t : Fin 59) (w : Fin 60) : EReal :=
  score (fun d => X (ix3 b ⟨t.val, by omega⟩ ⟨d.val, by omega⟩)) W (fun e => K (ix3 w b e))

theorem block_at (c : Dev nD) (t : Fin cfg0.N) (b : Fin 16) (u : Fin 59) (s : Fin 60) (h : 16 * t.val + b.val < 32) :
    block (iblk m c 0 t) (iblk m c 1 t) (iblk m c 2 t) (ix3 b u s)
      = weight (scores (m ((c : Thread nD τ).loc main_arg0)) (m ((c : Thread nD τ).loc main_arg1)) (m ((c : Thread nD τ).loc main_arg2)) ⟨16 * t.val + b.val, h⟩ u) s := by
  unfold block
  congr 1
  funext w
  unfold scores score
  refine Finset.sum_congr rfl fun e _ => ?_
  refine congrArg₂ _ (Finset.sum_congr rfl fun d _ => congrArg₂ _ ?_ ?_) ?_
  · exact rows_at m c t b _ _ h
  · exact matrix_at m c t d e
  · exact keys_at m c t w b e h

theorem out_at (c : Dev nD) (b : Fin 32) (t : Fin 59) (s : Fin 60) :
    ((dats m 0 c).arrAt 3 cfg0.N : Vec Ideal S32x59x60 .f32) (ix3 b t s)
      = weight (scores (m ((c : Thread nD τ).loc main_arg0)) (m ((c : Thread nD τ).loc main_arg1)) (m ((c : Thread nD τ).loc main_arg2)) b t) s := by
  refine (dats m 0 c).arrAt_forall_of_covers 3 (fun (i : S32x59x60.Idx) (x : EReal) =>
    x = weight (scores (m ((c : Thread nD τ).loc main_arg0)) (m ((c : Thread nD τ).loc main_arg1)) (m ((c : Thread nD τ).loc main_arg2)) (i 0) (i 1)) (i 2))
    (by decide +kernel) (fun t hf y => ?_) (ix3 b t s)
  have ht : t.val < 2 := t.isLt
  have b0 : (y 0).val < 16 := (y 0).isLt
  have b1 : (y 1).val < 59 := (y 1).isLt
  have b2 : (y 2).val < 60 := (y 2).isLt
  have e := block_at m c t ⟨(y 0).val, b0⟩ ⟨(y 1).val, b1⟩ ⟨(y 2).val, b2⟩ (by show 16 * t.val + (y 0).val < 32; omega)
  have hx : (cfg0.win 3).xinj (cfg0.grid.coords t) y = ix3 (⟨(y 0).val, b0⟩ : Fin 16) (⟨(y 1).val, b1⟩ : Fin 59) (⟨(y 2).val, b2⟩ : Fin 60) := by
    funext a; fin_cases a <;> rfl
  have ho : (dats m 0 c).after 3 t = block (iblk m c 0 t) (iblk m c 1 t) (iblk m c 2 t) := (after0_3 m c t).trans (out_eq ..)
  refine Eq.trans (b := block (iblk m c 0 t) (iblk m c 1 t) (iblk m c 2 t) (ix3 ⟨(y 0).val, b0⟩ ⟨(y 1).val, b1⟩ ⟨(y 2).val, b2⟩)) ?_ (e.trans ?_)
  · exact (congrFun ho _).trans (congrArg _ hx)
  · congr 1
    · congr 1
      · apply Fin.ext; show 16 * t.val + (y 0).val = _; blk_simp [(index3 t).1]; omega
      · apply Fin.ext; blk_simp [(index3 t).2.1]
    · apply Fin.ext; blk_simp [(index3 t).2.2]

end Cert.Attn

end
-- ==== Proof.ARef.lean ====
/-
  The attention reference's expression at an index, and the two programs' weights equal at arguments whose entries are real numbers.
-/
module

public import proofs.«01_k».proof.Proof.AVal
public import proofs.«01_k».proof.Proof.Bridge
public import proofs.«01_k».proof.Proof.Gen.Reference2Ideal.Run
public import proofs.«01_k».proof.Proof.Gen.Pre_finite2
public import Idealize.ShloMosaic.Lib.ReduceAll
public import Idealize.ShloMosaic.Lib.Quiescent

@[expose] public section

set_option maxRecDepth 16384

noncomputable section

namespace Cert.Attn

open Idealize.ShloMosaic Idealize.ShloMosaic.TcCoe Idealize.SL.Sem

section
open Cert.Reference2Ideal Cert.Reference2Ideal.Gen

/-- The reference's scores. -/
def refScores (X : FVec Ideal S32x64x1024 .f32) (K : FVec Ideal S60x32x512 .f32) (W : FVec Ideal S512x512 .f32) : FVec Ideal S32x59x60 .f32 :=
  Host.dotGeneral dot_S32x59x512_S32x60x512_S32x59x60_2_2_1_1_0_0 none (Host.dotGeneral dot_S32x59x512_S512x512_S32x59x512_2_0_01_1_n_n none (extractStridedSlice S32x59x512 ![0, 0, 0] X slices_S32x64x1024_S32x59x512_0_0_0) W) (transpose S32x60x512 [1, 0, 2] K transposes_S60x32x512_S32x60x512_1_0_2)

/-- Each row's greatest score. -/
def refTop (L : FVec Ideal S32x59x60 .f32) : FVec Ideal S32x59 .f32 :=
  maximumf (broadcastInDim S32x59 ![] bcast_S_S32x59 (constant S_ .f32 0xFF800000#32)) (Host.reduce FloatOps.maximumf L (constant S_ .f32 0xFF800000#32) reducesTo_S32x59x60_S32x59_d2 h_S_)

/-- The scores less a number for their row, to the exponential. -/
def refExp (L : FVec Ideal S32x59x60 .f32) (M : FVec Ideal S32x59 .f32) : FVec Ideal S32x59x60 .f32 :=
  Host.exp (subf L (broadcastInDim S32x59x60 ![0, 1, 2] bcast_S32x59x1_S32x59x60_0_1_2 (broadcastInDim S32x59x1 ![0, 1] bcast_S32x59_S32x59x1_0_1 M)))

/-- Each over its row's sum. -/
def refNormed (E : FVec Ideal S32x59x60 .f32) : FVec Ideal S32x59x60 .f32 :=
  Host.divf E (broadcastInDim S32x59x60 ![0, 1, 2] bcast_S32x59x1_S32x59x60_0_1_2 (broadcastInDim S32x59x1 ![0, 1] bcast_S32x59_S32x59x1_0_1 (Host.reduceAdd E (constant S_ .f32 0x00000000#32) reducesTo_S32x59x60_S32x59_d2 h_S_)))

/-- The reference's result. -/
def attention (X : FVec Ideal S32x64x1024 .f32) (K : FVec Ideal S60x32x512 .f32) (W : FVec Ideal S512x512 .f32) : FVec Ideal S32x59x60 .f32 :=
  refNormed (refExp (refScores X K W) (refTop (refScores X K W)))

theorem refScores_at (X : FVec Ideal S32x64x1024 .f32) (K : FVec Ideal S60x32x512 .f32) (W : FVec Ideal S512x512 .f32) (b : Fin 32) (t : Fin 59) (s : Fin 60) :
    refScores X K W (ix3 b t s) = scores X K W b t s := by
  unfold scores score
  pointwise [refScores]

theorem refTop_at (L : FVec Ideal S32x59x60 .f32) (b : Fin 32) (t : Fin 59) : refTop L (ix2 b t) = top fun s => L (ix3 b t s) := by
  have hA : broadcastInDim S32x59 ![] bcast_S_S32x59 (constant (F := Ideal) S_ .f32 0xFF800000#32) (ix2 b t) = (⊥ : EReal) := negInf
  have hI : constant (F := Ideal) S_ .f32 0xFF800000#32 (Shape.Idx.first h_S_) = (⊥ : EReal) := negInf
  unfold refTop
  rw [Cert.Vocab.maximumf_at, hA, Cert.Vocab.reduceMax_at, hI]
  exact Cert.Vocab.bot_max _

theorem refExp_at (L : FVec Ideal S32x59x60 .f32) (M : FVec Ideal S32x59 .f32) (b : Fin 32) (t : Fin 59) (s : Fin 60) :
    refExp L M (ix3 b t s) = Ideal.exp (L (ix3 b t s) - M (ix2 b t)) := by
  pointwise [refExp]

theorem refNormed_at (E : FVec Ideal S32x59x60 .f32) (b : Fin 32) (t : Fin 59) (s : Fin 60) :
    refNormed E (ix3 b t s) = Ideal.div (E (ix3 b t s)) (∑ w : Fin 60, E (ix3 b t w)) := by
  pointwise [refNormed]

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference2Ideal.Value.run m ρ

theorem ref_sem (s : MemSt nD τ sig (Elt Ideal)) : s.sem = fun _ => 0 := sem_eq_zero_of_no_sems (by decide) s
end

open Cert.Pre_finite2 in
theorem finite_args (X : FVec Ideal S32x64x1024 .f32) (K : FVec Ideal S60x32x512 .f32) (W : FVec Ideal S512x512 .f32)
    (h : Cert.Pre_finite2.fn (F := Ideal) X K W = fun _ => 1#1) :
    (∀ i, ∃ x : ℝ, X i = (x : EReal)) ∧ (∀ i, ∃ x : ℝ, K i = (x : EReal)) ∧ (∀ i, ∃ x : ℝ, W i = (x : EReal)) := by
  have h0 := congrFun h (fun a => a.elim0)
  dsimp only [fn] at h0
  obtain ⟨h1, h2⟩ := IntOp.andi_eq_one.mp h0
  obtain ⟨h3, h4⟩ := IntOp.andi_eq_one.mp h1
  exact ⟨fun i => Cert.Vocab.real_of_cmp _ (Host.reduce_andi_all _ _ _ _ _ h3 i), fun i => Cert.Vocab.real_of_cmp _ (Host.reduce_andi_all _ _ _ _ _ h4 i),
    fun i => Cert.Vocab.real_of_cmp _ (Host.reduce_andi_all _ _ _ _ _ h2 i)⟩

/-- A product with the reciprocal of a number that is not zero is the quotient. -/
theorem mul_recip (x s : EReal) (h : s ≠ 0) : x * Ideal.div 1 s = Ideal.div x s := by
  unfold Ideal.div
  rw [if_neg h, if_neg h, one_mul]

/-- At real scores the kernel's weight is the softmax. -/
theorem weight_real (sc : Fin 60 → EReal) (h : ∀ s, ∃ x : ℝ, sc s = (x : EReal)) (s : Fin 60) :
    weight sc s = Ideal.div (Ideal.exp (sc s - top sc)) (∑ w : Fin 60, Ideal.exp (sc w - top sc)) := by
  choose l hl using h
  have h1 : top sc < ⊤ := (Finset.fold_max_lt _).mpr ⟨bot_lt_top, fun w _ => hl w ▸ EReal.coe_lt_top _⟩
  have h2 : ⊥ < top sc := (Finset.lt_fold_max _).mpr (Or.inr ⟨s, Finset.mem_univ _, hl s ▸ EReal.bot_lt_coe _⟩)
  have hx : top sc = (((top sc).toReal : ℝ) : EReal) := (EReal.coe_toReal h1.ne h2.ne').symm
  have hsub : ∀ w, Ideal.exp (sc w - top sc) = ((Real.exp (l w - (top sc).toReal) : ℝ) : EReal) := fun w => by
    rw [hl w, hx, ← EReal.coe_sub, EReal.toReal_coe]; rfl
  refine mul_recip _ _ ?_
  simp only [hsub]
  rw [Cert.Vocab.coe_sum]
  have p : 0 < ∑ w : Fin 60, Real.exp (l w - (top sc).toReal) := Finset.sum_pos (fun w _ => Real.exp_pos _) ⟨s, Finset.mem_univ _⟩
  exact_mod_cast p.ne'

/-- The scores of real arguments are real. -/
theorem scores_real (X : (⟨3, ![32, 64, 1024]⟩ : Shape).Idx → EReal) (K : (⟨3, ![60, 32, 512]⟩ : Shape).Idx → EReal) (W : (⟨2, ![512, 512]⟩ : Shape).Idx → EReal)
    (hX : ∀ i, ∃ x : ℝ, X i = (x : EReal)) (hK : ∀ i, ∃ x : ℝ, K i = (x : EReal)) (hW : ∀ i, ∃ x : ℝ, W i = (x : EReal)) (b : Fin 32) (t : Fin 59) (s : Fin 60) :
    ∃ y : ℝ, scores X K W b t s = (y : EReal) := by
  choose x hx using hX
  choose k hk using hK
  choose w hw using hW
  unfold scores score
  simp only [hx, hk, hw, ← EReal.coe_mul, Cert.Vocab.coe_sum]
  exact ⟨_, rfl⟩

/-- The weights as the kernel computes them are the reference's. -/
theorem agree (X : FVec Ideal Cert.Reference2Ideal.S32x64x1024 .f32) (K : FVec Ideal Cert.Reference2Ideal.S60x32x512 .f32) (W : FVec Ideal Cert.Reference2Ideal.S512x512 .f32)
    (hX : ∀ i, ∃ x : ℝ, X i = (x : EReal)) (hK : ∀ i, ∃ x : ℝ, K i = (x : EReal)) (hW : ∀ i, ∃ x : ℝ, W i = (x : EReal)) (b : Fin 32) (t : Fin 59) (s : Fin 60) :
    weight (scores X K W b t) s = attention X K W (ix3 b t s) := by
  unfold attention
  rw [weight_real _ (scores_real X K W hX hK hW b t), refNormed_at]
  simp only [refExp_at, refTop_at, refScores_at]

section
open Cert.Kernel2Ideal Cert.Kernel2Ideal.Gen

theorem kernel_run (m : (ℓ : Loc nD τ sig) → Buf (Elt Ideal) ℓ) (ρ : Dev nD → PrngReg)
    (hX : ∀ (c : Dev nD) i, ∃ x : ℝ, (m ((c.tc : Thread nD τ).loc main_arg0) : FVec Ideal S32x64x1024 .f32) i = (x : EReal))
    (hK : ∀ (c : Dev nD) i, ∃ x : ℝ, (m ((c.tc : Thread nD τ).loc main_arg1) : FVec Ideal S60x32x512 .f32) i = (x : EReal))
    (hW : ∀ (c : Dev nD) i, ∃ x : ℝ, (m ((c.tc : Thread nD τ).loc main_arg2) : FVec Ideal S512x512 .f32) i = (x : EReal)) :
    θ_run (defs (F := Ideal)) (onTc (τ := τ) (main (F := Ideal))) ⟨m, fun _ => 0, ρ⟩ fun r => ∀ c : Dev nD,
      r.2.mem ((c.tc : Thread nD τ).loc main_v1) = attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by
    refine funext fun (i : S32x59x60.Idx) => ?_
    obtain ⟨b, t, s, rfl⟩ : ∃ (b : Fin 32) (t : Fin 59) (s : Fin 60), i = ix3 b t s := ⟨i 0, i 1, i 2, by funext a; fin_cases a <;> rfl⟩
    exact (out_at m c b t s).trans (agree _ _ _ (hX c) (hK c) (hW c) b t s)), (h c).2⟩) (Cert.Kernel2Ideal.Value.run_blocks m ρ)
end

end Cert.Attn

end
-- ==== Proof.lean ====
module

public import proofs.«01_k».proof.Proof.ERun
public import proofs.«01_k».proof.Proof.DRun
public import proofs.«01_k».proof.Proof.Gen.Kernel4Ideal.Value
public import proofs.«01_k».proof.Proof.Gen.Reference4Ideal.Run
public import proofs.«01_k».proof.Proof.Gen.Kernel4.Frame
public import proofs.«01_k».proof.Proof.Gen.Pre_finite4
public import proofs.«01_k».proof.Proof.Gen.Kernel3Ideal.Value
public import proofs.«01_k».proof.Proof.Gen.Reference3Ideal.Run
public import proofs.«01_k».proof.Proof.Gen.Kernel3.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Ref
public import proofs.«01_k».proof.Proof.KRun
public import proofs.«01_k».proof.Proof.KIRun
public import proofs.«01_k».proof.Proof.ARef
public import proofs.«01_k».proof.Proof.Gen.Pre_finite2
public import proofs.«01_k».proof.Proof.Gen.Kernel2Ideal.Value
public import proofs.«01_k».proof.Proof.Gen.Reference2Ideal.Run
public import proofs.«01_k».proof.Proof.Gen.Kernel2.Frame
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_finite.Gen.facts
  Cert.Kernel2.Gen.facts Cert.Kernel2Ideal.Gen.facts Cert.Reference2Ideal.Gen.facts Cert.Pre_finite2.Gen.facts
  Cert.Kernel3.Gen.facts Cert.Kernel3Ideal.Gen.facts Cert.Reference3Ideal.Gen.facts
  Cert.Kernel4.Gen.facts Cert.Kernel4Ideal.Gen.facts Cert.Reference4Ideal.Gen.facts Cert.Pre_finite4.Gen.facts

theorem frame_kernel : Cert.quiescent_Kernel := fun m g _ =>
  (θ_run _ _ _).mono (fun _ h => ⟨fun c => (h.1 c).2, h.2⟩) (Cert.Kernel.Vocab.run_main m g)

theorem frame_kernelIdeal : Cert.quiescent_KernelIdeal := fun m g _ =>
  (θ_run _ _ _).mono (fun _ h => ⟨fun c => (h.1 c).2, h.2⟩) (Cert.KernelIdeal.Vocab.run_main m g)

theorem frame_reference : Cert.quiescent_ReferenceIdeal := fun m g _ =>
  (θ_run _ _ _).mono (fun r h => ⟨fun c => (h c).2, Cert.Vocab.ref_sem r.2⟩) (Cert.Vocab.ref_run m g)

/-- Both programs end with the softmax of the logits, from real arguments. -/
theorem same_result : Cert.algebraic_KernelIdeal_ReferenceIdeal_pre_finite := fun m g m' g' hpre hagree =>
  ⟨fun c => Cert.Vocab.softmax (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Vocab.kernel_run m g (fun c => (Cert.Vocab.finite_args _ _ (hpre c)).1) (fun c => (Cert.Vocab.finite_args _ _ (hpre c)).2),
    (θ_run _ _ _).mono (fun _ h c => ⟨(h c).1.trans (congrArg₂ Cert.Vocab.softmax (hagree c).1 (hagree c).2), (h c).2⟩) (Cert.Vocab.ref_run m' g')⟩

theorem frame_reference2 : Cert.quiescent_Reference2Ideal := fun m g _ =>
  (θ_run _ _ _).mono (fun r h => ⟨fun c => (h c).2, Cert.Attn.ref_sem r.2⟩) (Cert.Attn.ref_run m g)

/-- Both attention programs end with the softmax of the scores, from real arguments. -/
theorem same_weights : Cert.algebraic_Kernel2Ideal_Reference2Ideal_pre_finite2 := fun m g m' g' hpre hagree =>
  ⟨fun c => Cert.Attn.attention (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)),
    Cert.Attn.kernel_run m g (fun c => (Cert.Attn.finite_args _ _ _ (hpre c)).1) (fun c => (Cert.Attn.finite_args _ _ _ (hpre c)).2.1)
      (fun c => (Cert.Attn.finite_args _ _ _ (hpre c)).2.2),
    (θ_run _ _ _).mono (fun _ h c => ⟨(h c).1.trans (by rw [(hagree c).1, (hagree c).2.1, (hagree c).2.2]), (h c).2⟩) (Cert.Attn.ref_run m' g')⟩

theorem frame_reference3 : Cert.quiescent_Reference3Ideal := fun m g _ =>
  (θ_run _ _ _).mono (fun r h => ⟨fun c => (h c).2.2, Cert.Enc.ref_sem r.2⟩) (Cert.Enc.ref_run m g)

/-- Both encoder programs end with the recurrence's states, from any arguments. -/
theorem same_states : Cert.algebraic_Kernel3Ideal_Reference3Ideal := fun m g m' g' _ hagree =>
  ⟨fun c => Cert.Enc.allStates (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)),
    fun c => Cert.Enc.lastStates (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)),
    Cert.Enc.kernel_run m g,
    (θ_run _ _ _).mono (fun _ h c => by
      obtain ⟨e0, e1, e2, e3, e4, e5, e6, e7, e8, e9⟩ := hagree c
      exact ⟨(h c).1.trans (by rw [e0, e1, e2, e3, e4, e5, e6, e7, e8, e9]), (h c).2.1.trans (by rw [e0, e1, e2, e3, e4, e5, e6, e7, e8, e9]), (h c).2.2⟩)
      (Cert.Enc.ref_run m' g')⟩

theorem frame_reference4 : Cert.quiescent_Reference4Ideal := fun m g _ =>
  (θ_run _ _ _).mono (fun r h => ⟨fun c => (h c).2, Cert.Dec.ref_sem r.2⟩) (Cert.Dec.ref_run m g)

/-- Both decoder programs end with the recurrence's states and attentions, from real embeddings, keys and weights. -/
theorem same_outputs : Cert.algebraic_Kernel4Ideal_Reference4Ideal_pre_finite4 := fun m g m' g' hpre hagree =>
  ⟨fun c => Cert.Dec.decoded (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)),
    Cert.Dec.kernel_run m g,
    (θ_run _ _ _).mono (fun _ h c => by
      obtain ⟨e0, e1, e2, e3, e4, e5, e6, e7, e8, e9, e10, e11, e12, e13, e14, e15⟩ := hagree c
      refine ⟨(h c).1.trans ?_, (h c).2⟩
      rw [e0, e1, e2, e3, e4, e5, e6, e7, e8, e9, e10, e11, e12, e13, e14, e15]
      exact (Cert.Dec.decoded_eq _ _ _ _ _ _ _ _ _ _ _ _ _ _ _ _ (Cert.Dec.finite_args _ _ _ _ _ _ _ _ _ _ _ _ _ _ _ _ (hpre c))).symm)
      (Cert.Dec.ref_run m' g')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Pre_finite.Gen.facts, Cert.Pre_finite2.Gen.facts, Cert.Pre_finite4.Gen.facts,
    frame_kernel, frame_kernelIdeal, fun m g _ => frame_kernelIdeal m g trivial, frame_reference,
    fun m g _ => frame_reference m g trivial,
    fun m g _ => Cert.Kernel2.Gen.frame m g, fun m g _ => Cert.Kernel2Ideal.Gen.frame m g, fun m g _ => Cert.Kernel2Ideal.Gen.frame m g,
    frame_reference2, fun m g _ => frame_reference2 m g trivial,
    fun m g _ => Cert.Kernel3.Gen.frame m g, fun m g _ => Cert.Kernel3Ideal.Gen.frame m g, frame_reference3,
    fun m g _ => Cert.Kernel4.Gen.frame m g, fun m g _ => Cert.Kernel4Ideal.Gen.frame m g, fun m g _ => Cert.Kernel4Ideal.Gen.frame m g,
    frame_reference4, fun m g _ => frame_reference4 m g trivial,
    trivial, same_result, trivial, same_weights, trivial, same_states, trivial, same_outputs⟩

end Cert.Proof

end
